-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_in_table : Cert.Pre_rows_in_table.Facts] (m : (ℓ : Loc Cert.Reference.nD Cert.Reference.τ Cert.Reference.sig) → Buf (Elt Bits) ℓ) : Prop :=
  ∀ c : Dev Cert.Reference.nD,
    (Cert.Pre_rows_in_table.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_tiles_in_table : Cert.Pre_tiles_in_table.Facts] (m : (ℓ : Loc Cert.Kernel2.nD Cert.Kernel2.τ Cert.Kernel2.sig) → Buf (Elt Bits) ℓ) : Prop :=
  ∀ c : Dev Cert.Kernel2.nD,
    (Cert.Pre_tiles_in_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_in_table : Cert.Pre_tiles_in_table.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_table [hPre_tiles_in_table : Cert.Pre_tiles_in_table.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_in_table : Cert.Pre_rows_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_tiles_in_table : Cert.Pre_tiles_in_table.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_in_table : Cert.Pre_tiles_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_in_table [hReference2Ideal : Cert.Reference2Ideal.Facts] [hPre_tiles_in_table : Cert.Pre_tiles_in_table.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_table m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal_on_active_rows [hKernel2Ideal : Cert.Kernel2Ideal.Facts] [hReference2Ideal : Cert.Reference2Ideal.Facts] [hPre_tiles_in_table : Cert.Pre_tiles_in_table.Facts] [hOn_active_rows : Cert.On_active_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![38912, 2048]⟩ : Shape).Idx, (Cert.On_active_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![38912, 2048]⟩ : Shape).Idx, (Cert.On_active_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v30) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_in_table : Cert.Pre_rows_in_table.Facts) (hPre_tiles_in_table : Cert.Pre_tiles_in_table.Facts) (hOn_active_rows : Cert.On_active_rows.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ quiescent_Reference (hReference := hReference) (hPre_rows_in_table := hPre_rows_in_table)
    ∧ quiescent_Kernel2 (hKernel2 := hKernel2) (hPre_tiles_in_table := hPre_tiles_in_table)
    ∧ quiescent_Kernel2Ideal (hKernel2Ideal := hKernel2Ideal) (hPre_tiles_in_table := hPre_tiles_in_table)
    ∧ quiescent_Reference2Ideal (hReference2Ideal := hReference2Ideal)
    ∧ quiescent_Reference2Ideal_pre_tiles_in_table (hReference2Ideal := hReference2Ideal) (hPre_tiles_in_table := hPre_tiles_in_table)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_rows_in_table := hPre_rows_in_table)
    ∧ bitexact_Kernel_Reference (hKernel := hKernel) (hReference := hReference) (hPre_rows_in_table := hPre_rows_in_table)
    ∧ preserves_Kernel2_Kernel2Ideal
    ∧ algebraic_Kernel2Ideal_Reference2Ideal_on_active_rows (hKernel2Ideal := hKernel2Ideal) (hReference2Ideal := hReference2Ideal) (hPre_tiles_in_table := hPre_tiles_in_table) (hOn_active_rows := hOn_active_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_active_rows.lean ====
abbrev S76 : Shape := ⟨1, ![76]⟩
abbrev S1 : Shape := ⟨1, ![1]⟩
abbrev S38912x1024 : Shape := ⟨2, ![38912, 1024]⟩
abbrev S8x1024x5632 : Shape := ⟨3, ![8, 1024, 5632]⟩
abbrev S8x2816x2048 : Shape := ⟨3, ![8, 2816, 2048]⟩
abbrev S38912x2048 : Shape := ⟨2, ![38912, 2048]⟩
abbrev S_ : Shape := ⟨0, ![]⟩

class Facts : Prop where
  shapeCasts_S1_S_ : S1.ShapeCasts S_
  bcast_S_S38912x2048 : S_.BroadcastsInDim S38912x2048 (![] : Fin 0 → Fin S38912x2048.rank)

variable [Facts]

def fn {F : FTy → Type} [FloatOps F] (main_arg0 : IVec S76 32) (main_arg1 : IVec S1 32) (main_arg2 : IVec S38912x1024 32) (main_arg3 : IVec S8x1024x5632 32) (main_arg4 : IVec S8x1024x5632 32) (main_arg5 : IVec S8x2816x2048 32) : IVec S38912x2048 1 :=
  let main_v0 : IVec S38912x2048 32 := iotaInDim S38912x2048 32 0
  let main_v1 : IVec S_ 32 := shapeCast S_ main_arg1 shapeCasts_S1_S_
  let main_c : IVec S_ 32 := constantI S_ 32 512#32
  let main_v2 : IVec S_ 32 := muli main_v1 main_c
  let main_v3 : IVec S38912x2048 32 := broadcastInDim S38912x2048 ![] bcast_S_S38912x2048 main_v2
  let main_v4 : IVec S38912x2048 1 := cmpi .slt main_v0 main_v3
  main_v4
-- ==== Pre_rows_in_table.lean ====
abbrev S38912x1024 : Shape := ⟨2, ![38912, 1024]⟩
abbrev S17408 : Shape := ⟨1, ![17408]⟩
abbrev S_ : Shape := ⟨0, ![]⟩

class Facts : Prop where
  bcast_S_S17408 : S_.BroadcastsInDim S17408 (![] : Fin 0 → Fin S17408.rank)

variable [Facts]

def fn {F : FTy → Type} [FloatOps F] (main_arg0 : IVec S38912x1024 32) (main_arg1 : IVec S17408 32) (main_arg2 : IVec S17408 32) : IVec S17408 1 :=
  let main_c : IVec S_ 32 := constantI S_ 32 0#32
  let main_v0 : IVec S17408 32 := broadcastInDim S17408 ![] bcast_S_S17408 main_c
  let main_v1 : IVec S17408 1 := cmpi .sge main_arg1 main_v0
  let main_c_0 : IVec S_ 32 := constantI S_ 32 38912#32
  let main_v2 : IVec S17408 32 := broadcastInDim S17408 ![] bcast_S_S17408 main_c_0
  let main_v3 : IVec S17408 1 := cmpi .slt main_arg1 main_v2
  let main_v4 : IVec S17408 1 := andi main_v1 main_v3
  let main_c_1 : IVec S_ 32 := constantI S_ 32 0#32
  let main_v5 : IVec S17408 32 := broadcastInDim S17408 ![] bcast_S_S17408 main_c_1
  let main_v6 : IVec S17408 1 := cmpi .sge main_arg2 main_v5
  let main_v7 : IVec S17408 1 := andi main_v4 main_v6
  let main_c_2 : IVec S_ 32 := constantI S_ 32 38912#32
  let main_v8 : IVec S17408 32 := broadcastInDim S17408 ![] bcast_S_S17408 main_c_2
  let main_v9 : IVec S17408 1 := cmpi .slt main_arg2 main_v8
  let main_v10 : IVec S17408 1 := andi main_v7 main_v9
  main_v10
-- ==== Pre_tiles_in_table.lean ====
abbrev S76 : Shape := ⟨1, ![76]⟩
abbrev S1 : Shape := ⟨1, ![1]⟩
abbrev S38912x1024 : Shape := ⟨2, ![38912, 1024]⟩
abbrev S8x1024x5632 : Shape := ⟨3, ![8, 1024, 5632]⟩
abbrev S8x2816x2048 : Shape := ⟨3, ![8, 2816, 2048]⟩
abbrev S_ : Shape := ⟨0, ![]⟩

class Facts : Prop where
  bcast_S_S76 : S_.BroadcastsInDim S76 (![] : Fin 0 → Fin S76.rank)
  reducesTo_S76_S_d0 : S76.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S76 32) (main_arg1 : IVec S1 32) (main_arg2 : IVec S38912x1024 32) (main_arg3 : IVec S8x1024x5632 32) (main_arg4 : IVec S8x1024x5632 32) (main_arg5 : IVec S8x2816x2048 32) : IVec S_ 1 :=
  let main_c : IVec S_ 32 := constantI S_ 32 0#32
  let main_v0 : IVec S76 32 := broadcastInDim S76 ![] bcast_S_S76 main_c
  let main_v1 : IVec S76 1 := cmpi .sge main_arg0 main_v0
  let main_c_0 : IVec S_ 32 := constantI S_ 32 8#32
  let main_v2 : IVec S76 32 := broadcastInDim S76 ![] bcast_S_S76 main_c_0
  let main_v3 : IVec S76 1 := cmpi .slt main_arg0 main_v2
  let main_v4 : IVec S76 1 := andi main_v1 main_v3
  let main_c_1 : IVec S_ 1 := constantI S_ 1 1#1
  let main_v5 : IVec S_ 1 := (fun x v => Host.reduce IntOp.andi x v reducesTo_S76_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 76#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S38912x1024 : Shape := ⟨2, ![38912, 1024]⟩
abbrev S17408 : Shape := ⟨1, ![17408]⟩
abbrev S17408x1024 : Shape := ⟨2, ![17408, 1024]⟩
abbrev S32 : Shape := ⟨1, ![32]⟩
abbrev S32x1024 : Shape := ⟨2, ![32, 1024]⟩
abbrev S8 : Shape := ⟨1, ![8]⟩
abbrev S_ : Shape := ⟨0, ![]⟩
abbrev S32x128 : Shape := ⟨2, ![32, 128]⟩
abbrev S38912x128 : Shape := ⟨2, ![38912, 128]⟩
abbrev S1 : Shape := ⟨1, ![1]⟩

abbrev nBuf : Table → Nat
  | .hbm => 5
  | .local .scVector .vmem => 4
  | _ => 0

abbrev bufTy : (tb : Table) → Fin (nBuf tb) → BufTy
  | .hbm, ⟨0, _⟩ => ⟨S38912x1024, .i32⟩
  | .hbm, ⟨1, _⟩ => ⟨S17408, .i32⟩
  | .hbm, ⟨2, _⟩ => ⟨S17408, .i32⟩
  | .hbm, ⟨3, _⟩ => ⟨S17408x1024, .i32⟩
  | .hbm, ⟨4, _⟩ => ⟨S17408x1024, .i32⟩
  | .local .scVector .vmem, ⟨0, _⟩ => ⟨S32, .i32⟩
  | .local .scVector .vmem, ⟨1, _⟩ => ⟨S32, .i32⟩
  | .local .scVector .vmem, ⟨2, _⟩ => ⟨S32x1024, .i32⟩
  | .local .scVector .vmem, ⟨3, _⟩ => ⟨S32x1024, .i32⟩
  | _, _ => ⟨S38912x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c17_i32 : BitVec 32 := 17#32
  let v3 : BitVec 32 := Scalar.addi c0_i32 c17_i32
  let c1_i32 : BitVec 32 := 1#32
  ⟨c0_i32, v3, c1_i32⟩
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c544_i32 : BitVec 32 := 544#32
  let v2 : BitVec 32 := Scalar.muli v1 c544_i32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v4 : BitVec 32 := Scalar.muli arg15 c1_i32_1
  let v5 : BitVec 32 := Scalar.addi c0_i32_2 v4
  let c32_i32 : BitVec 32 := 32#32
  let v6 : BitVec 32 := Scalar.muli v5 c32_i32
  let v7 : BitVec 32 := Scalar.addi v2 v6
  v7
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c544_i32 : BitVec 32 := 544#32
  let v2 : BitVec 32 := Scalar.muli v1 c544_i32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v4 : BitVec 32 := Scalar.muli arg15 c1_i32_1
  let v5 : BitVec 32 := Scalar.addi c0_i32_2 v4
  let c32_i32 : BitVec 32 := 32#32
  let v6 : BitVec 32 := Scalar.muli v5 c32_i32
  let v7 : BitVec 32 := Scalar.addi v2 v6
  let v8 : BitVec 32 := v7
  ![v8.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c544_i32 : BitVec 32 := 544#32
  let v2 : BitVec 32 := Scalar.muli v1 c544_i32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v4 : BitVec 32 := Scalar.muli arg15 c1_i32_1
  let v5 : BitVec 32 := Scalar.addi c0_i32_2 v4
  let c32_i32 : BitVec 32 := 32#32
  let v6 : BitVec 32 := Scalar.muli v5 c32_i32
  let v7 : BitVec 32 := Scalar.addi v2 v6
  let v8 : BitVec 32 := v7
  let c0_i32_111 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S38912x1024 : Shape := ⟨2, ![38912, 1024]⟩
abbrev S17408 : Shape := ⟨1, ![17408]⟩
abbrev S17408x1 : Shape := ⟨2, ![17408, 1]⟩
abbrev S17408x1024 : Shape := ⟨2, ![17408, 1024]⟩

abbrev nBuf : Space → Nat
  | .hbm => 7
  | .vmem => 0
  | .smem => 0
  | _ => 0

abbrev bufTy : (tb : Table) → Fin (tcTables nBuf tb) → BufTy
  | .hbm, ⟨0, _⟩ => ⟨S38912x1024, .i32⟩
  | .hbm, ⟨1, _⟩ => ⟨S17408, .i32⟩
  | .hbm, ⟨2, _⟩ => ⟨S17408, .i32⟩
  | .hbm, ⟨3, _⟩ => ⟨S17408x1, .i32⟩
  | .hbm, ⟨4, _⟩ => ⟨S17408x1024, .i32⟩
  | .hbm, ⟨5, _⟩ => ⟨S17408x1, .i32⟩
  | .hbm, ⟨6, _⟩ => ⟨S17408x1024, .i32⟩
  | _, _ => ⟨S38912x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_call1_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Kernel2.lean ====
abbrev S76 : Shape := ⟨1, ![76]⟩
abbrev S1 : Shape := ⟨1, ![1]⟩
abbrev S38912x1024 : Shape := ⟨2, ![38912, 1024]⟩
abbrev S8x1024x5632 : Shape := ⟨3, ![8, 1024, 5632]⟩
abbrev S8x2816x2048 : Shape := ⟨3, ![8, 2816, 2048]⟩
abbrev S38912x2048 : Shape := ⟨2, ![38912, 2048]⟩
abbrev S512x1024 : Shape := ⟨2, ![512, 1024]⟩
abbrev S1x1024x512 : Shape := ⟨3, ![1, 1024, 512]⟩
abbrev S1x256x2048 : Shape := ⟨3, ![1, 256, 2048]⟩
abbrev S512x2048 : Shape := ⟨2, ![512, 2048]⟩
abbrev S1024x512 : Shape := ⟨2, ![1024, 512]⟩
abbrev S2048x512 : Shape := ⟨2, ![2048, 512]⟩
abbrev S512x512 : Shape := ⟨2, ![512, 512]⟩
abbrev S256x2048 : Shape := ⟨2, ![256, 2048]⟩

abbrev nBuf : Space → Nat
  | .hbm => 5
  | .vmem => 12
  | .smem => 2
  | _ => 0

abbrev bufTy : (tb : Table) → Fin (tcTables nBuf tb) → BufTy
  | .hbm, ⟨0, _⟩ => ⟨S38912x1024, .i32⟩
  | .hbm, ⟨1, _⟩ => ⟨S8x1024x5632, .i32⟩
  | .hbm, ⟨2, _⟩ => ⟨S8x1024x5632, .i32⟩
  | .hbm, ⟨3, _⟩ => ⟨S8x2816x2048, .i32⟩
  | .hbm, ⟨4, _⟩ => ⟨S38912x2048, .bf16⟩
  | .local _ .vmem, ⟨0, _⟩ => ⟨S512x1024, .i32⟩
  | .local _ .vmem, ⟨1, _⟩ => ⟨S512x1024, .i32⟩
  | .local _ .vmem, ⟨2, _⟩ => ⟨S1x1024x512, .i32⟩
  | .local _ .vmem, ⟨3, _⟩ => ⟨S1x1024x512, .i32⟩
  | .local _ .vmem, ⟨4, _⟩ => ⟨S1x1024x512, .i32⟩
  | .local _ .vmem, ⟨5, _⟩ => ⟨S1x1024x512, .i32⟩
  | .local _ .vmem, ⟨6, _⟩ => ⟨S1x256x2048, .i32⟩
  | .local _ .vmem, ⟨7, _⟩ => ⟨S1x256x2048, .i32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .smem, ⟨0, _⟩ => ⟨S76, .i32⟩
  | .local _ .smem, ⟨1, _⟩ => ⟨S1, .i32⟩
  | _, _ => ⟨S38912x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![76, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c10_i32 : BitVec 32 := 10#32
  let v35 : BitVec 1 := Scalar.cmpi .eq arg1 c10_i32
  let v36 : BitVec 32 := Scalar.extui v35
  let c0_i32_22 : BitVec 32 := 0#32
  let v37 : BitVec 1 := Scalar.cmpi .ne v36 c0_i32_22
  v37

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S76.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S76) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S76.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S76) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S76.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S76) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S76 : Shape := ⟨1, ![76]⟩
abbrev S1 : Shape := ⟨1, ![1]⟩
abbrev S38912x1024 : Shape := ⟨2, ![38912, 1024]⟩
abbrev S8x1024x5632 : Shape := ⟨3, ![8, 1024, 5632]⟩
abbrev S8x2816x2048 : Shape := ⟨3, ![8, 2816, 2048]⟩
abbrev S_ : Shape := ⟨0, ![]⟩
abbrev S38912x2048 : Shape := ⟨2, ![38912, 2048]⟩
abbrev S76x512x2048 : Shape := ⟨3, ![76, 512, 2048]⟩
abbrev S8x1024x5632x2 : Shape := ⟨4, ![8, 1024, 5632, 2]⟩
abbrev S8x1024x2x5632 : Shape := ⟨4, ![8, 1024, 2, 5632]⟩
abbrev S8x2048x5632 : Shape := ⟨3, ![8, 2048, 5632]⟩
abbrev S76x1 : Shape := ⟨2, ![76, 1]⟩
abbrev S76x2048x5632 : Shape := ⟨3, ![76, 2048, 5632]⟩
abbrev S8x2816x2048x2 : Shape := ⟨4, ![8, 2816, 2048, 2]⟩
abbrev S8x2816x2x2048 : Shape := ⟨4, ![8, 2816, 2, 2048]⟩
abbrev S8x5632x2048 : Shape := ⟨3, ![8, 5632, 2048]⟩
abbrev S76x5632x2048 : Shape := ⟨3, ![76, 5632, 2048]⟩
abbrev S76x512x5632 : Shape := ⟨3, ![76, 512, 5632]⟩

abbrev nBuf : Space → Nat
  | .hbm => 50
  | .vmem => 0
  | .smem => 0
  | _ => 0

abbrev bufTy : (tb : Table) → Fin (tcTables nBuf tb) → BufTy
  | .hbm, ⟨0, _⟩ => ⟨S76, .i32⟩
  | .hbm, ⟨1, _⟩ => ⟨S1, .i32⟩
  | .hbm, ⟨2, _⟩ => ⟨S38912x1024, .i32⟩
  | .hbm, ⟨3, _⟩ => ⟨S8x1024x5632, .i32⟩
  | .hbm, ⟨4, _⟩ => ⟨S8x1024x5632, .i32⟩
  | .hbm, ⟨5, _⟩ => ⟨S8x2816x2048, .i32⟩
  | .hbm, ⟨6, _⟩ => ⟨S38912x1024, .i32⟩
  | .hbm, ⟨7, _⟩ => ⟨S_, .i32⟩
  | .hbm, ⟨8, _⟩ => ⟨S38912x1024, .i32⟩
  | .hbm, ⟨9, _⟩ => ⟨S38912x1024, .i32⟩
  | .hbm, ⟨10, _⟩ => ⟨S38912x1024, .f32⟩
  | .hbm, ⟨11, _⟩ => ⟨S_, .i32⟩
  | .hbm, ⟨12, _⟩ => ⟨S38912x1024, .i32⟩
  | .hbm, ⟨13, _⟩ => ⟨S38912x1024, .i32⟩
  | .hbm, ⟨14, _⟩ => ⟨S38912x1024, .f32⟩
  | .hbm, ⟨15, _⟩ => ⟨S38912x2048, .f32⟩
  | .hbm, ⟨16, _⟩ => ⟨S76x512x2048, .f32⟩
  | .hbm, ⟨17, _⟩ => ⟨S8x1024x5632x2, .bf16⟩
  | .hbm, ⟨18, _⟩ => ⟨S8x1024x5632x2, .f32⟩
  | .hbm, ⟨19, _⟩ => ⟨S8x1024x2x5632, .f32⟩
  | .hbm, ⟨20, _⟩ => ⟨S8x2048x5632, .f32⟩
  | .hbm, ⟨21, _⟩ => ⟨S76x1, .i32⟩
  | .hbm, ⟨22, _⟩ => ⟨S76x2048x5632, .f32⟩
  | .hbm, ⟨23, _⟩ => ⟨S8x1024x5632x2, .bf16⟩
  | .hbm, ⟨24, _⟩ => ⟨S8x1024x5632x2, .f32⟩
  | .hbm, ⟨25, _⟩ => ⟨S8x1024x2x5632, .f32⟩
  | .hbm, ⟨26, _⟩ => ⟨S8x2048x5632, .f32⟩
  | .hbm, ⟨27, _⟩ => ⟨S76x1, .i32⟩
  | .hbm, ⟨28, _⟩ => ⟨S76x2048x5632, .f32⟩
  | .hbm, ⟨29, _⟩ => ⟨S8x2816x2048x2, .bf16⟩
  | .hbm, ⟨30, _⟩ => ⟨S8x2816x2048x2, .f32⟩
  | .hbm, ⟨31, _⟩ => ⟨S8x2816x2x2048, .f32⟩
  | .hbm, ⟨32, _⟩ => ⟨S8x5632x2048, .f32⟩
  | .hbm, ⟨33, _⟩ => ⟨S76x1, .i32⟩
  | .hbm, ⟨34, _⟩ => ⟨S76x5632x2048, .f32⟩
  | .hbm, ⟨35, _⟩ => ⟨S76x512x5632, .f32⟩
  | .hbm, ⟨36, _⟩ => ⟨S76x512x5632, .f32⟩
  | .hbm, ⟨37, _⟩ => ⟨S76x512x5632, .f32⟩
  | .hbm, ⟨38, _⟩ => ⟨S_, .f32⟩
  | .hbm, ⟨39, _⟩ => ⟨S76x512x5632, .f32⟩
  | .hbm, ⟨40, _⟩ => ⟨S76x512x5632, .f32⟩
  | .hbm, ⟨41, _⟩ => ⟨S_, .f32⟩
  | .hbm, ⟨42, _⟩ => ⟨S76x512x5632, .f32⟩
  | .hbm, ⟨43, _⟩ => ⟨S76x512x5632, .f32⟩
  | .hbm, ⟨44, _⟩ => ⟨S76x512x5632, .f32⟩
  | .hbm, ⟨45, _⟩ => ⟨S76x512x5632, .f32⟩
  | .hbm, ⟨46, _⟩ => ⟨S76x512x5632, .f32⟩
  | .hbm, ⟨47, _⟩ => ⟨S76x512x2048, .f32⟩
  | .hbm, ⟨48, _⟩ => ⟨S38912x2048, .f32⟩
  | .hbm, ⟨49, _⟩ => ⟨S38912x2048, .bf16⟩
  | _, _ => ⟨S76, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_call3_v0 : Ref sig .tc := ⟨.hbm, 36, rfl⟩
abbrev main_call3_v1 : Ref sig .tc := ⟨.hbm, 37, rfl⟩
abbrev main_call3_cst : Ref sig .tc := ⟨.hbm, 38, rfl⟩
abbrev main_call3_v2 : Ref sig .tc := ⟨.hbm, 39, rfl⟩
abbrev main_call3_v3 : Ref sig .tc := ⟨.hbm, 40, rfl⟩
abbrev main_call3_cst_0 : Ref sig .tc := ⟨.hbm, 41, rfl⟩
abbrev main_call3_v4 : Ref sig .tc := ⟨.hbm, 42, rfl⟩
abbrev main_call3_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel3.lean ====
abbrev S17408x1024 : Shape := ⟨2, ![17408, 1024]⟩
abbrev S17408x1 : Shape := ⟨2, ![17408, 1]⟩
abbrev S16384x2048 : Shape := ⟨2, ![16384, 2048]⟩
abbrev S1024x2048 : Shape := ⟨2, ![1024, 2048]⟩
abbrev S1x2048 : Shape := ⟨2, ![1, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S17408x1024, .i32⟩
  | .hbm, ⟨1, _⟩ => ⟨S17408x1024, .i32⟩
  | .hbm, ⟨2, _⟩ => ⟨S17408x1, .f32⟩
  | .hbm, ⟨3, _⟩ => ⟨S17408x1, .f32⟩
  | .hbm, ⟨4, _⟩ => ⟨S16384x2048, .f32⟩
  | .hbm, ⟨5, _⟩ => ⟨S1024x2048, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S1024x2048, .f32⟩
  | .local _ .vmem, ⟨0, _⟩ => ⟨S512x1024, .i32⟩
  | .local _ .vmem, ⟨1, _⟩ => ⟨S512x1024, .i32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S17408x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32_22 : BitVec 32 := 32#32
  let v56 : BitVec 1 := Scalar.cmpi .slt arg0 c32_i32_22
  let v57 : BitVec 32 := Scalar.extui v56
  let c0_i32 : BitVec 32 := 0#32
  let v58 : BitVec 1 := Scalar.cmpi .ne v57 c0_i32
  v58

def k0_cond2 (i : grid0.Coords) : BitVec 1 :=
  let arg0 : BitVec 32 := BitVec.ofNat 32 (i 0).val
  let c32_i32_23 : BitVec 32 := 32#32
  let v59 : BitVec 1 := Scalar.cmpi .sge arg0 c32_i32_23
  let v60 : BitVec 32 := Scalar.extui v59
  let c0_i32_24 : BitVec 32 := 0#32
  let v61 : BitVec 1 := Scalar.cmpi .ne v60 c0_i32_24
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S17408x1024 : Shape := ⟨2, ![17408, 1024]⟩
abbrev S17408x1 : Shape := ⟨2, ![17408, 1]⟩
abbrev S16384x2048 : Shape := ⟨2, ![16384, 2048]⟩
abbrev S1024x2048 : Shape := ⟨2, ![1024, 2048]⟩
abbrev S1x2048 : Shape := ⟨2, ![1, 2048]⟩
abbrev S17408x2048 : Shape := ⟨2, ![17408, 2048]⟩
abbrev S_ : Shape := ⟨0, ![]⟩
abbrev S17408 : Shape := ⟨1, ![17408]⟩

abbrev nBuf : Space → Nat
  | .hbm => 65
  | .vmem => 0
  | .smem => 0
  | _ => 0

abbrev bufTy : (tb : Table) → Fin (tcTables nBuf tb) → BufTy
  | .hbm, ⟨0, _⟩ => ⟨S17408x1024, .i32⟩
  | .hbm, ⟨1, _⟩ => ⟨S17408x1024, .i32⟩
  | .hbm, ⟨2, _⟩ => ⟨S17408x1, .f32⟩
  | .hbm, ⟨3, _⟩ => ⟨S17408x1, .f32⟩
  | .hbm, ⟨4, _⟩ => ⟨S16384x2048, .f32⟩
  | .hbm, ⟨5, _⟩ => ⟨S1024x2048, .f32⟩
  | .hbm, ⟨6, _⟩ => ⟨S1x2048, .f32⟩
  | .hbm, ⟨7, _⟩ => ⟨S1x2048, .f32⟩
  | .hbm, ⟨8, _⟩ => ⟨S17408x2048, .f32⟩
  | .hbm, ⟨9, _⟩ => ⟨S_, .f32⟩
  | .hbm, ⟨10, _⟩ => ⟨S17408x2048, .f32⟩
  | .hbm, ⟨11, _⟩ => ⟨S17408x2048, .f32⟩
  | .hbm, ⟨12, _⟩ => ⟨S17408x1024, .i32⟩
  | .hbm, ⟨13, _⟩ => ⟨S_, .i32⟩
  | .hbm, ⟨14, _⟩ => ⟨S17408x1024, .i32⟩
  | .hbm, ⟨15, _⟩ => ⟨S17408x1024, .i32⟩
  | .hbm, ⟨16, _⟩ => ⟨S17408x1024, .f32⟩
  | .hbm, ⟨17, _⟩ => ⟨S_, .i32⟩
  | .hbm, ⟨18, _⟩ => ⟨S17408x1024, .i32⟩
  | .hbm, ⟨19, _⟩ => ⟨S17408x1024, .i32⟩
  | .hbm, ⟨20, _⟩ => ⟨S17408x1024, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S17408x1024, .i32⟩
  | .hbm, ⟨25, _⟩ => ⟨S_, .i32⟩
  | .hbm, ⟨26, _⟩ => ⟨S17408x1024, .i32⟩
  | .hbm, ⟨27, _⟩ => ⟨S17408x1024, .i32⟩
  | .hbm, ⟨28, _⟩ => ⟨S17408x1024, .f32⟩
  | .hbm, ⟨29, _⟩ => ⟨S_, .i32⟩
  | .hbm, ⟨30, _⟩ => ⟨S17408x1024, .i32⟩
  | .hbm, ⟨31, _⟩ => ⟨S17408x1024, .i32⟩
  | .hbm, ⟨32, _⟩ => ⟨S17408x1024, .f32⟩
  | .hbm, ⟨33, _⟩ => ⟨S17408x2048, .f32⟩
  | .hbm, ⟨34, _⟩ => ⟨S17408x2048, .f32⟩
  | .hbm, ⟨35, _⟩ => ⟨S17408x2048, .f32⟩
  | .hbm, ⟨36, _⟩ => ⟨S17408x2048, .f32⟩
  | .hbm, ⟨37, _⟩ => ⟨S17408x2048, .f32⟩
  | .hbm, ⟨38, _⟩ => ⟨S_, .f32⟩
  | .hbm, ⟨39, _⟩ => ⟨S17408, .f32⟩
  | .hbm, ⟨40, _⟩ => ⟨S17408x1, .f32⟩
  | .hbm, ⟨41, _⟩ => ⟨S_, .f32⟩
  | .hbm, ⟨42, _⟩ => ⟨S17408x1, .f32⟩
  | .hbm, ⟨43, _⟩ => ⟨S17408x1, .f32⟩
  | .hbm, ⟨44, _⟩ => ⟨S17408x2048, .f32⟩
  | .hbm, ⟨45, _⟩ => ⟨S17408x2048, .f32⟩
  | .hbm, ⟨46, _⟩ => ⟨S17408x2048, .f32⟩
  | .hbm, ⟨47, _⟩ => ⟨S_, .f32⟩
  | .hbm, ⟨48, _⟩ => ⟨S17408, .f32⟩
  | .hbm, ⟨49, _⟩ => ⟨S17408x1, .f32⟩
  | .hbm, ⟨50, _⟩ => ⟨S_, .f32⟩
  | .hbm, ⟨51, _⟩ => ⟨S17408x1, .f32⟩
  | .hbm, ⟨52, _⟩ => ⟨S17408x1, .f32⟩
  | .hbm, ⟨53, _⟩ => ⟨S_, .f32⟩
  | .hbm, ⟨54, _⟩ => ⟨S17408x1, .f32⟩
  | .hbm, ⟨55, _⟩ => ⟨S17408x1, .f32⟩
  | .hbm, ⟨56, _⟩ => ⟨S17408x1, .f32⟩
  | .hbm, ⟨57, _⟩ => ⟨S17408x2048, .f32⟩
  | .hbm, ⟨58, _⟩ => ⟨S17408x2048, .f32⟩
  | .hbm, ⟨59, _⟩ => ⟨S17408x2048, .f32⟩
  | .hbm, ⟨60, _⟩ => ⟨S17408x2048, .f32⟩
  | .hbm, ⟨61, _⟩ => ⟨S17408x2048, .f32⟩
  | .hbm, ⟨62, _⟩ => ⟨S17408x2048, .f32⟩
  | .hbm, ⟨63, _⟩ => ⟨S16384x2048, .f32⟩
  | .hbm, ⟨64, _⟩ => ⟨S1024x2048, .f32⟩
  | _, _ => ⟨S17408x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel4.lean ====
abbrev S16384x2048 : Shape := ⟨2, ![16384, 2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S16384x2048 : Shape := ⟨2, ![16384, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S_, .f32⟩
  | .hbm, ⟨18, _⟩ => ⟨S16384x5632, .f32⟩
  | .hbm, ⟨19, _⟩ => ⟨S16384x5632, .f32⟩
  | .hbm, ⟨20, _⟩ => ⟨S_, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel5.lean ====
abbrev S17408x4096 : Shape := ⟨2, ![17408, 4096]⟩
abbrev S8x2x512 : Shape := ⟨3, ![8, 2, 512]⟩
abbrev S3x512 : Shape := ⟨2, ![3, 512]⟩
abbrev S1x2048 : Shape := ⟨2, ![1, 2048]⟩
abbrev S16384x512 : Shape := ⟨2, ![16384, 512]⟩
abbrev S2048x512 : Shape := ⟨2, ![2048, 512]⟩
abbrev S1x2x512 : Shape := ⟨3, ![1, 2, 512]⟩
abbrev S1x512 : Shape := ⟨2, ![1, 512]⟩
abbrev S2048x128 : Shape := ⟨2, ![2048, 128]⟩
abbrev S1x1x128 : Shape := ⟨3, ![1, 1, 128]⟩
abbrev S1x128 : Shape := ⟨2, ![1, 128]⟩
abbrev S2x128 : Shape := ⟨2, ![2, 128]⟩
abbrev S1x2x128 : Shape := ⟨3, ![1, 2, 128]⟩
abbrev S3x128 : Shape := ⟨2, ![3, 128]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S17408x4096, .bf16⟩
  | .hbm, ⟨1, _⟩ => ⟨S8x2x512, .f32⟩
  | .hbm, ⟨2, _⟩ => ⟨S3x512, .f32⟩
  | .hbm, ⟨3, _⟩ => ⟨S1x2048, .f32⟩
  | .hbm, ⟨4, _⟩ => ⟨S16384x512, .bf16⟩
  | .hbm, ⟨5, _⟩ => ⟨S8x2x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x2x512, .f32⟩
  | .local _ .vmem, ⟨7, _⟩ => ⟨S1x2x512, .f32⟩
  | .local _ .vmem, ⟨8, _⟩ => ⟨S3x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S1x2x512, .f32⟩
  | .local _ .vmem, ⟨13, _⟩ => ⟨S1x2x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S17408x4096 : Shape := ⟨2, ![17408, 4096]⟩
abbrev S8x2x512 : Shape := ⟨3, ![8, 2, 512]⟩
abbrev S3x512 : Shape := ⟨2, ![3, 512]⟩
abbrev S1x2048 : Shape := ⟨2, ![1, 2048]⟩
abbrev S16384x1536 : Shape := ⟨2, ![16384, 1536]⟩
abbrev S8x2048x1536 : Shape := ⟨3, ![8, 2048, 1536]⟩
abbrev S8x2048x512 : Shape := ⟨3, ![8, 2048, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S4x128 : Shape := ⟨2, ![4, 128]⟩
abbrev S1x4x128 : Shape := ⟨3, ![1, 4, 128]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S8x2x512, .f32⟩
  | .hbm, ⟨2, _⟩ => ⟨S3x512, .f32⟩
  | .hbm, ⟨3, _⟩ => ⟨S1x2048, .f32⟩
  | .hbm, ⟨4, _⟩ => ⟨S16384x1536, .bf16⟩
  | .hbm, ⟨5, _⟩ => ⟨S16384x1536, .f32⟩
  | .hbm, ⟨6, _⟩ => ⟨S8x2048x1536, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2050x512, .f32⟩
  | .hbm, ⟨12, _⟩ => ⟨S1x512, .f32⟩
  | .hbm, ⟨13, _⟩ => ⟨S512, .f32⟩
  | .hbm, ⟨14, _⟩ => ⟨S8x2048x512, .f32⟩
  | .hbm, ⟨15, _⟩ => ⟨S1x1x512, .f32⟩
  | .hbm, ⟨16, _⟩ => ⟨S8x2048x512, .f32⟩
  | .hbm, ⟨17, _⟩ => ⟨S8x2048x512, .f32⟩
  | .hbm, ⟨18, _⟩ => ⟨S1x512, .f32⟩
  | .hbm, ⟨19, _⟩ => ⟨S512, .f32⟩
  | .hbm, ⟨20, _⟩ => ⟨S8x2048x512, .f32⟩
  | .hbm, ⟨21, _⟩ => ⟨S1x1x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S1x512, .f32⟩
  | .hbm, ⟨26, _⟩ => ⟨S512, .f32⟩
  | .hbm, ⟨27, _⟩ => ⟨S8x2048x512, .f32⟩
  | .hbm, ⟨28, _⟩ => ⟨S1x1x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S16384x4x128, .f32⟩
  | .hbm, ⟨34, _⟩ => ⟨S16384x4x128, .f32⟩
  | .hbm, ⟨35, _⟩ => ⟨S_, .f32⟩
  | .hbm, ⟨36, _⟩ => ⟨S16384x4, .f32⟩
  | .hbm, ⟨37, _⟩ => ⟨S16384x4x1, .f32⟩
  | .hbm, ⟨38, _⟩ => ⟨S_, .f32⟩
  | .hbm, ⟨39, _⟩ => ⟨S16384x4x1, .f32⟩
  | .hbm, ⟨40, _⟩ => ⟨S16384x4x1, .f32⟩
  | .hbm, ⟨41, _⟩ => ⟨S_, .f32⟩
  | .hbm, ⟨42, _⟩ => ⟨S16384x4x1, .f32⟩
  | .hbm, ⟨43, _⟩ => ⟨S16384x4x1, .f32⟩
  | .hbm, ⟨44, _⟩ => ⟨S16384x4x1, .f32⟩
  | .hbm, ⟨45, _⟩ => ⟨S16384x4x128, .f32⟩
  | .hbm, ⟨46, _⟩ => ⟨S16384x4x128, .f32⟩
  | .hbm, ⟨47, _⟩ => ⟨S1x512, .f32⟩
  | .hbm, ⟨48, _⟩ => ⟨S512, .f32⟩
  | .hbm, ⟨49, _⟩ => ⟨S4x128, .f32⟩
  | .hbm, ⟨50, _⟩ => ⟨S1x4x128, .f32⟩
  | .hbm, ⟨51, _⟩ => ⟨S16384x4x128, .f32⟩
  | .hbm, ⟨52, _⟩ => ⟨S16384x4x128, .f32⟩
  | .hbm, ⟨53, _⟩ => ⟨S16384x512, .f32⟩
  | .hbm, ⟨54, _⟩ => ⟨S16384x512, .bf16⟩
  | .hbm, ⟨55, _⟩ => ⟨S8x2x512, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Proof.Gather.lean ====
/-
  THE GATHER'S SET-UP. The SparseCore kernel as the launch theorem sees it (two SparseCores of sixteen tiles each), the
  arrays it is handed, what every handshake carries, and the values both results end at: row `r` of a result is the
  row of the table that word `r` of its index array names.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and the results -/

variable (m : (ℓ : Loc nD τ sig) → Buf (Elt F) ℓ) (ρ : Dev nD → PrngReg)

abbrev tLoc (d : Dev nD) : Loc nD τ sig := (SparseCore.T d).loc main_arg0
abbrev iaLoc (d : Dev nD) : Loc nD τ sig := (SparseCore.T d).loc main_arg1
abbrev ibLoc (d : Dev nD) : Loc nD τ sig := (SparseCore.T d).loc main_arg2
abbrev oaLoc (d : Dev nD) : Loc nD τ sig := (SparseCore.T d).loc main_v0_0
abbrev obLoc (d : Dev nD) : Loc nD τ sig := (SparseCore.T d).loc main_v0_1

/-- The row of the table a word names (below 38912 under the precondition). -/
abbrev rowOf (w : BitVec 32) : Fin 38912 := ⟨w.toNat % 38912, Nat.mod_lt _ (by decide)⟩

/-- The rows `idx` names, taken out of `table`. -/
def taken (table : S38912x1024.Idx → BitVec 32) (idx : S17408.Idx → BitVec 32) : S17408x1024.Idx → BitVec 32 :=
  fun x => table (fun | 0 => rowOf (idx (fun | 0 => x 0)) | 1 => x 1)

/-- What each result ends at. -/
abbrev OUTa (d : Dev nD) : Buf (Elt F) (oaLoc d) := taken (m (tLoc d)) (m (iaLoc d))
abbrev OUTb (d : Dev nD) : Buf (Elt F) (obLoc d) := taken (m (tLoc d)) (m (ibLoc d))

/-- What the proof asks of the launch memory: every word of both index arrays is a row of the table. -/
def PreOK : Prop := ∀ (d : Dev nD) (j : S17408.Idx), (m (iaLoc d) j).toNat < 38912 ∧ (m (ibLoc d) j).toNat < 38912

/-! ## The rows of a tile: 544 of them, tile `s` of SparseCore `c` at number `2 s + c` -/

def tileSet (c : Fin 2) (s : Fin 16) : Finset S17408x1024.Idx := Finset.univ.filter fun x => (x 0).val / 544 = 2 * s.val + c.val
def coreSet (c : Fin 2) : Finset S17408x1024.Idx := Finset.univ.filter fun x => (x 0).val / 544 % 2 = c.val

theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hi hj => h (Fin.ext ?_)
  simp only [tileSet, Finset.mem_filter, Finset.mem_univ, true_and] at hi hj
  omega
theorem tiles_cover (c : Fin 2) : (Finset.univ : Finset (Fin 16)).biUnion (tileSet c) = coreSet c := by
  ext x
  have hx : (x 0).val < 17408 := (x 0).isLt
  have := c.isLt
  simp only [tileSet, coreSet, Finset.mem_biUnion, Finset.mem_filter, Finset.mem_univ, true_and]
  constructor
  · rintro ⟨s, hs⟩; omega
  · intro h
    exact ⟨⟨(x 0).val / 544 / 2, by omega⟩, by show (x 0).val / 544 = 2 * ((x 0).val / 544 / 2) + c.val; omega⟩
theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun x hi hj => h (Fin.ext ?_)
  simp only [coreSet, Finset.mem_filter, Finset.mem_univ, true_and] at hi hj
  omega
theorem cores_cover : (Finset.univ : Finset (Fin 2)).biUnion coreSet = Finset.univ := by
  ext x
  simp only [coreSet, Finset.mem_biUnion, Finset.mem_filter, Finset.mem_univ, true_and, iff_true]
  exact ⟨⟨(x 0).val / 544 % 2, Nat.mod_lt _ (by decide)⟩, rfl⟩

/-! ## The shares of what is only read -/

/-- SparseCore `c`'s share of a read-only array, and its tile `s`'s. -/
abbrev cq (c : ℕ) : PosShare TreeShare := Transfers.shareTokN fullShare c
abbrev tq (c s : ℕ) : PosShare TreeShare := Transfers.shareTokN (cq c) s

variable [FloatOps F]

/-! ## What the handshakes carry -/

/-- The three arrays read, at share `q`. -/
abbrev insPts (d : Dev nD) (q : PosShare TreeShare) : sProp 𝕄 :=
  iprop((tLoc d ↦{q} m (tLoc d)) ∗ (iaLoc d ↦{q} m (iaLoc d)) ∗ (ibLoc d ↦{q} m (ibLoc d)))
/-- The rows `I` of both results, at the given contents. -/
abbrev outsPts (d : Dev nD) (I : Finset S17408x1024.Idx) (f : Buf (Elt F) (oaLoc d)) (g : Buf (Elt F) (obLoc d)) : sProp 𝕄 :=
  iprop((oaLoc d ↦[I]{fullShare} f) ∗ (obLoc d ↦[I]{fullShare} g))

/-- Each SparseCore takes a share of the three arrays and its half of both results' rows; each of its tiles a share of
    that share and its 544 rows. They bring them back, the rows gathered. -/
def P : (K (F := F)).Pay (nD := nD) (Val := Elt F) (Name := ℕ) (U := UU) where
  st := fun q d c => match q with | 0 => iprop(insPts m d (cq c.val) ∗ outsPts d (coreSet (Fin.cast nCore_zero c)) (m (oaLoc d)) (m (obLoc d)))
  dn := fun q d c => match q with | 0 => iprop(insPts m d (cq c.val) ∗ outsPts d (coreSet (Fin.cast nCore_zero c)) (OUTa m d) (OUTb m d))
  go := fun q d c i => match q with
    | 0 => iprop(insPts m d (tq c.val i.val) ∗ outsPts d (tileSet (Fin.cast nCore_zero c) (Fin.cast nSub_zero i)) (m (oaLoc d)) (m (obLoc d)))
  td := fun q d c i => match q with
    | 0 => iprop(insPts m d (tq c.val i.val) ∗ outsPts d (tileSet (Fin.cast nCore_zero c) (Fin.cast nSub_zero i)) (OUTa m d) (OUTb m d))
  x := fun _ _ => iprop(emp)

instance P_storable : (P (F := F) m).IsStorable where
  st q d c := match q with
    | 0 => (inferInstance : BI.Storable (upEmb : UEmb _ 𝕄)
        iprop(insPts m d (cq c.val) ∗ outsPts d (coreSet (Fin.cast nCore_zero c)) (m (oaLoc d)) (m (obLoc d))))
  dn q d c := match q with
    | 0 => (inferInstance : BI.Storable (upEmb : UEmb _ 𝕄)
        iprop(insPts m d (cq c.val) ∗ outsPts d (coreSet (Fin.cast nCore_zero c)) (OUTa m d) (OUTb m d)))
  go q d c i := match q with
    | 0 => (inferInstance : BI.Storable (upEmb : UEmb _ 𝕄)
        iprop(insPts m d (tq c.val i.val) ∗ outsPts d (tileSet (Fin.cast nCore_zero c) (Fin.cast nSub_zero i)) (m (oaLoc d)) (m (obLoc d))))
  td q d c i := match q with
    | 0 => (inferInstance : BI.Storable (upEmb : UEmb _ 𝕄)
        iprop(insPts m d (tq c.val i.val) ∗ outsPts d (tileSet (Fin.cast nCore_zero c) (Fin.cast nSub_zero i)) (OUTa m d) (OUTb m d)))

end Cert.Proof.Gather

end
-- ==== Proof.Rows.lean ====
/-
  WHAT THE STREAMS LAND. Eight streams, each of a column block of 128, fill a tile's 32 rows: the rows are those of the
  table the list's words name.
-/
module

public import proofs.«01_k».proof.Proof.Gather

@[expose] public section

noncomputable section

namespace Cert.Proof.Gather

open Cert.KernelIdeal Cert.KernelIdeal.Gen

open Idealize.ShloMosaic

variable {F : FTy → Type}

local notation "tV" => (Memref.whole Cert.KernelIdeal.main_arg0_scv : Memref Cert.KernelIdeal.sig Kind.scVector Space.hbm Cert.KernelIdeal.S38912x1024 EltTy.i32)

/-- The 32 rows of the table a list of 32 words names. -/
def rowsAt (tab : S38912x1024.Idx → BitVec 32) (lst : S32.Idx → BitVec 32) : S32x1024.Idx → BitVec 32 :=
  fun y => tab (fun | 0 => rowOf (lst (fun | 0 => y 0)) | 1 => y 1)

/-- A list entry by its place in row-major order. -/
theorem entry_at (n : Fin S32.numel) : S32.rowMajor.symm n = (fun | 0 => (Fin.cast (by decide) n : Fin 32)) := by
  refine S32.rowMajor.injective (Fin.ext ?_)
  rw [Equiv.apply_symm_apply, Shape.rowMajor_val_one]
  rfl

/-- One stream's payload: columns `o … o + 127` of the rows the list names. -/
theorem piece_at (o : ℕ) (tab : S38912x1024.Idx → Elt F .i32) (lst : S32.Idx → Elt F .i32)
    (inb : ∀ a, (![0, o] : Fin 2 → ℕ) a + S38912x128.size a ≤ S38912x1024.size a)
    (inb' : ∀ a, (![0, o] : Fin 2 → ℕ) a + S32x128.size a ≤ S32x1024.size a)
    (hg : S38912x128.Gathers 0 S32x128) (hn : S32.numel = S32x128.size hg.axis') (h : ∀ x, (lst x).toNat < S38912x128.size hg.axis)
    (x : S32x128.Idx) :
    SparseCore.gatherPayload hg (View.read (Elt F) ((tV).slice (Rect.unit (s := S38912x1024) ![0, o] S38912x128.size inb) (fun _ => rfl)).view tab)
        (SparseCore.rows lst hn h) x
      = rowsAt tab lst ((Rect.unit (s := S32x1024) ![0, o] S32x128.size inb').emb x) := by
  unfold SparseCore.gatherPayload
  show tab ((Rect.unit (s := S38912x1024) ![0, o] S38912x128.size inb).emb (hg.idx (SparseCore.rows lst hn h) x)) = _
  unfold rowsAt
  refine congrArg tab (funext fun a => Fin.ext ?_)
  rw [Rect.emb_apply]
  have hlt : ∀ w, (lst w).toNat % 38912 = (lst w).toNat := fun w => Nat.mod_eq_of_lt (h w)
  match a with
  | 0 =>
    have e := congrArg Fin.val (Shape.Gathers.idx_axis hg (SparseCore.rows lst hn h) x)
    show 0 + 1 * (hg.idx (SparseCore.rows lst hn h) x 0).val = (lst _).toNat % 38912
    rw [hlt, Nat.zero_add, Nat.one_mul]
    refine e.trans ?_
    show (lst (S32.rowMajor.symm _)).toNat = _
    rw [entry_at]
    refine congrArg (fun w => (lst w).toNat) (funext fun b => ?_)
    match b with
    | 0 => exact Fin.ext (by rw [Rect.emb_apply]; show (x 0).val = 0 + 1 * (x 0).val; omega)
  | 1 =>
    have e := Shape.Gathers.idx_of_ne hg (SparseCore.rows lst hn h) x 1 (by decide)
    show o + 1 * (hg.idx (SparseCore.rows lst hn h) x 1).val = o + 1 * (x 1).val
    rw [e]
    rfl

/-- The eight column blocks cover a tile's rows. -/
theorem blocks_cover (y : S32x1024.Idx) : ∃ b : Fin 8, ∀ inb, y ∈ (Rect.unit (s := S32x1024) ![0, 128 * b.val] S32x128.size inb).set := by
  have h0 : (y 0).val < 32 := (y 0).isLt
  have h1 : (y 1).val < 1024 := (y 1).isLt
  refine ⟨⟨(y 1).val / 128, by omega⟩, fun inb => Rect.mem_set_unit.mpr fun a => ?_⟩
  match a with
  | 0 => exact ⟨Nat.zero_le _, by show (y 0).val < 0 + 32; omega⟩
  | 1 => exact ⟨by show 128 * ((y 1).val / 128) ≤ (y 1).val; omega, by show (y 1).val < 128 * ((y 1).val / 128) + 128; omega⟩

/-- Eight writes, one per column block, each agreeing with `G` on its block, leave the rows at `G`. -/
theorem read_blocks {κ : Kind} {sp : Space} (v : View sig κ sp S32x1024 .i32) (f : v.ty.Contents (Elt F)) (G : S32x1024.Idx → Elt F .i32)
    (o : Fin 8 → ℕ) (ho : ∀ b, o b = 128 * b.val)
    (inb : ∀ b a, (![0, o b] : Fin 2 → ℕ) a + S32x128.size a ≤ S32x1024.size a)
    (pay : Fin 8 → S32x128.Idx → Elt F .i32)
    (hpay : ∀ b x, pay b x = G ((Rect.unit (s := S32x1024) ![0, o b] S32x128.size (inb b)).emb x)) :
    v.read (Elt F) (v.writes (Elt F) f
      [⟨Rect.unit (s := S32x1024) ![0, o 7] S32x128.size (inb 7), pay 7⟩, ⟨Rect.unit (s := S32x1024) ![0, o 6] S32x128.size (inb 6), pay 6⟩,
       ⟨Rect.unit (s := S32x1024) ![0, o 5] S32x128.size (inb 5), pay 5⟩, ⟨Rect.unit (s := S32x1024) ![0, o 4] S32x128.size (inb 4), pay 4⟩,
       ⟨Rect.unit (s := S32x1024) ![0, o 3] S32x128.size (inb 3), pay 3⟩, ⟨Rect.unit (s := S32x1024) ![0, o 2] S32x128.size (inb 2), pay 2⟩,
       ⟨Rect.unit (s := S32x1024) ![0, o 1] S32x128.size (inb 1), pay 1⟩, ⟨Rect.unit (s := S32x1024) ![0, o 0] S32x128.size (inb 0), pay 0⟩]) = G := by
  obtain rfl : o = fun b => 128 * b.val := funext ho
  funext y
  refine View.read_writes_apply_of_pieces v f G _ ?_ y ?_
  · intro p hp
    simp only [List.mem_cons, List.not_mem_nil, or_false] at hp
    rcases hp with rfl | rfl | rfl | rfl | rfl | rfl | rfl | rfl
    exacts [hpay 7, hpay 6, hpay 5, hpay 4, hpay 3, hpay 2, hpay 1, hpay 0]
  · obtain ⟨b, hb⟩ := blocks_cover y
    refine ⟨⟨Rect.unit (s := S32x1024) ![0, 128 * b.val] S32x128.size (inb b), pay b⟩, ?_, hb (inb b)⟩
    fin_cases b <;> simp

end Cert.Proof.Gather

end
-- ==== Proof.Trip.lean ====
/-
  ONE TRIP OF A TILE. The tile copies its next 32 words of both index arrays into its tile memory, starts sixteen
  indirect streams (eight column blocks of 128 for each index list), waits for them, and writes the 32 gathered rows
  of each result back. Run once, from the pieces the loop holds to the same pieces with the 32 rows at their values.
-/
module

public import proofs.«01_k».proof.Proof.Rows

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S38912x1024 EltTy.i32)
local notation "iaV" => (Memref.whole Cert.KernelIdeal.main_arg1_scv : Memref Cert.KernelIdeal.sig Kind.scVector Space.hbm Cert.KernelIdeal.S17408 EltTy.i32)
local notation "ibV" => (Memref.whole Cert.KernelIdeal.main_arg2_scv : Memref Cert.KernelIdeal.sig Kind.scVector Space.hbm Cert.KernelIdeal.S17408 EltTy.i32)
local notation "oaV" => (Memref.whole Cert.KernelIdeal.main_v0_0_scv : Memref Cert.KernelIdeal.sig Kind.scVector Space.hbm Cert.KernelIdeal.S17408x1024 EltTy.i32)
local notation "obV" => (Memref.whole Cert.KernelIdeal.main_v0_1_scv : Memref Cert.KernelIdeal.sig Kind.scVector Space.hbm Cert.KernelIdeal.S17408x1024 EltTy.i32)
local notation "laV" => (Memref.whole Cert.KernelIdeal.cc0_scratch0 : Memref Cert.KernelIdeal.sig Kind.scVector Space.vmem Cert.KernelIdeal.S32 EltTy.i32)
local notation "lbV" => (Memref.whole Cert.KernelIdeal.cc0_scratch1 : Memref Cert.KernelIdeal.sig Kind.scVector Space.vmem Cert.KernelIdeal.S32 EltTy.i32)
local notation "raV" => (Memref.whole Cert.KernelIdeal.cc0_scratch2 : Memref Cert.KernelIdeal.sig Kind.scVector Space.vmem Cert.KernelIdeal.S32x1024 EltTy.i32)
local notation "rbV" => (Memref.whole Cert.KernelIdeal.cc0_scratch3 : Memref Cert.KernelIdeal.sig Kind.scVector Space.vmem Cert.KernelIdeal.S32x1024 EltTy.i32)

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The 32 words of an index array, and the 32 rows of a result, that trip `k` names. -/
abbrev iRect (L : grid0.Coords) (k : Fin k0_t1_loop.trips) : Rect S17408 := Rect.unit (s := S17408) (k0_off1 L k) S32.size (k0_off1_inb L k)
abbrev oRect (L : grid0.Coords) (k : Fin k0_t1_loop.trips) : Rect S17408x1024 := Rect.unit (s := S17408x1024) (k0_off2 L k) S32x1024.size (k0_off2_inb L k)
abbrev oaW (L : grid0.Coords) (k : Fin k0_t1_loop.trips) : Memref sig .scVector .hbm S32x1024 .i32 := (oaV).slice (oRect L k) (fun _ => rfl)
abbrev obW (L : grid0.Coords) (k : Fin k0_t1_loop.trips) : Memref sig .scVector .hbm S32x1024 .i32 := (obV).slice (oRect L k) (fun _ => rfl)

/-- The two index lists of trip `k`, as the tile's memory holds them. -/
def listA (k : Fin k0_t1_loop.trips) : Buf (Elt F) ((laV).view.loc (VT d L)) := fun x => m (iaLoc d) ((iRect L k).emb x)
def listB (k : Fin k0_t1_loop.trips) : Buf (Elt F) ((lbV).view.loc (VT d L)) := fun x => m (ibLoc d) ((iRect L k).emb x)

abbrev csem (k : Nat) (hk : k < 20 := by decide) : DmaSem sig := ⟨k, hk⟩
/-- The twenty cells at zero, in the body's spelling. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0 ∗ semVal (VT d L, SemLoc.dma (csem 13)) 0 ∗ semVal (VT d L, SemLoc.dma (csem 14)) 0
    ∗ semVal (VT d L, SemLoc.dma (csem 15)) 0 ∗ semVal (VT d L, SemLoc.dma (csem 16)) 0 ∗ semVal (VT d L, SemLoc.dma (csem 17)) 0
    ∗ semVal (VT d L, SemLoc.dma (csem 18)) 0 ∗ semVal (VT d L, SemLoc.dma (csem 19)) 0)

/-- A table share as sixteen read tokens, one per stream in flight, in the body's spelling. -/
abbrev tabToks (q : PosShare TreeShare) : sProp 𝕄 :=
  iprop(((tV).view.loc (VT d L) ↦{Transfers.shareTokN q 0} m (tLoc d)) ∗ ((tV).view.loc (VT d L) ↦{Transfers.shareTokN q 1} m (tLoc d))
    ∗ ((tV).view.loc (VT d L) ↦{Transfers.shareTokN q 2} m (tLoc d)) ∗ ((tV).view.loc (VT d L) ↦{Transfers.shareTokN q 3} m (tLoc d))
    ∗ ((tV).view.loc (VT d L) ↦{Transfers.shareTokN q 4} m (tLoc d)) ∗ ((tV).view.loc (VT d L) ↦{Transfers.shareTokN q 5} m (tLoc d))
    ∗ ((tV).view.loc (VT d L) ↦{Transfers.shareTokN q 6} m (tLoc d)) ∗ ((tV).view.loc (VT d L) ↦{Transfers.shareTokN q 7} m (tLoc d))
    ∗ ((tV).view.loc (VT d L) ↦{Transfers.shareTokN q 8} m (tLoc d)) ∗ ((tV).view.loc (VT d L) ↦{Transfers.shareTokN q 9} m (tLoc d))
    ∗ ((tV).view.loc (VT d L) ↦{Transfers.shareTokN q 10} m (tLoc d)) ∗ ((tV).view.loc (VT d L) ↦{Transfers.shareTokN q 11} m (tLoc d))
    ∗ ((tV).view.loc (VT d L) ↦{Transfers.shareTokN q 12} m (tLoc d)) ∗ ((tV).view.loc (VT d L) ↦{Transfers.shareTokN q 13} m (tLoc d))
    ∗ ((tV).view.loc (VT d L) ↦{Transfers.shareTokN q 14} m (tLoc d)) ∗ ((tV).view.loc (VT d L) ↦{Transfers.shareTokN q 15} m (tLoc d)))

omit F in
/-- A whole buffer as what stays and eight read tokens of it. -/
theorem toks8 {F : FTy → Type} {ℓ : Loc nD τ sig} (I : Finset (Idx ℓ)) (f : Buf (Elt F) ℓ) (q : PosShare TreeShare) :
    (ℓ ↦[I]{q} f : sProp (MT nD τ sig (HIx 1) (Elt F) ℕ UU ℕ)) ⊣⊢ iprop((ℓ ↦[I]{Transfers.shareDrop q 8} f)
      ∗ (ℓ ↦[I]{Transfers.shareTokN q 0} f) ∗ (ℓ ↦[I]{Transfers.shareTokN q 1} f) ∗ (ℓ ↦[I]{Transfers.shareTokN q 2} f) ∗ (ℓ ↦[I]{Transfers.shareTokN q 3} f)
      ∗ (ℓ ↦[I]{Transfers.shareTokN q 4} f) ∗ (ℓ ↦[I]{Transfers.shareTokN q 5} f) ∗ (ℓ ↦[I]{Transfers.shareTokN q 6} f) ∗ (ℓ ↦[I]{Transfers.shareTokN q 7} f)) := by
  have h := Transfers.pointsTo_toks_range (nD := nD) (τ := τ) (sig := sig) (Ix := HIx 1) (Val := Elt F) (Name := ℕ) (U := UU) (Lvl := ℕ) (ℓ := ℓ) (S := I) (f := f) q 8
  rw [show Finset.range 8 = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton] at h
  exact h

variable [FloatOps F]

theorem inbA (hpre : PreOK m) (k : Fin k0_t1_loop.trips) : ∀ x, (View.read (Elt F) (laV).view (listA m d L k) x).toNat < 38912 :=
  fun x => (hpre d _).1
theorem inbB (hpre : PreOK m) (k : Fin k0_t1_loop.trips) : ∀ x, (View.read (Elt F) (lbV).view (listB m d L k) x).toNat < 38912 :=
  fun x => (hpre d _).2

omit [FloatOps F] in
/-- What the index copies land in the tile's memory is the trip's list. -/
theorem pts_listA (k : Fin k0_t1_loop.trips) (g : Buf (Elt F) ((laV).view.loc (VT d L))) (pay : S32.Idx → Elt F .i32)
    (hpay : pay = listA m d L k) :
    ((laV).view.loc (VT d L) ↦[(laV).view.set]{fullShare} (laV).view.writes (Elt F) g [⟨Rect.whole cc0_scratch0.ty.shape, pay⟩] : sProp 𝕄)
      = ((laV).view.loc (VT d L) ↦[(laV).view.set]{fullShare} listA m d L k) := by
  subst hpay
  exact pointsTo_congr fun i _ => congrFun (View.read_writes_whole (laV).view g (listA m d L k)) i
omit [FloatOps F] in
theorem pts_listB (k : Fin k0_t1_loop.trips) (g : Buf (Elt F) ((lbV).view.loc (VT d L))) (pay : S32.Idx → Elt F .i32)
    (hpay : pay = listB m d L k) :
    ((lbV).view.loc (VT d L) ↦[(lbV).view.set]{fullShare} (lbV).view.writes (Elt F) g [⟨Rect.whole cc0_scratch1.ty.shape, pay⟩] : sProp 𝕄)
      = ((lbV).view.loc (VT d L) ↦[(lbV).view.set]{fullShare} listB m d L k) := by
  subst hpay
  exact pointsTo_congr fun i _ => congrFun (View.read_writes_whole (lbV).view g (listB m d L k)) i

omit [FloatOps F] in
/-- Trip `k`'s rows of a result are the rows the trip's list names. -/
theorem rows_outA (k : Fin k0_t1_loop.trips) (y : S32x1024.Idx) : rowsAt (m (tLoc d)) (listA m d L k) y = OUTa m d ((oRect L k).emb y) := by
  refine congrArg (m (tLoc d)) (funext fun a => ?_)
  match a with
  | 0 =>
    refine congrArg (fun w => rowOf (m (iaLoc d) w)) (funext fun b => ?_)
    match b with
    | 0 => exact Fin.ext (by rw [Rect.emb_apply]; show k0_off1 L k 0 + 1 * (y 0).val = k0_off2 L k 0 + 1 * (y 0).val; rw [k0_off1_eq, k0_off2_eq]; rfl)
  | 1 => exact Fin.ext (by rw [Rect.emb_apply]; show (y 1).val = k0_off2 L k 1 + 1 * (y 1).val; rw [k0_off2_eq]; show (y 1).val = 0 + 1 * (y 1).val; omega)
omit [FloatOps F] in
theorem rows_outB (k : Fin k0_t1_loop.trips) (y : S32x1024.Idx) : rowsAt (m (tLoc d)) (listB m d L k) y = OUTb m d ((oRect L k).emb y) := by
  refine congrArg (m (tLoc d)) (funext fun a => ?_)
  match a with
  | 0 =>
    refine congrArg (fun w => rowOf (m (ibLoc d) w)) (funext fun b => ?_)
    match b with
    | 0 => exact Fin.ext (by rw [Rect.emb_apply]; show k0_off1 L k 0 + 1 * (y 0).val = k0_off2 L k 0 + 1 * (y 0).val; rw [k0_off1_eq, k0_off2_eq]; rfl)
  | 1 => exact Fin.ext (by rw [Rect.emb_apply]; show (y 1).val = k0_off2 L k 1 + 1 * (y 1).val; rw [k0_off2_eq]; show (y 1).val = 0 + 1 * (y 1).val; omega)

omit [FloatOps F] in
/-- A trip's window of a result is its 32 rows. -/
theorem oaW_set (k : Fin k0_t1_loop.trips) : (oaW L k).view.set = (oRect L k).set := by
  show ((View.whole (main_v0_0_scv : Ref sig .scVector)).slice (oRect L k)).set = _
  rw [View.set_slice]; exact Finset.map_refl
theorem obW_set (k : Fin k0_t1_loop.trips) : (obW L k).view.set = (oRect L k).set := by
  show ((View.whole (main_v0_1_scv : Ref sig .scVector)).slice (oRect L k)).set = _
  rw [View.set_slice]; exact Finset.map_refl

omit [FloatOps F] in
/-- What a write-back leaves in the trip's rows of a result. -/
theorem pts_outA (k : Fin k0_t1_loop.trips) (f : Buf (Elt F) (oaLoc d)) (pay : S32x1024.Idx → Elt F .i32)
    (hpay : ∀ y, pay y = rowsAt (m (tLoc d)) (listA m d L k) y) :
    ((oaW L k).view.loc (VT d L) ↦[(oaW L k).view.set]{fullShare} (oaW L k).view.writes (Elt F) f [⟨Rect.whole S32x1024, pay⟩] : sProp 𝕄)
      = ((oaW L k).view.loc (VT d L) ↦[(oaW L k).view.set]{fullShare} OUTa m d) := by
  refine pointsTo_congr fun i hi => ?_
  have hi' : i ∈ (oRect L k).set := by rw [← oaW_set]; exact hi
  obtain ⟨y, hy⟩ : ∃ y, (oRect L k).emb y = i := (oRect L k).exists_idx_of_mem hi'
  have h := congrFun (View.read_writes_whole (oaW L k).view f pay) y
  rw [View.read_apply, hpay y, rows_outA, hy] at h
  have he : (oaW L k).view.emb y = i := Eq.trans rfl hy
  rw [he] at h
  exact (cast_eq rfl _).symm.trans h
omit [FloatOps F] in
theorem pts_outB (k : Fin k0_t1_loop.trips) (f : Buf (Elt F) (obLoc d)) (pay : S32x1024.Idx → Elt F .i32)
    (hpay : ∀ y, pay y = rowsAt (m (tLoc d)) (listB m d L k) y) :
    ((obW L k).view.loc (VT d L) ↦[(obW L k).view.set]{fullShare} (obW L k).view.writes (Elt F) f [⟨Rect.whole S32x1024, pay⟩] : sProp 𝕄)
      = ((obW L k).view.loc (VT d L) ↦[(obW L k).view.set]{fullShare} OUTb m d) := by
  refine pointsTo_congr fun i hi => ?_
  have hi' : i ∈ (oRect L k).set := by rw [← obW_set]; exact hi
  obtain ⟨y, hy⟩ : ∃ y, (oRect L k).emb y = i := (oRect L k).exists_idx_of_mem hi'
  have h := congrFun (View.read_writes_whole (obW L k).view f pay) y
  rw [View.read_apply, hpay y, rows_outB, hy] at h
  have he : (obW L k).view.emb y = i := Eq.trans rfl hy
  rw [he] at h
  exact (cast_eq rfl _).symm.trans h

/-- The trip's program, over the arrays and the tile's own memory and cells. -/
abbrev tripProg (L : grid0.Coords) (k : Fin k0_t1_loop.trips) (v2 : BitVec 32) :=
  k0_t1_body (F := F) L tV (Memref.isWhole_whole _) iaV (Memref.isWhole_whole _) ibV (Memref.isWhole_whole _) oaV (Memref.isWhole_whole _)
    obV (Memref.isWhole_whole _) laV (Memref.isWhole_whole _) lbV (Memref.isWhole_whole _) raV (Memref.isWhole_whole _) rbV (Memref.isWhole_whole _)
    cc0_scratch4 cc0_scratch5 cc0_scratch6 cc0_scratch7 cc0_scoped0 cc0_scoped1 v2 k ()

set_option maxHeartbeats 4000000 in
theorem trip_run (hpre : PreOK m) (q : PosShare TreeShare) (k : Fin k0_t1_loop.trips) (v2 : BitVec 32) (O : CellTallies nD τ sig (HIx 1)) (W : Waits sig (HIx 1))
    (la : Buf (Elt F) ((laV).view.loc (VT d L))) (lb : Buf (Elt F) ((lbV).view.loc (VT d L)))
    (ra : Buf (Elt F) ((raV).view.loc (VT d L))) (rb : Buf (Elt F) ((rbV).view.loc (VT d L)))
    (fa : Buf (Elt F) (oaLoc d)) (fb : Buf (Elt F) (obLoc d)) :
    (iprop(Transfers.MayWaits (VT d L) (default : HIx 1) O
        ∗ tabToks m d L q
        ∗ ((iaV).view.loc (VT d L) ↦{q} m (iaLoc d)) ∗ ((ibV).view.loc (VT d L) ↦{q} m (ibLoc d))
        ∗ ((oaW L k).view.loc (VT d L) ↦[(oaW L k).view.set]{fullShare} fa)
        ∗ ((obW L k).view.loc (VT d L) ↦[(obW L k).view.set]{fullShare} fb)
        ∗ ((laV).view.loc (VT d L) ↦[(laV).view.set]{fullShare} la) ∗ ((lbV).view.loc (VT d L) ↦[(lbV).view.set]{fullShare} lb)
        ∗ ((raV).view.loc (VT d L) ↦[(raV).view.set]{fullShare} ra) ∗ ((rbV).view.loc (VT d L) ↦[(rbV).view.set]{fullShare} rb)
        ∗ cells0 d L
        ∗ owes (VT d L) O W) : sProp 𝕄)
      ⊢ wp frame (wpE (defs₀ (F := F)) 𝒱₀ (VT d L) none) Set.univ (tripProg L k v2)
          fun _ => iprop(tabToks m d L q
            ∗ ((iaV).view.loc (VT d L) ↦{q} m (iaLoc d)) ∗ ((ibV).view.loc (VT d L) ↦{q} m (ibLoc d))
            ∗ ((oaW L k).view.loc (VT d L) ↦[(oaW L k).view.set]{fullShare} OUTa m d)
            ∗ ((obW L k).view.loc (VT d L) ↦[(obW L k).view.set]{fullShare} OUTb m d)
            ∗ (∃ g, (laV).view.loc (VT d L) ↦[(laV).view.set]{fullShare} g) ∗ (∃ g, (lbV).view.loc (VT d L) ↦[(lbV).view.set]{fullShare} g)
            ∗ (∃ g, (raV).view.loc (VT d L) ↦[(raV).view.set]{fullShare} g) ∗ (∃ g, (rbV).view.loc (VT d L) ↦[(rbV).view.set]{fullShare} g)
            ∗ cells0 d L
            ∗ ∃ W', owes (VT d L) O W') := by
  iintro ⟨#Hmw, ⟨Ht0, Ht1, Ht2, Ht3, Ht4, Ht5, Ht6, Ht7, Ht8, Ht9, Ht10, Ht11, Ht12, Ht13, Ht14, Ht15⟩, Hia, Hib, Hoa, Hob, Hla, Hlb, Hra, Hrb,
    ⟨Hc0, Hc1, Hc2, Hc3, Hc4, Hc5, Hc6, Hc7, Hc8, Hc9, Hc10, Hc11, Hc12, Hc13, Hc14, Hc15, Hc16, Hc17, Hc18, Hc19⟩, HO⟩
  unfold tripProg k0_t1_body
  sl_unfold [k0_part1]
  sl_exec
  -- the two lists at their words, each as what stays and eight read tokens (eight streams of it are in flight at once)
  have hA := inbA m d L hpre k
  have hB := inbB m d L hpre k
  ihave Hla' := (Entails.of_eq (pts_listA m d L k _ (trip_run.sl.dma0 m d L k) rfl)) $$ Hla
  ihave Hlb' := (Entails.of_eq (pts_listB m d L k _ (trip_run.sl.dma0_1 m d L k) rfl)) $$ Hlb
  ihave Hla'' := (toks8 _ _ _).1 $$ Hla'
  ihave Hlb'' := (toks8 _ _ _).1 $$ Hlb'
  icases Hla'' with ⟨Hlar, Hla0, Hla1, Hla2, Hla3, Hla4, Hla5, Hla6, Hla7⟩
  icases Hlb'' with ⟨Hlbr, Hlb0, Hlb1, Hlb2, Hlb3, Hlb4, Hlb5, Hlb6, Hlb7⟩
  sl_exec
  sl_step
  ihave Hla := (toks8 _ _ _).2 $$ [Hlar Hla0 Hla1 Hla2 Hla3 Hla4 Hla5 Hla6 Hla7]
  · isplitl [Hlar]; · iexact Hlar
    isplitl [Hla0]; · iexact Hla0
    isplitl [Hla1]; · iexact Hla1
    isplitl [Hla2]; · iexact Hla2
    isplitl [Hla3]; · iexact Hla3
    isplitl [Hla4]; · iexact Hla4
    isplitl [Hla5]; · iexact Hla5
    isplitl [Hla6]; · iexact Hla6
    iexact Hla7
  ihave Hlb := (toks8 _ _ _).2 $$ [Hlbr Hlb0 Hlb1 Hlb2 Hlb3 Hlb4 Hlb5 Hlb6 Hlb7]
  · isplitl [Hlbr]; · iexact Hlbr
    isplitl [Hlb0]; · iexact Hlb0
    isplitl [Hlb1]; · iexact Hlb1
    isplitl [Hlb2]; · iexact Hlb2
    isplitl [Hlb3]; · iexact Hlb3
    isplitl [Hlb4]; · iexact Hlb4
    isplitl [Hlb5]; · iexact Hlb5
    isplitl [Hlb6]; · iexact Hlb6
    iexact Hlb7
  have pA0 : ∀ x, trip_run.sl.gather0 m d L k hA x = rowsAt (m (tLoc d)) (listA m d L k) ((Rect.unit (s := S32x1024) ![0, 0] S32x128.size (by decide)).emb x) :=
    fun x => piece_at 0 (m (tLoc d)) (listA m d L k) (by decide) (by decide) gathers_S38912x128_S32x128 rfl hA x
  have pA1 : ∀ x, trip_run.sl.gather1 m d L k hA x = rowsAt (m (tLoc d)) (listA m d L k) ((Rect.unit (s := S32x1024) ![0, 128] S32x128.size (by decide)).emb x) :=
    fun x => piece_at 128 (m (tLoc d)) (listA m d L k) (by decide) (by decide) gathers_S38912x128_S32x128 rfl hA x
  have pA2 : ∀ x, trip_run.sl.gather2 m d L k hA x = rowsAt (m (tLoc d)) (listA m d L k) ((Rect.unit (s := S32x1024) ![0, 256] S32x128.size (by decide)).emb x) :=
    fun x => piece_at 256 (m (tLoc d)) (listA m d L k) (by decide) (by decide) gathers_S38912x128_S32x128 rfl hA x
  have pA3 : ∀ x, trip_run.sl.gather3 m d L k hA x = rowsAt (m (tLoc d)) (listA m d L k) ((Rect.unit (s := S32x1024) ![0, 384] S32x128.size (by decide)).emb x) :=
    fun x => piece_at 384 (m (tLoc d)) (listA m d L k) (by decide) (by decide) gathers_S38912x128_S32x128 rfl hA x
  have pA4 : ∀ x, trip_run.sl.gather4 m d L k hA x = rowsAt (m (tLoc d)) (listA m d L k) ((Rect.unit (s := S32x1024) ![0, 512] S32x128.size (by decide)).emb x) :=
    fun x => piece_at 512 (m (tLoc d)) (listA m d L k) (by decide) (by decide) gathers_S38912x128_S32x128 rfl hA x
  have pA5 : ∀ x, trip_run.sl.gather5 m d L k hA x = rowsAt (m (tLoc d)) (listA m d L k) ((Rect.unit (s := S32x1024) ![0, 640] S32x128.size (by decide)).emb x) :=
    fun x => piece_at 640 (m (tLoc d)) (listA m d L k) (by decide) (by decide) gathers_S38912x128_S32x128 rfl hA x
  have pA6 : ∀ x, trip_run.sl.gather6 m d L k hA x = rowsAt (m (tLoc d)) (listA m d L k) ((Rect.unit (s := S32x1024) ![0, 768] S32x128.size (by decide)).emb x) :=
    fun x => piece_at 768 (m (tLoc d)) (listA m d L k) (by decide) (by decide) gathers_S38912x128_S32x128 rfl hA x
  have pA7 : ∀ x, trip_run.sl.gather7 m d L k hA x = rowsAt (m (tLoc d)) (listA m d L k) ((Rect.unit (s := S32x1024) ![0, 896] S32x128.size (by decide)).emb x) :=
    fun x => piece_at 896 (m (tLoc d)) (listA m d L k) (by decide) (by decide) gathers_S38912x128_S32x128 rfl hA x
  have qA := read_blocks (raV).view ra (rowsAt (m (tLoc d)) (listA m d L k)) ![0, 128, 256, 384, 512, 640, 768, 896] (by decide) (by decide)
    ![trip_run.sl.gather0 m d L k hA, trip_run.sl.gather1 m d L k hA, trip_run.sl.gather2 m d L k hA, trip_run.sl.gather3 m d L k hA, trip_run.sl.gather4 m d L k hA, trip_run.sl.gather5 m d L k hA, trip_run.sl.gather6 m d L k hA, trip_run.sl.gather7 m d L k hA] (by
      intro b; fin_cases b
      exacts [pA0, pA1, pA2, pA3, pA4, pA5, pA6, pA7])
  have qA' : ∀ y, trip_run.sl.dma0_2 m d L k ra hA y = rowsAt (m (tLoc d)) (listA m d L k) y := fun y => congrFun qA y
  ihave Hoa' := (Entails.of_eq (pts_outA m d L k fa (trip_run.sl.dma0_2 m d L k ra hA) qA')) $$ Hoa
  have pB0 : ∀ x, trip_run.sl.gather8 m d L k hB x = rowsAt (m (tLoc d)) (listB m d L k) ((Rect.unit (s := S32x1024) ![0, 0] S32x128.size (by decide)).emb x) :=
    fun x => piece_at 0 (m (tLoc d)) (listB m d L k) (by decide) (by decide) gathers_S38912x128_S32x128 rfl hB x
  have pB1 : ∀ x, trip_run.sl.gather9 m d L k hB x = rowsAt (m (tLoc d)) (listB m d L k) ((Rect.unit (s := S32x1024) ![0, 128] S32x128.size (by decide)).emb x) :=
    fun x => piece_at 128 (m (tLoc d)) (listB m d L k) (by decide) (by decide) gathers_S38912x128_S32x128 rfl hB x
  have pB2 : ∀ x, trip_run.sl.gather10 m d L k hB x = rowsAt (m (tLoc d)) (listB m d L k) ((Rect.unit (s := S32x1024) ![0, 256] S32x128.size (by decide)).emb x) :=
    fun x => piece_at 256 (m (tLoc d)) (listB m d L k) (by decide) (by decide) gathers_S38912x128_S32x128 rfl hB x
  have pB3 : ∀ x, trip_run.sl.gather11 m d L k hB x = rowsAt (m (tLoc d)) (listB m d L k) ((Rect.unit (s := S32x1024) ![0, 384] S32x128.size (by decide)).emb x) :=
    fun x => piece_at 384 (m (tLoc d)) (listB m d L k) (by decide) (by decide) gathers_S38912x128_S32x128 rfl hB x
  have pB4 : ∀ x, trip_run.sl.gather12 m d L k hB x = rowsAt (m (tLoc d)) (listB m d L k) ((Rect.unit (s := S32x1024) ![0, 512] S32x128.size (by decide)).emb x) :=
    fun x => piece_at 512 (m (tLoc d)) (listB m d L k) (by decide) (by decide) gathers_S38912x128_S32x128 rfl hB x
  have pB5 : ∀ x, trip_run.sl.gather13 m d L k hB x = rowsAt (m (tLoc d)) (listB m d L k) ((Rect.unit (s := S32x1024) ![0, 640] S32x128.size (by decide)).emb x) :=
    fun x => piece_at 640 (m (tLoc d)) (listB m d L k) (by decide) (by decide) gathers_S38912x128_S32x128 rfl hB x
  have pB6 : ∀ x, trip_run.sl.gather14 m d L k hB x = rowsAt (m (tLoc d)) (listB m d L k) ((Rect.unit (s := S32x1024) ![0, 768] S32x128.size (by decide)).emb x) :=
    fun x => piece_at 768 (m (tLoc d)) (listB m d L k) (by decide) (by decide) gathers_S38912x128_S32x128 rfl hB x
  have pB7 : ∀ x, trip_run.sl.gather15 m d L k hB x = rowsAt (m (tLoc d)) (listB m d L k) ((Rect.unit (s := S32x1024) ![0, 896] S32x128.size (by decide)).emb x) :=
    fun x => piece_at 896 (m (tLoc d)) (listB m d L k) (by decide) (by decide) gathers_S38912x128_S32x128 rfl hB x
  have qB := read_blocks (rbV).view rb (rowsAt (m (tLoc d)) (listB m d L k)) ![0, 128, 256, 384, 512, 640, 768, 896] (by decide) (by decide)
    ![trip_run.sl.gather8 m d L k hB, trip_run.sl.gather9 m d L k hB, trip_run.sl.gather10 m d L k hB, trip_run.sl.gather11 m d L k hB, trip_run.sl.gather12 m d L k hB, trip_run.sl.gather13 m d L k hB, trip_run.sl.gather14 m d L k hB, trip_run.sl.gather15 m d L k hB] (by
      intro b; fin_cases b
      exacts [pB0, pB1, pB2, pB3, pB4, pB5, pB6, pB7])
  have qB' : ∀ y, trip_run.sl.dma0_3 m d L k rb hB y = rowsAt (m (tLoc d)) (listB m d L k) y := fun y => congrFun qB y
  ihave Hob' := (Entails.of_eq (pts_outB m d L k fb (trip_run.sl.dma0_3 m d L k rb hB) qB')) $$ Hob
  isplitl [Ht0 Ht1 Ht2 Ht3 Ht4 Ht5 Ht6 Ht7 Ht8 Ht9 Ht10 Ht11 Ht12 Ht13 Ht14 Ht15]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    iexact Ht15
  isplitl [Hia]; · iexact Hia
  isplitl [Hib]; · iexact Hib
  isplitl [Hoa']; · iexact Hoa'
  isplitl [Hob']; · iexact Hob'
  isplitl [Hla]; · iexists _; iexact Hla
  isplitl [Hlb]; · iexists _; iexact Hlb
  isplitl [Hra]; · iexists _; iexact Hra
  isplitl [Hrb]; · iexists _; iexact Hrb
  isplitl [Hc0 Hc1 Hc2 Hc3 Hc4 Hc5 Hc6 Hc7 Hc8 Hc9 Hc10 Hc11 Hc12 Hc13 Hc14 Hc15 Hc16 Hc17 Hc18 Hc19]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    iexact Hc19
  iexists _
  iexact HO

end Cert.Proof.Gather

end
-- ==== Proof.Tile.lean ====
/-
  ONE TILE'S TASK. Seventeen trips of the loop, each by `trip_run`, fill the tile's 544 rows of both results in order; then
  the tile's task from what the launch deals it to what it hands back, and the obligation the launch theorem asks.
-/
module

public import proofs.«01_k».proof.Proof.Trip

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S38912x1024 EltTy.i32)
local notation "iaV" => (Memref.whole Cert.KernelIdeal.main_arg1_scv : Memref Cert.KernelIdeal.sig Kind.scVector Space.hbm Cert.KernelIdeal.S17408 EltTy.i32)
local notation "ibV" => (Memref.whole Cert.KernelIdeal.main_arg2_scv : Memref Cert.KernelIdeal.sig Kind.scVector Space.hbm Cert.KernelIdeal.S17408 EltTy.i32)
local notation "oaV" => (Memref.whole Cert.KernelIdeal.main_v0_0_scv : Memref Cert.KernelIdeal.sig Kind.scVector Space.hbm Cert.KernelIdeal.S17408x1024 EltTy.i32)
local notation "obV" => (Memref.whole Cert.KernelIdeal.main_v0_1_scv : Memref Cert.KernelIdeal.sig Kind.scVector Space.hbm Cert.KernelIdeal.S17408x1024 EltTy.i32)
local notation "laV" => (Memref.whole Cert.KernelIdeal.cc0_scratch0 : Memref Cert.KernelIdeal.sig Kind.scVector Space.vmem Cert.KernelIdeal.S32 EltTy.i32)
local notation "lbV" => (Memref.whole Cert.KernelIdeal.cc0_scratch1 : Memref Cert.KernelIdeal.sig Kind.scVector Space.vmem Cert.KernelIdeal.S32 EltTy.i32)
local notation "raV" => (Memref.whole Cert.KernelIdeal.cc0_scratch2 : Memref Cert.KernelIdeal.sig Kind.scVector Space.vmem Cert.KernelIdeal.S32x1024 EltTy.i32)
local notation "rbV" => (Memref.whole Cert.KernelIdeal.cc0_scratch3 : Memref Cert.KernelIdeal.sig Kind.scVector Space.vmem Cert.KernelIdeal.S32x1024 EltTy.i32)

variable (m : (ℓ : Loc nD τ sig) → Buf (Elt F) ℓ) (d : Dev nD) (L : grid0.Coords)

/-! ## The rows filled so far -/

/-- The tile's rows. -/
abbrev tset (L : grid0.Coords) : Finset S17408x1024.Idx := tileSet ⟨(L 0).val, (L 0).isLt⟩ ⟨(L 1).val, (L 1).isLt⟩
/-- The first row trip `k` fills. -/
abbrev rowAt (L : grid0.Coords) (k : ℕ) : ℕ := 1088 * (L 1).val + 544 * (L 0).val + 32 * k

/-- A result whose rows below `n` hold `g`, the others `f`. -/
def upTo (n : ℕ) (g f : S17408x1024.Idx → BitVec 32) : S17408x1024.Idx → BitVec 32 := fun x => if (x 0).val < n then g x else f x

theorem mem_oRect {k : Fin k0_t1_loop.trips} {x : S17408x1024.Idx} : x ∈ (oRect L k).set ↔ rowAt L k.val ≤ (x 0).val ∧ (x 0).val < rowAt L (k.val + 1) := by
  have h1 : (x 1).val < 1024 := (x 1).isLt
  have e : rowAt L (k.val + 1) = 1088 * (L 1).val + 544 * (L 0).val + 32 * (k.val + 1) := rfl
  have e' : rowAt L k.val = 1088 * (L 1).val + 544 * (L 0).val + 32 * k.val := rfl
  rw [Rect.mem_set_unit, k0_off2_eq]
  constructor
  · intro h
    have h0 := h 0
    exact ⟨h0.1, lt_of_lt_of_eq h0.2 (show 1088 * (L 1).val + 544 * (L 0).val + 32 * k.val + 32 = _ by omega)⟩
  · rintro ⟨ha, hb⟩ a
    match a with
    | 0 => exact ⟨ha, lt_of_lt_of_eq hb (show _ = 1088 * (L 1).val + 544 * (L 0).val + 32 * k.val + 32 by omega)⟩
    | 1 => exact ⟨Nat.zero_le _, by show (x 1).val < 0 + 1024; omega⟩

theorem oRect_sub (k : Fin k0_t1_loop.trips) : (oRect L k).set ⊆ tset L := by
  intro x hx
  have hk : k.val < 17 := k.isLt
  have hc : (L 0).val < 2 := (L 0).isLt
  have e : rowAt L (k.val + 1) = 1088 * (L 1).val + 544 * (L 0).val + 32 * (k.val + 1) := rfl
  have e' : rowAt L k.val = 1088 * (L 1).val + 544 * (L 0).val + 32 * k.val := rfl
  obtain ⟨h1, h2⟩ := (mem_oRect L).mp hx
  simp only [tset, tileSet, Finset.mem_filter, Finset.mem_univ, true_and]
  omega

/-- On the tile's rows, before the first trip nothing is filled; -/
theorem upTo_start (g f : S17408x1024.Idx → BitVec 32) : ∀ x ∈ tset L, f x = upTo (rowAt L 0) g f x := by
  intro x hx
  simp only [tset, tileSet, Finset.mem_filter, Finset.mem_univ, true_and] at hx
  have e : rowAt L 0 = 1088 * (L 1).val + 544 * (L 0).val + 32 * 0 := rfl
  unfold upTo
  rw [if_neg (by omega)]
/-- after the last everything; -/
theorem upTo_end (g f : S17408x1024.Idx → BitVec 32) : ∀ x ∈ tset L, upTo (rowAt L 17) g f x = g x := by
  intro x hx
  simp only [tset, tileSet, Finset.mem_filter, Finset.mem_univ, true_and] at hx
  have e : rowAt L 17 = 1088 * (L 1).val + 544 * (L 0).val + 32 * 17 := rfl
  unfold upTo
  rw [if_pos (by omega)]
/-- trip `k` fills its own rows -/
theorem upTo_in (k : Fin k0_t1_loop.trips) (g f : S17408x1024.Idx → BitVec 32) : ∀ x ∈ (oRect L k).set, g x = upTo (rowAt L (k.val + 1)) g f x := by
  intro x hx
  have h := (mem_oRect L).mp hx
  unfold upTo
  rw [if_pos h.2]
/-- and no other. -/
theorem upTo_out (k : Fin k0_t1_loop.trips) (g f : S17408x1024.Idx → BitVec 32) :
    ∀ x ∈ tset L \ (oRect L k).set, upTo (rowAt L k.val) g f x = upTo (rowAt L (k.val + 1)) g f x := by
  intro x hx
  have h := fun h' => (Finset.mem_sdiff.mp hx).2 ((mem_oRect L).mpr h')
  have e : rowAt L (k.val + 1) = 1088 * (L 1).val + 544 * (L 0).val + 32 * (k.val + 1) := rfl
  have e' : rowAt L k.val = 1088 * (L 1).val + 544 * (L 0).val + 32 * k.val := rfl
  unfold upTo
  by_cases h1 : (x 0).val < rowAt L k.val
  · rw [if_pos h1, if_pos (by omega)]
  · rw [if_neg h1, if_neg (fun h2 => h ⟨by omega, h2⟩)]

/-! ## The pieces in the body's spelling -/

theorem pts_oaW (k : Fin k0_t1_loop.trips) (f : Buf (Elt F) (oaLoc d)) :
    ((oaW L k).view.loc (VT d L) ↦[(oaW L k).view.set]{fullShare} f : sProp 𝕄) = oaLoc d ↦[(oRect L k).set]{fullShare} f := by
  rw [oaW_set]
theorem pts_obW (k : Fin k0_t1_loop.trips) (f : Buf (Elt F) (obLoc d)) :
    ((obW L k).view.loc (VT d L) ↦[(obW L k).view.set]{fullShare} f : sProp 𝕄) = obLoc d ↦[(oRect L k).set]{fullShare} f := by
  rw [obW_set]
theorem pts_laV (f : Buf (Elt F) ((VT d L).loc cc0_scratch0)) :
    ((laV).view.loc (VT d L) ↦[(laV).view.set]{fullShare} f : sProp 𝕄) = (VT d L).loc cc0_scratch0 ↦{fullShare} f := by
  rw [View.set_whole]
theorem pts_lbV (f : Buf (Elt F) ((VT d L).loc cc0_scratch1)) :
    ((lbV).view.loc (VT d L) ↦[(lbV).view.set]{fullShare} f : sProp 𝕄) = (VT d L).loc cc0_scratch1 ↦{fullShare} f := by
  rw [View.set_whole]
theorem pts_raV (f : Buf (Elt F) ((VT d L).loc cc0_scratch2)) :
    ((raV).view.loc (VT d L) ↦[(raV).view.set]{fullShare} f : sProp 𝕄) = (VT d L).loc cc0_scratch2 ↦{fullShare} f := by
  rw [View.set_whole]
theorem pts_rbV (f : Buf (Elt F) ((VT d L).loc cc0_scratch3)) :
    ((rbV).view.loc (VT d L) ↦[(rbV).view.set]{fullShare} f : sProp 𝕄) = (VT d L).loc cc0_scratch3 ↦{fullShare} f := by
  rw [View.set_whole]

/-- Carving trip `k`'s rows out of the tile's, `k` trips filled; -/
theorem carve_a (k : Fin k0_t1_loop.trips) (f : Buf (Elt F) (oaLoc d)) : (oaLoc d ↦[tset L]{fullShare} f : sProp 𝕄)
    ⊢ iprop((oaLoc d ↦[(oRect L k).set]{fullShare} f) ∗ (oaLoc d ↦[tset L \ (oRect L k).set]{fullShare} f)) :=
  (pointsTo_split_subset (oRect_sub L k)).1
theorem carve_b (k : Fin k0_t1_loop.trips) (f : Buf (Elt F) (obLoc d)) : (obLoc d ↦[tset L]{fullShare} f : sProp 𝕄)
    ⊢ iprop((obLoc d ↦[(oRect L k).set]{fullShare} f) ∗ (obLoc d ↦[tset L \ (oRect L k).set]{fullShare} f)) :=
  (pointsTo_split_subset (oRect_sub L k)).1
/-- and putting them back filled. -/
theorem fill_a (k : Fin k0_t1_loop.trips) (g f : Buf (Elt F) (oaLoc d)) :
    (iprop((oaLoc d ↦[(oRect L k).set]{fullShare} g) ∗ (oaLoc d ↦[tset L \ (oRect L k).set]{fullShare} upTo (rowAt L k.val) g f)) : sProp 𝕄)
      ⊢ (oaLoc d ↦[tset L]{fullShare} upTo (rowAt L (k.val + 1)) g f) := by
  have h1 : (oaLoc d ↦[(oRect L k).set]{fullShare} g : sProp 𝕄) = (oaLoc d ↦[(oRect L k).set]{fullShare} upTo (rowAt L (k.val + 1)) g f) :=
    pointsTo_congr (upTo_in L k g f)
  have h2 : (oaLoc d ↦[tset L \ (oRect L k).set]{fullShare} upTo (rowAt L k.val) g f : sProp 𝕄)
      = (oaLoc d ↦[tset L \ (oRect L k).set]{fullShare} upTo (rowAt L (k.val + 1)) g f) := pointsTo_congr (upTo_out L k g f)
  rw [h1, h2]
  exact (pointsTo_split_subset (oRect_sub L k)).2
theorem fill_b (k : Fin k0_t1_loop.trips) (g f : Buf (Elt F) (obLoc d)) :
    (iprop((obLoc d ↦[(oRect L k).set]{fullShare} g) ∗ (obLoc d ↦[tset L \ (oRect L k).set]{fullShare} upTo (rowAt L k.val) g f)) : sProp 𝕄)
      ⊢ (obLoc d ↦[tset L]{fullShare} upTo (rowAt L (k.val + 1)) g f) := by
  have h1 : (obLoc d ↦[(oRect L k).set]{fullShare} g : sProp 𝕄) = (obLoc d ↦[(oRect L k).set]{fullShare} upTo (rowAt L (k.val + 1)) g f) :=
    pointsTo_congr (upTo_in L k g f)
  have h2 : (obLoc d ↦[tset L \ (oRect L k).set]{fullShare} upTo (rowAt L k.val) g f : sProp 𝕄)
      = (obLoc d ↦[tset L \ (oRect L k).set]{fullShare} upTo (rowAt L (k.val + 1)) g f) := pointsTo_congr (upTo_out L k g f)
  rw [h1, h2]
  exact (pointsTo_split_subset (oRect_sub L k)).2

/-- A share of the table as what stays and sixteen read tokens, one per stream in flight. -/
theorem toks16 (q : PosShare TreeShare) :
    (tLoc d ↦{q} m (tLoc d) : sProp 𝕄) ⊣⊢ iprop((tLoc d ↦{Transfers.shareDrop q 16} m (tLoc d)) ∗ tabToks m d L q) := by
  have h := Transfers.pointsTo_toks_range (nD := nD) (τ := τ) (sig := sig) (Ix := HIx 1) (Val := Elt F) (Name := ℕ) (U := UU) (Lvl := ℕ)
    (ℓ := tLoc d) (S := Finset.univ) (f := m (tLoc d)) q 16
  rw [show Finset.range 16 = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

/-! ## The tile's own cells and buffers -/

abbrev dcell (d : Dev nD) (c : Fin τ.nSC) (i : Fin τ.nSub) (k : Fin 20) : GSem nD τ sig := (V d c i, .dma (csem k.val k.isLt))

theorem dcell_mem (c : Fin τ.nSC) (i : Fin τ.nSub) (k : Fin 20) : dcell d c i k ∈ ownCells (V d c i) :=
  mem_ownCells.mpr ⟨rfl, (show ∀ s : DmaSem sig, (SemLoc.dma s : SemLoc sig).isScoped .scVector = true by decide) _⟩

/-- The tile's own cells at zero: the twenty the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 20)) = {0, 1, 2, 3, 4, 5, 6, 7, 8, 9, 10, 11, 12, 13, 14, 15, 16, 17, 18, 19} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

abbrev dref (L : grid0.Coords) (b : Ref sig .scVector) : DevRef τ sig := (Proc.scVector (cV L) (jV L)).devRef b

/-- The four scratch buffers are among the tile's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (dref L cc0_scratch0)).erase (dref L cc0_scratch1)).erase (dref L cc0_scratch2)).erase
              (dref L cc0_scratch3)) fun b => iprop(∃ f, ((d, b) : Loc nD τ sig) ↦{fullShare} f)) := by
  have hm : ∀ b : Ref sig .scVector, b = cc0_scratch0 ∨ b = cc0_scratch1 ∨ b = cc0_scratch2 ∨ b = cc0_scratch3 → dref L b ∈ ownRefs (τ := τ) (.scVector (cV L) (jV L)) := by
    rintro b (rfl | rfl | rfl | rfl) <;> exact SparseCore.Cfg.mem_ownRefs_of_owner (p := Proc.scVector (cV L) (jV L)) rfl
  have hne : ∀ a b : Ref sig .scVector, a ≠ b → dref L a ≠ dref L b := fun a b h e => h (Proc.devRef_injective _ e)
  unfold SparseCore.Cfg.ownBufs
  refine (SparseCore.bigSep_erase' (hm cc0_scratch0 (by simp))).trans ?_
  rw [SparseCore.bigSep_erase' (Finset.mem_erase.mpr ⟨hne cc0_scratch1 cc0_scratch0 (by decide), hm cc0_scratch1 (by simp)⟩),
    SparseCore.bigSep_erase' (Finset.mem_erase.mpr ⟨hne cc0_scratch2 cc0_scratch1 (by decide), Finset.mem_erase.mpr ⟨hne cc0_scratch2 cc0_scratch0 (by decide), hm cc0_scratch2 (by simp)⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 (by simp)⟩⟩⟩)]

/-! ## The task -/

variable [FloatOps F]

/-- The loop's invariant: `k` trips of rows filled in both results, everything else as it was (the scratch at some contents). -/
def inv (q : PosShare TreeShare) (O : CellTallies nD τ sig (HIx 1)) (k : Nat) (_ : PUnit) : sProp 𝕄 :=
  iprop(Transfers.MayWaits (VT d L) (default : HIx 1) O
    ∗ tabToks m d L q
    ∗ ((iaV).view.loc (VT d L) ↦{q} m (iaLoc d)) ∗ ((ibV).view.loc (VT d L) ↦{q} m (ibLoc d))
    ∗ (oaLoc d ↦[tset L]{fullShare} upTo (rowAt L k) (OUTa m d) (m (oaLoc d)))
    ∗ (obLoc d ↦[tset L]{fullShare} upTo (rowAt L k) (OUTb m d) (m (obLoc d)))
    ∗ (∃ g, (laV).view.loc (VT d L) ↦[(laV).view.set]{fullShare} g) ∗ (∃ g, (lbV).view.loc (VT d L) ↦[(lbV).view.set]{fullShare} g)
    ∗ (∃ g, (raV).view.loc (VT d L) ↦[(raV).view.set]{fullShare} g) ∗ (∃ g, (rbV).view.loc (VT d L) ↦[(rbV).view.set]{fullShare} g)
    ∗ cells0 d L
    ∗ ∃ W', owes (VT d L) O W')

/-- One trip keeps the invariant. -/
theorem inv_step (hpre : PreOK m) (q : PosShare TreeShare) (O : CellTallies nD τ sig (HIx 1)) (k : Fin k0_t1_loop.trips) (v2 : BitVec 32) :
    inv m d L q O k.val ⟨⟩
      ⊢ wp frame (wpE (defs₀ (F := F)) 𝒱₀ (VT d L) none) Set.univ (tripProg L k v2) fun _ => inv m d L q O (k.val + 1) ⟨⟩ := by
  unfold inv
  iintro ⟨#Hmw, Ht, Hia, Hib, Hoa, Hob, ⟨%la, Hla⟩, ⟨%lb, Hlb⟩, ⟨%ra, Hra⟩, ⟨%rb, Hrb⟩, HC, ⟨%W, HO⟩⟩
  ihave Hoa' := (carve_a d L k _) $$ Hoa
  ihave Hob' := (carve_b d L k _) $$ Hob
  icases Hoa' with ⟨Hoa, Hoar⟩
  icases Hob' with ⟨Hob, Hobr⟩
  ihave Hoa' := (Entails.of_eq (pts_oaW (F := F) d L k _).symm) $$ Hoa
  ihave Hob' := (Entails.of_eq (pts_obW (F := F) d L k _).symm) $$ Hob
  iapply (wp_wand_r Idealize.ShloMosaic.frame (wpE (defs₀ (F := F)) 𝒱₀ (VT d L) none) Set.univ)
  isplitl [Ht Hia Hib Hoa' Hob' Hla Hlb Hra Hrb HC HO]
  · iapply (trip_run m d L hpre q k v2 O W la lb ra rb _ _)
    isplitr; · iexact Hmw
    isplitl [Ht]; · iexact Ht
    isplitl [Hia]; · iexact Hia
    isplitl [Hib]; · iexact Hib
    isplitl [Hoa']; · iexact Hoa'
    isplitl [Hob']; · iexact Hob'
    isplitl [Hla]; · iexact Hla
    isplitl [Hlb]; · iexact Hlb
    isplitl [Hra]; · iexact Hra
    isplitl [Hrb]; · iexact Hrb
    isplitl [HC]; · iexact HC
    iexact HO
  iintro %_ ⟨Ht, Hia, Hib, Hoa', Hob', Hla, Hlb, Hra, Hrb, HC, HO⟩
  ihave Hoa := (Entails.of_eq (pts_oaW (F := F) d L k _)) $$ Hoa'
  ihave Hob := (Entails.of_eq (pts_obW (F := F) d L k _)) $$ Hob'
  ihave Hoa' := (fill_a d L k (OUTa m d) (m (oaLoc d))) $$ [Hoa Hoar]
  · isplitl [Hoa] <;> iassumption
  ihave Hob' := (fill_b d L k (OUTb m d) (m (obLoc d))) $$ [Hob Hobr]
  · isplitl [Hob] <;> iassumption
  isplitr; · iexact Hmw
  isplitl [Ht]; · iexact Ht
  isplitl [Hia]; · iexact Hia
  isplitl [Hib]; · iexact Hib
  isplitl [Hoa']; · iexact Hoa'
  isplitl [Hob']; · iexact Hob'
  isplitl [Hla]; · iexact Hla
  isplitl [Hlb]; · iexact Hlb
  isplitl [Hra]; · iexact Hra
  isplitl [Hrb]; · iexact Hrb
  isplitl [HC]; · iexact HC
  iexact HO

/-- What the launch deals a tile, and takes back from it. -/
abbrev dealt (d : Dev nD) (L : grid0.Coords) (f : Buf (Elt F) (oaLoc d)) (g : Buf (Elt F) (obLoc d)) : sProp 𝕄 :=
  iprop(insPts m d (tq (L 0).val (L 1).val) ∗ outsPts d (tset L) f g)

/-- The task on tile `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ dealt m d L (m (oaLoc d)) (m (obLoc d))
        ∗ scopedBufs (VT d L) ∗ scopedSems0 (VT d L) ∗ owes (VT d L) O W)
      ⊢ wp frame (wpE (defs₀ (F := F)) 𝒱₀ (VT d L) none) Set.univ
          (cc0_gather L tV (Memref.isWhole_whole _) iaV (Memref.isWhole_whole _) ibV (Memref.isWhole_whole _) oaV (Memref.isWhole_whole _)
            obV (Memref.isWhole_whole _) laV (Memref.isWhole_whole _) lbV (Memref.isWhole_whole _) raV (Memref.isWhole_whole _) rbV (Memref.isWhole_whole _)
            cc0_scratch4 cc0_scratch5 cc0_scratch6 cc0_scratch7 cc0_scoped0 cc0_scoped1)
          fun _ => iprop(dealt m d L (OUTa m d) (OUTb m d)
            ∗ scopedBufs (VT d L) ∗ scopedSems0 (VT d L)
            ∗ ∃ W', ⌜∀ p ∈ W', p ∈ W ∨ p.2 = none ∨ p.2 = some (0 : Fin 1)⌝ ∗ owes (VT d L) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  iintro ⟨#Hlv, -, ⟨⟨Ht, Hia, Hib⟩, Hoa, Hob⟩, ⟨⟨%la, Hla⟩, ⟨%lb, Hlb⟩, ⟨%ra, Hra⟩, ⟨%rb, Hrb⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hla' := (Entails.of_eq (pts_laV (F := F) d L _).symm) $$ Hla
  ihave Hlb' := (Entails.of_eq (pts_lbV (F := F) d L _).symm) $$ Hlb
  ihave Hra' := (Entails.of_eq (pts_raV (F := F) d L _).symm) $$ Hra
  ihave Hrb' := (Entails.of_eq (pts_rbV (F := F) d L _).symm) $$ Hrb
  ihave Ht' := (toks16 m d L (tq (L 0).val (L 1).val)).1 $$ Ht
  icases Ht' with ⟨Htr, Ht⟩
  ihave Hoa' := (Entails.of_eq (pointsTo_congr (ℓ := oaLoc d) (upTo_start L (OUTa m d) (m (oaLoc d))))) $$ Hoa
  ihave Hob' := (Entails.of_eq (pointsTo_congr (ℓ := obLoc d) (upTo_start L (OUTb m d) (m (obLoc d))))) $$ Hob
  sl_exec
  sl_for (inv m d L (tq (L 0).val (L 1).val) O) $$ [Hmw Ht Hia Hib Hoa' Hob' Hla' Hlb' Hra' Hrb' HC HO]
  case region =>
    intro k _
    exact inv_step m d L hpre _ O k _
  · unfold inv
    isplitl [Hmw]; · iexact Hmw
    isplitl [Ht]; · iexact Ht
    isplitl [Hia]; · iexact Hia
    isplitl [Hib]; · iexact Hib
    isplitl [Hoa']; · iexact Hoa'
    isplitl [Hob']; · iexact Hob'
    isplitl [Hla']; · iexists _; iexact Hla'
    isplitl [Hlb']; · iexists _; iexact Hlb'
    isplitl [Hra']; · iexists _; iexact Hra'
    isplitl [Hrb']; · iexists _; iexact Hrb'
    isplitl [HC]; · iexact HC
    iexists _; iexact HO
  iintro %_ HI
  unfold inv
  icases HI with ⟨-, Ht, Hia, Hib, Hoa, Hob, ⟨%la', Hla⟩, ⟨%lb', Hlb⟩, ⟨%ra', Hra⟩, ⟨%rb', Hrb⟩, HC, ⟨%W', HO⟩⟩
  sl_step
  ihave Ht' := (toks16 m d L (tq (L 0).val (L 1).val)).2 $$ [Htr Ht]
  · isplitl [Htr] <;> iassumption
  isplitl [Ht' Hia Hib Hoa Hob]
  · isplitl [Ht' Hia Hib]
    · isplitl [Ht']; · iexact Ht'
      isplitl [Hia] <;> iassumption
    isplitl [Hoa]
    · iapply (Entails.of_eq (pointsTo_congr (ℓ := oaLoc d) (upTo_end L (OUTa m d) (m (oaLoc d))))); iexact Hoa
    · iapply (Entails.of_eq (pointsTo_congr (ℓ := obLoc d) (upTo_end L (OUTb m d) (m (obLoc d))))); iexact Hob
  isplitl [Hla Hlb Hra Hrb Hbufs]
  · isplitl [Hla]; · iexists _; iapply (Entails.of_eq (pts_laV (F := F) d L _)); iexact Hla
    isplitl [Hlb]; · iexists _; iapply (Entails.of_eq (pts_lbV (F := F) d L _)); iexact Hlb
    isplitl [Hra]; · iexists _; iapply (Entails.of_eq (pts_raV (F := F) d L _)); iexact Hra
    isplitl [Hrb]; · iexists _; iapply (Entails.of_eq (pts_rbV (F := F) d L _)); iexact Hrb
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iaV (Memref.isWhole_whole _) ibV (Memref.isWhole_whole _) oaV (Memref.isWhole_whole _)
          obV (Memref.isWhole_whole _) laV (Memref.isWhole_whole _) lbV (Memref.isWhole_whole _) raV (Memref.isWhole_whole _) rbV (Memref.isWhole_whole _)
          cc0_scratch4 cc0_scratch5 cc0_scratch6 cc0_scratch7 cc0_scoped0 cc0_scoped1) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Cert.Proof.Gather

end
-- ==== Proof.Run.lean ====
/-
  THE GATHER'S RUN. What every SparseCore is dealt (a share of what is read, its half of the rows written) and how its
  sixteen tiles divide it; the whole program's run, from memories whose index words name rows of the table, ending
  with both results gathered, the arguments as they were and every semaphore at zero.
-/
module

public import proofs.«01_k».proof.Proof.Tile
public import proofs.«01_k».proof.Proof.Gen.Pre_rows_in_table

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## Dealing shares and rows -/

/-- A separating product over the numbers below `n` is one over `Fin n`. -/
theorem range_fin (n : ℕ) (Φ : ℕ → sProp 𝕄) :
    bigSep (Finset.range n) Φ = bigSep (Finset.univ : Finset (Fin n)) fun i => Φ i.val := by
  have hi : (Finset.univ : Finset (Fin n)).image Fin.val = Finset.range n := by
    ext x; simp only [Finset.mem_image, Finset.mem_univ, true_and, Finset.mem_range]
    exact ⟨fun ⟨i, h⟩ => h ▸ i.isLt, fun h => ⟨⟨x, h⟩, rfl⟩⟩
  rw [← hi, SparseCore.bigSep_image_of_injOn (fun a _ b _ h => Fin.ext h)]

/-- The three arrays read, dealt to `n` takers: what is kept back, and every taker's share. -/
theorem ins_split (d : Dev nD) (q : PosShare TreeShare) (n : ℕ) :
    (insPts m d q : sProp 𝕄) ⊣⊢ iprop(insPts m d (Transfers.shareDrop q n)
      ∗ bigSep (Finset.univ : Finset (Fin n)) fun i => insPts m d (Transfers.shareTokN q i.val)) := by
  have ht := Transfers.pointsTo_toks_range (nD := nD) (τ := τ) (sig := sig) (Ix := HIx 1) (Val := Elt F) (Name := ℕ) (U := UU) (Lvl := ℕ)
    (ℓ := tLoc d) (S := Finset.univ) (f := m (tLoc d)) q n
  have ha := Transfers.pointsTo_toks_range (nD := nD) (τ := τ) (sig := sig) (Ix := HIx 1) (Val := Elt F) (Name := ℕ) (U := UU) (Lvl := ℕ)
    (ℓ := iaLoc d) (S := Finset.univ) (f := m (iaLoc d)) q n
  have hb := Transfers.pointsTo_toks_range (nD := nD) (τ := τ) (sig := sig) (Ix := HIx 1) (Val := Elt F) (Name := ℕ) (U := UU) (Lvl := ℕ)
    (ℓ := ibLoc d) (S := Finset.univ) (f := m (ibLoc d)) q n
  rw [range_fin] at ht ha hb
  have he : (bigSep (Finset.univ : Finset (Fin n)) fun i => insPts m d (Transfers.shareTokN q i.val))
      = (iprop((bigSep (Finset.univ : Finset (Fin n)) fun i => (tLoc d ↦{Transfers.shareTokN q i.val} m (tLoc d)))
        ∗ (bigSep (Finset.univ : Finset (Fin n)) fun i => (iaLoc d ↦{Transfers.shareTokN q i.val} m (iaLoc d)))
        ∗ (bigSep (Finset.univ : Finset (Fin n)) fun i => (ibLoc d ↦{Transfers.shareTokN q i.val} m (ibLoc d)))) : sProp 𝕄) := by
    rw [bigSep_sep', bigSep_sep']
  rw [he]
  constructor
  · iintro ⟨Ht, Ha, Hb⟩
    ihave Ht := ht.1 $$ Ht
    ihave Ha := ha.1 $$ Ha
    ihave Hb := hb.1 $$ Hb
    icases Ht with ⟨Ht, Ht'⟩
    icases Ha with ⟨Ha, Ha'⟩
    icases Hb with ⟨Hb, Hb'⟩
    isplitl [Ht Ha Hb]
    · isplitl [Ht]; · iexact Ht
      isplitl [Ha] <;> iassumption
    isplitl [Ht']; · iexact Ht'
    isplitl [Ha'] <;> iassumption
  · iintro ⟨⟨Ht, Ha, Hb⟩, Ht', Ha', Hb'⟩
    isplitl [Ht Ht']
    · iapply ht.2; isplitl [Ht] <;> iassumption
    isplitl [Ha Ha']
    · iapply ha.2; isplitl [Ha] <;> iassumption
    · iapply hb.2; isplitl [Hb] <;> iassumption

/-- Rows over a disjoint family are the family's rows. -/
theorem outs_family {n : ℕ} (d : Dev nD) (I : Finset S17408x1024.Idx) (J : Fin n → Finset S17408x1024.Idx) (f : Buf (Elt F) (oaLoc d)) (g : Buf (Elt F) (obLoc d))
    (hd : ∀ i ∈ (Finset.univ : Finset (Fin n)), ∀ j ∈ (Finset.univ : Finset (Fin n)), i ≠ j → Disjoint (J i) (J j))
    (hc : (Finset.univ : Finset (Fin n)).biUnion J = I) :
    (outsPts d I f g : sProp 𝕄) = bigSep (Finset.univ : Finset (Fin n)) fun i => outsPts d (J i) f g := by
  have h1 : ((oaLoc d ↦[I]{fullShare} f) : sProp 𝕄) = bigSep (Finset.univ : Finset (Fin n)) fun i => oaLoc d ↦[J i]{fullShare} f := by
    rw [← hc]; exact pointsTo_biUnion (ℓ := oaLoc d) Finset.univ J hd
  have h2 : ((obLoc d ↦[I]{fullShare} g) : sProp 𝕄) = bigSep (Finset.univ : Finset (Fin n)) fun i => obLoc d ↦[J i]{fullShare} g := by
    rw [← hc]; exact pointsTo_biUnion (ℓ := obLoc d) Finset.univ J hd
  rw [bigSep_sep', ← h1, ← h2]

/-- Shares and rows together, over a family. -/
theorem deal_family {n : ℕ} (d : Dev nD) (q : PosShare TreeShare) (J : Fin n → Finset S17408x1024.Idx) (f : Buf (Elt F) (oaLoc d)) (g : Buf (Elt F) (obLoc d)) :
    (bigSep (Finset.univ : Finset (Fin n)) fun i => iprop(insPts m d (Transfers.shareTokN q i.val) ∗ outsPts d (J i) f g))
      = (iprop((bigSep (Finset.univ : Finset (Fin n)) fun i => insPts m d (Transfers.shareTokN q i.val))
          ∗ bigSep (Finset.univ : Finset (Fin n)) fun i => outsPts d (J i) f g) : sProp 𝕄) := bigSep_sep' ..

theorem bigSep_nSub (Φ : Fin 16 → sProp 𝕄) :
    (bigSep (Finset.univ : Finset (Fin ((K (F := F)).nSub 0))) fun i => Φ (Fin.cast nSub_zero i)) = bigSep Finset.univ Φ := rfl
theorem bigSep_nCore (Φ : Fin 2 → sProp 𝕄) :
    (bigSep (Finset.univ : Finset (Fin ((K (F := F)).nCore 0))) fun i => Φ (Fin.cast nCore_zero i)) = bigSep Finset.univ Φ := rfl

/-- A SparseCore deals what it was handed to its sixteen tiles, and puts together what they bring back. -/
theorem vecSplit : (K (F := F)).VecSplit' (P m) 0 := by
  intro d c
  show iprop(insPts m d (cq c.val) ∗ outsPts d (coreSet (Fin.cast nCore_zero c)) (m (oaLoc d)) (m (obLoc d))) ⊢ |={Set.univ}=> iprop(
      (bigSep (Finset.univ : Finset (Fin 16)) fun i =>
        iprop(insPts m d (Transfers.shareTokN (cq c.val) i.val) ∗ outsPts d (tileSet (Fin.cast nCore_zero c) i) (m (oaLoc d)) (m (obLoc d))))
      ∗ ((bigSep (Finset.univ : Finset (Fin 16)) fun i =>
          iprop(insPts m d (Transfers.shareTokN (cq c.val) i.val) ∗ outsPts d (tileSet (Fin.cast nCore_zero c) i) (OUTa m d) (OUTb m d)))
        -∗ iprop(insPts m d (cq c.val) ∗ outsPts d (coreSet (Fin.cast nCore_zero c)) (OUTa m d) (OUTb m d))))
  rw [deal_family, deal_family,
    outs_family d _ (tileSet (Fin.cast nCore_zero c)) (m (oaLoc d)) (m (obLoc d)) (tiles_disjoint _) (tiles_cover _),
    outs_family d _ (tileSet (Fin.cast nCore_zero c)) (OUTa m d) (OUTb m d) (tiles_disjoint _) (tiles_cover _)]
  iintro ⟨Hi, Ho⟩
  ihave Hi := (ins_split m d (cq c.val) 16).1 $$ Hi
  icases Hi with ⟨Hk, Hi⟩
  imodintro
  isplitl [Hi Ho]
  · isplitl [Hi] <;> iassumption
  iintro ⟨Hi, Ho⟩
  isplitl [Hk Hi]
  · iapply (ins_split m d (cq c.val) 16).2; isplitl [Hk] <;> iassumption
  iexact Ho

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

theorem unscopedBufs_eq (d : Dev nD) (W : (b : Ref sig .tc) → Buf (Elt F) ((d.tc : Thread nD τ).loc b)) :
    (unscopedBufs d W : sProp 𝕄) = iprop((tLoc d ↦{fullShare} W main_arg0) ∗ (iaLoc d ↦{fullShare} W main_arg1) ∗ (ibLoc d ↦{fullShare} W main_arg2)
      ∗ (oaLoc d ↦{fullShare} W main_v0_0) ∗ obLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

/-- What the two SparseCores are handed at the call. -/
theorem st0_eq (d : Dev nD) : (bigSep Finset.univ fun c : Fin ((K (F := F)).nCore 0) => (P m).st 0 d c)
    = (iprop((bigSep (Finset.univ : Finset (Fin 2)) fun c => insPts m d (Transfers.shareTokN fullShare c.val))
        ∗ outsPts d Finset.univ (m (oaLoc d)) (m (obLoc d))) : sProp 𝕄) := by
  rw [outs_family d _ coreSet (m (oaLoc d)) (m (obLoc d)) cores_disjoint cores_cover, ← deal_family]
  rfl
/-- What they hand back. -/
theorem dn0_eq (d : Dev nD) : (bigSep Finset.univ fun c : Fin ((K (F := F)).nCore 0) => (P m).dn 0 d c)
    = (iprop((bigSep (Finset.univ : Finset (Fin 2)) fun c => insPts m d (Transfers.shareTokN fullShare c.val))
        ∗ outsPts d Finset.univ (OUTa m d) (OUTb m d)) : sProp 𝕄) := by
  rw [outs_family d _ coreSet (OUTa m d) (OUTb m d) cores_disjoint cores_cover, ← deal_family]
  rfl

/-- What @main ends with: the three arguments, and both results gathered. -/
abbrev FIN (d : Dev nD) : sProp 𝕄 := iprop(insPts m d fullShare ∗ outsPts d Finset.univ (OUTa m d) (OUTb m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Ha, Hi, Hoa, Hob⟩, Hts, -⟩, -⟩
  ihave Hin := (ins_split m d fullShare 2).1 $$ [Ht Ha Hi]
  · isplitl [Ht]; · iexact Ht
    isplitl [Ha] <;> iassumption
  icases Hin with ⟨Hk, Hin⟩
  iapply ((K (F := F)).wp_run (D (F := F)) 𝒱 (EH := EH) (P := P m) κ d 0) $$ [Hst Hin Hk Hoa Hob Hb Hts]
  isplitr; · iexact Hctx
  isplitl [Hst]; · iexact Hst
  isplitl [Hin Hoa Hob]
  · rw [st0_eq]
    isplitl [Hin]; · iexact Hin
    isplitl [Hoa] <;> iassumption
  iintro ⟨Hst, Hdn⟩
  ihave Hdn := (Entails.of_eq (dn0_eq m d)) $$ Hdn
  icases Hdn with ⟨Hin, Ho⟩
  imodintro
  isplitl [Hst]; · iexact Hst
  isplitr [Hb Hts]
  · isplitl [Hk Hin]
    · iapply (ins_split m d fullShare 2).2; isplitl [Hk] <;> iassumption
    iexact Ho
  isplitl [Hb] <;> iassumption

/-- The arrays at the end, as the machine holds them. -/
def fq (d : Dev nD) (s' : Phys nD τ sig (Elt F)) : Prop :=
  s'.mem.mem (tLoc d) = m (tLoc d) ∧ s'.mem.mem (iaLoc d) = m (iaLoc d) ∧ s'.mem.mem (ibLoc d) = m (ibLoc d)
    ∧ s'.mem.mem (oaLoc d) = OUTa m d ∧ s'.mem.mem (obLoc d) = OUTb m d

/-- A whole array owned at given contents holds them. -/
theorem holds_whole (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ _)
  · iexact HSI

theorem hfin (d : Dev nD) (s' : Phys nD τ sig (Elt F)) : iprop(FIN m d ∗ SI s') ⊢ (⌜fq m d s'⌝ : sProp 𝕄) := by
  iintro ⟨⟨⟨Ht, Ha, Hb⟩, Hoa, Hob⟩, HSI⟩
  ihave H := (holds_whole (tLoc d) (m (tLoc d)) s') $$ [HSI Ht]
  · isplitl [HSI] <;> iassumption
  icases H with ⟨%h1, HSI⟩
  ihave H := (holds_whole (iaLoc d) (m (iaLoc d)) s') $$ [HSI Ha]
  · isplitl [HSI] <;> iassumption
  icases H with ⟨%h2, HSI⟩
  ihave H := (holds_whole (ibLoc d) (m (ibLoc d)) s') $$ [HSI Hb]
  · isplitl [HSI] <;> iassumption
  icases H with ⟨%h3, HSI⟩
  ihave H := (holds_whole (oaLoc d) (OUTa m d) s') $$ [HSI Hoa]
  · isplitl [HSI] <;> iassumption
  icases H with ⟨%h4, HSI⟩
  ihave H := (holds_whole (obLoc d) (OUTb m d) s') $$ [HSI Hob]
  · isplitl [HSI] <;> iassumption
  icases H with ⟨%h5, -⟩
  ipureintro
  exact ⟨h1, h2, h3, h4, h5⟩

/-! ## The program's run -/

def QC : PUnit × MemSt nD τ sig (Elt F) → Prop := fun r =>
  (∀ c : Dev nD, r.2.mem (tLoc c) = m (tLoc c) ∧ r.2.mem (iaLoc c) = m (iaLoc c) ∧ r.2.mem (ibLoc c) = m (ibLoc c)
    ∧ r.2.mem (oaLoc c) = OUTa m c ∧ r.2.mem (obLoc c) = OUTb m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## What the precondition says -/

/-- Two range tests on each index array, all true, put every word of both below 38912. -/
theorem below_of_pre (table : S38912x1024.Idx → BitVec 32) (a b : S17408.Idx → BitVec 32)
    (h : Cert.Pre_rows_in_table.fn (F := F) table a b = fun _ => 1#1) (j : S17408.Idx) : (a j).toNat < 38912 ∧ (b j).toNat < 38912 := by
  have hand (p q : Bool) : IntOp.andi (BitVec.ofBool p) (BitVec.ofBool q) = BitVec.ofBool (p && q) := by
    cases p <;> cases q <;> rfl
  have hone (p : Bool) : (BitVec.ofBool p = 1#1) ↔ p = true := by cases p <;> decide
  have e := congrFun h j
  simp only [Cert.Pre_rows_in_table.fn, andi, cmpi, broadcastInDim, constantI] at e
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

end Cert.Proof.Gather

end
-- ==== Proof.Ref.lean ====
/-
  THE REFERENCE'S VALUE. The host's gather of whole rows, its start indices the index array as a column, is the table's
  rows at the index words, where every word is below the table's height (the host's clamp then changes nothing).
-/
module

public import proofs.«01_k».proof.Proof.Gather
public import proofs.«01_k».proof.Proof.Gen.Reference.Run
public import Idealize.ShloMosaic.Lib.StableHlo.Predicate

@[expose] public section

noncomputable section

namespace Cert.Proof.Gather

open Idealize.ShloMosaic Idealize.SL.Sem

/-- A word below 38912 read signed and clamped into the table is its own value. -/
theorem clamp_word (w : BitVec 32) (h : w.toNat < 38912) : min w.toInt.toNat (38912 - 1) = w.toNat % 38912 := by
  rw [BitVec.toInt_eq_toNat_cond]
  split <;> omega

/-- Taking whole rows: result element `(r, k)` is the table's element `(start r, k)`. -/
theorem gather_rows (d : GatherDims ⟨2, ![38912, 1024]⟩ ⟨2, ![17408, 1]⟩ ⟨2, ![17408, 1024]⟩)
    (hoff : d.offsetDims = [1]) (hcoll : d.collapsedSliceDims = [0]) (hob : d.operandBatchingDims = [])
    (hsim : d.startIndexMap = [0]) (hivd : d.indexVectorDim = 1)
    (x : (⟨2, ![38912, 1024]⟩ : Shape).Idx → BitVec 32) (idx : IVec ⟨2, ![17408, 1]⟩ 32)
    (hin : ∀ p, (idx (StableHlo.Predicate.ixP p)).toNat < 38912) (j : (⟨2, ![17408, 1024]⟩ : Shape).Idx) :
    Host.gather d x idx j = x (fun | 0 => rowOf (idx (StableHlo.Predicate.ixP (j 0))) | 1 => j 1) := by
  unfold Host.gather
  congr 1
  have hnb : ∀ a, a ∉ d.operandBatchingDims := fun a => by rw [hob]; exact List.not_mem_nil
  funext a
  apply Fin.ext
  simp only [GatherDims.operandIdx, GatherDims.batchCoord_eq_zero _ _ _ (hnb a), Nat.add_zero]
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hoc := GatherDims.offCoord_eq_zero d j (0 : Fin 2) hk
    show d.start j idx (0 : Fin 2) + d.offCoord j (0 : Fin 2) = (rowOf (idx (StableHlo.Predicate.ixP (j 0)))).val
    rw [hoc, Nat.add_zero]
    simp only [GatherDims.start, dif_pos hm]
    show min (idx _).toInt.toNat (38912 - d.sliceSizes 0) = (idx (StableHlo.Predicate.ixP (j 0))).toNat % 38912
    rw [hsl, ← clamp_word _ (hin (j 0))]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        unfold GatherDims.batchDims; rw [hoff]; decide
      have e : ∀ X : Fin 2, X ∈ d.batchDims → (j X).val = (j 0).val := fun X hX => by
        rw [hbd, List.mem_singleton] at hX; subst hX; rfl
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    have e : ∀ X : Fin 2, X ∈ d.offsetDims → (j X).val = (j 1).val := fun X hX => by
      rw [hoff, List.mem_singleton] at hX; subst hX; rfl
    show d.start j idx (1 : Fin 2) + d.offCoord j (1 : Fin 2) = (j 1).val
    simp only [GatherDims.start, dif_neg hm, Nat.zero_add, GatherDims.offCoord, dif_pos hk]
    exact e _ (List.getElem_mem _)

/-- The reference's result: the rows of the table at the words of the index array. -/
theorem ref_taken (x : Cert.Reference.S38912x1024.Idx → BitVec 32) (idx : Cert.Reference.S17408.Idx → BitVec 32)
    (hin : ∀ j, (idx j).toNat < 38912) :
    Host.gather Cert.Reference.gather_S38912x1024_S17408x1_S17408x1024_1_0_n_n_0_1_11024 x
      (broadcastInDim Cert.Reference.S17408x1 ![0] Cert.Reference.Gen.bcast_S17408_S17408x1_0 idx) = taken x idx := by
  have hcol : ∀ p : Fin 17408, broadcastInDim Cert.Reference.S17408x1 ![0] Cert.Reference.Gen.bcast_S17408_S17408x1_0 idx (StableHlo.Predicate.ixP p)
      = idx (fun | 0 => p) := fun p => by
    refine (StableHlo.Predicate.bcast_col1 Cert.Reference.Gen.bcast_S17408_S17408x1_0 idx p).trans ?_
    congr 1; funext a; rw [Subsingleton.elim a 0]; rfl
  funext j
  rw [gather_rows _ rfl rfl rfl rfl rfl x _ (fun p => by rw [hcol]; exact hin _) j]
  show x _ = x _
  congr 1
  funext a
  match a with
  | ⟨0, _⟩ => exact congrArg rowOf (hcol (j 0))
  | ⟨1, _⟩ => rfl

end Cert.Proof.Gather

end
-- ==== Proof.FinBody.lean ====
/-
  ONE POINT OF THE FINISH CALL. The body run along its two paths: a tile of the prompts' rows is stored to the first output's
  block, a tile of the samples' rows to the second output's.
-/
module

public import proofs.«01_k».proof.Proof.Gen.Kernel3Ideal.Launch
public import proofs.«01_k».proof.Proof.Gen.Kernel3Ideal.Skeleton
public import proofs.«01_k».proof.Proof.Gen.Kernel3Ideal.Frame
public import Idealize.ShloMosaic.Lib.VecWindow
public import Idealize.ShloMosaic.Lib.Writes
public import Idealize.ShloMosaic.Lib.Exec
public import Idealize.ShloMosaic.Lib.Affine

@[expose] public section

set_option maxRecDepth 16384
set_option Elab.async false

noncomputable section

namespace Cert.Proof.Finish

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole staging buffer reads what the buffer holds. -/
theorem rd {sp : Space} {s : Shape} {e : EltTy} {M : Memref sig .tc sp s e} (h : M.IsWhole) (X : s.Idx → Elt F e) {off : Fin s.rank → ℕ} (inb : ∀ a, off a + s.size a ≤ s.size a) :
    M.view.readAt (Elt F) (Rect.unit off s.size inb).toLoadRect (h.unread X) = X := by
  rw [View.readAt_full]; exact h.read_unread X

/-- One tile finished: the scaled stream plus the two gated expert rows, normalised. -/
def tile (i : grid0.Coords) (wa wb : Vec F S512x1024 .i32) (ga gb : Vec F S512x1 .f32) (xp xs : Vec F S512x2048 .f32) (g b : Vec F S1x2048 .f32) : FVec F S512x2048 .f32 :=
  k0_pay1 (k0_pay2 i wa wb ga gb xp xs) g b

theorem tile_congr (i : grid0.Coords) {wa wa' wb wb' : Vec F S512x1024 .i32} {ga ga' gb gb' : Vec F S512x1 .f32} {xp xp' xs xs' : Vec F S512x2048 .f32} {g g' b b' : Vec F S1x2048 .f32}
    (h1 : wa = wa') (h2 : wb = wb') (h3 : ga = ga') (h4 : gb = gb') (h5 : xp = xp') (h6 : xs = xs') (h7 : g = g') (h8 : b = b') :
    tile i wa wb ga gb xp xs g b = tile i wa' wb' ga' gb' xp' xs' g' b' := by
  subst h1 h2 h3 h4 h5 h6 h7 h8; rfl

section
variable (c : Dev nD) (i : grid0.Coords) (arg1 : Memref sig .tc .vmem S512x1024 .i32) (harg1 : arg1.IsWhole) (arg2 : Memref sig .tc .vmem S512x1024 .i32) (harg2 : arg2.IsWhole)
  (arg3 : Memref sig .tc .vmem S512x1 .f32) (harg3 : arg3.IsWhole) (arg4 : Memref sig .tc .vmem S512x1 .f32) (harg4 : arg4.IsWhole)
  (arg5 : Memref sig .tc .vmem S512x2048 .f32) (harg5 : arg5.IsWhole) (arg6 : Memref sig .tc .vmem S512x2048 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S512x2048 .f32) (harg9 : arg9.IsWhole) (arg10 : Memref sig .tc .vmem S512x2048 .f32) (harg10 : arg10.IsWhole)
  (wa wb : Vec F S512x1024 .i32) (ga gb : Vec F S512x1 .f32) (xp xs : Vec F S512x2048 .f32) (g b : Vec F S1x2048 .f32)

/-- What a point holds: its eight input blocks and the two outputs' blocks. -/
def holds (o p : Vec F S512x2048 .f32) : sProp 𝕄 :=
  iprop(owns (c : Thread nD τ) arg1 fullShare wa ∗ owns (c : Thread nD τ) arg2 fullShare wb ∗ owns (c : Thread nD τ) arg3 fullShare ga ∗ owns (c : Thread nD τ) arg4 fullShare gb
    ∗ owns (c : Thread nD τ) arg5 fullShare xp ∗ owns (c : Thread nD τ) arg6 fullShare xs ∗ owns (c : Thread nD τ) arg7 fullShare g ∗ owns (c : Thread nD τ) arg8 fullShare b
    ∗ owns (c : Thread nD τ) arg9 fullShare o ∗ owns (c : Thread nD τ) arg10 fullShare p)

set_option maxHeartbeats 8000000 in
/-- A tile of the prompts' rows goes to the first output's block. -/
theorem run_prompt (h1 : k0_cond1 i = 1#1) (h2 : ¬k0_cond2 i = 1#1) (o p : Vec F S512x2048 .f32) (K : PUnit → sProp 𝕄) :
    iprop(holds c arg1 arg2 arg3 arg4 arg5 arg6 arg7 arg8 arg9 arg10 wa wb ga gb xp xs g b o p
        ∗ (holds c arg1 arg2 arg3 arg4 arg5 arg6 arg7 arg8 arg9 arg10 wa wb ga gb xp xs g b (tile i wa wb ga gb xp xs g b) p -∗ K ⟨⟩))
      ⊢ wp frame (wpE (defs₀ (F := F)) Variants.none c none) Set.univ (cc0_moe_finish i arg1 harg1 arg2 harg2 arg3 harg3 arg4 harg4 arg5 harg5 arg6 harg6 arg7 harg7 arg8 harg8 arg9 harg9 arg10 harg10) K := by
  unfold holds owns
  rw [cc0_moe_finish_eq_skeleton]; unfold cc0_moe_finish_skel
  rw [k0_part1_eq_skeleton]; unfold k0_part1_skel
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec! (disch := first | (guard_target = k0_cond1 _ = _; exact h1) | (guard_target = ¬(k0_cond2 _ = _); exact h2))
  sl_step
  iapply Hk
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; unfold run_prompt.sl.H9_1; rw [View.read_writes_full]
      exact tile_congr i (rd harg1 _ _) (rd harg2 _ _) (rd harg3 _ _) (rd harg4 _ _) (rd harg5 _ _) (rd harg6 _ _) (rd harg7 _ _) (rd harg8 _ _)
  iexists _; isplitr; swap
  · iexact H10
  · ipureintro; exact harg10.read_unread _

set_option maxHeartbeats 8000000 in
/-- A tile of the samples' rows goes to the second output's block. -/
theorem run_sample (h1 : ¬k0_cond1 i = 1#1) (h2 : k0_cond2 i = 1#1) (o p : Vec F S512x2048 .f32) (K : PUnit → sProp 𝕄) :
    iprop(holds c arg1 arg2 arg3 arg4 arg5 arg6 arg7 arg8 arg9 arg10 wa wb ga gb xp xs g b o p
        ∗ (holds c arg1 arg2 arg3 arg4 arg5 arg6 arg7 arg8 arg9 arg10 wa wb ga gb xp xs g b o (tile i wa wb ga gb xp xs g b) -∗ K ⟨⟩))
      ⊢ wp frame (wpE (defs₀ (F := F)) Variants.none c none) Set.univ (cc0_moe_finish i arg1 harg1 arg2 harg2 arg3 harg3 arg4 harg4 arg5 harg5 arg6 harg6 arg7 harg7 arg8 harg8 arg9 harg9 arg10 harg10) K := by
  unfold holds owns
  rw [cc0_moe_finish_eq_skeleton]; unfold cc0_moe_finish_skel
  rw [k0_part1_eq_skeleton]; unfold k0_part1_skel
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec! (disch := first | (guard_target = ¬(k0_cond1 _ = _); exact h1) | (guard_target = k0_cond2 _ = _; exact h2))
  sl_step
  iapply Hk
  isplitl [H1]
  · iexists _; isplitr; swap
    · iexact H1
    · ipureintro; exact harg1.read_unread _
  isplitl [H2]
  · iexists _; isplitr; swap
    · iexact H2
    · ipureintro; exact harg2.read_unread _
  isplitl [H3]
  · iexists _; isplitr; swap
    · iexact H3
    · ipureintro; exact harg3.read_unread _
  isplitl [H4]
  · iexists _; isplitr; swap
    · iexact H4
    · ipureintro; exact harg4.read_unread _
  isplitl [H5]
  · iexists _; isplitr; swap
    · iexact H5
    · ipureintro; exact harg5.read_unread _
  isplitl [H6]
  · iexists _; isplitr; swap
    · iexact H6
    · ipureintro; exact harg6.read_unread _
  isplitl [H7]
  · iexists _; isplitr; swap
    · iexact H7
    · ipureintro; exact harg7.read_unread _
  isplitl [H8]
  · iexists _; isplitr; swap
    · iexact H8
    · ipureintro; exact harg8.read_unread _
  isplitl [H9]
  · iexists _; isplitr; swap
    · iexact H9
    · ipureintro; exact harg9.read_unread _
  iexists _; isplitr; swap
  · iexact H10
  · ipureintro; unfold run_sample.sl.H10_1; rw [View.read_writes_full]
    exact tile_congr i (rd harg1 _ _) (rd harg2 _ _) (rd harg3 _ _) (rd harg4 _ _) (rd harg5 _ _) (rd harg6 _ _) (rd harg7 _ _) (rd harg8 _ _)
end

end Cert.Proof.Finish

end
-- ==== Proof.FinRun.lean ====
/-
  THE FINISH CALL'S RUN. What each output's block holds point by point, the obligation of the body at every point, the launch.
  The first output's block stays at its last tile over the last two points; the second's is written at those two alone.
-/
module

public import proofs.«01_k».proof.Proof.FinBody
public import Idealize.ShloMosaic.Lib.Pipeline.TableIdle
public import Idealize.ShloMosaic.Lib.Pipeline.Value

@[expose] public section

set_option maxRecDepth 16384

noncomputable section

namespace Cert.Proof.Finish

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule of the two outputs -/

theorem prompt1 : ∀ t : Fin grid0.N, t.val < 32 → k0_cond1 (grid0.coords t) = 1#1 := by decide +kernel
theorem prompt2 : ∀ t : Fin grid0.N, t.val < 32 → ¬k0_cond2 (grid0.coords t) = 1#1 := by decide +kernel
theorem sample1 : ∀ t : Fin grid0.N, ¬t.val < 32 → ¬k0_cond1 (grid0.coords t) = 1#1 := by decide +kernel
theorem sample2 : ∀ t : Fin grid0.N, ¬t.val < 32 → k0_cond2 (grid0.coords t) = 1#1 := by decide +kernel

theorem flush9_early : ∀ t : Fin grid0.N, t.val < 32 → win0_9.flush t = false := by decide +kernel
theorem fresh8_late : ∀ t : Fin cfg0.N, ¬t.val < 32 → cfg0.fresh (8 : Fin 10) t.val = false := by decide +kernel

theorem idle8_early (t : Fin cfg0.N) (h : t.val < 32) : cfg0.idle (8 : Fin 10) (cfg0.grid.coords t) = false := by
  show (!(k0_cond1 (grid0.coords t) == 1#1)) = false
  rw [prompt1 t h]; rfl
theorem idle9_early (t : Fin cfg0.N) (h : t.val < 32) : cfg0.idle (9 : Fin 10) (cfg0.grid.coords t) = true := by
  show (!(k0_cond2 (grid0.coords t) == 1#1)) = true
  rw [beq_eq_false_iff_ne.mpr (prompt2 t h)]; rfl
theorem idle8_late (t : Fin cfg0.N) (h : ¬t.val < 32) : cfg0.idle (8 : Fin 10) (cfg0.grid.coords t) = true := by
  show (!(k0_cond1 (grid0.coords t) == 1#1)) = true
  rw [beq_eq_false_iff_ne.mpr (sample1 t h)]; rfl
theorem idle9_late (t : Fin cfg0.N) (h : ¬t.val < 32) : cfg0.idle (9 : Fin 10) (cfg0.grid.coords t) = false := by
  show (!(k0_cond2 (grid0.coords t) == 1#1)) = false
  rw [sample2 t h]; rfl

variable (m : (ℓ : Loc nD τ sig) → Buf (Elt F) ℓ) (ρ : Dev nD → PrngReg)

/-- The finished tile of point `t`. -/
noncomputable def done (c : Dev nD) (t : Fin cfg0.N) : FVec F S512x2048 .f32 :=
  tile (grid0.coords t) (iblk m c 0 t) (iblk m c 1 t) (iblk m c 2 t) (iblk m c 3 t) (iblk m c 4 t) (iblk m c 5 t) (iblk m c 6 t) (iblk m c 7 t)

/-- The point whose tile the first output's block holds after point `t`. -/
def pt8 (t : Fin cfg0.N) : Fin cfg0.N := ⟨min t.val 31, lt_of_le_of_lt (Nat.min_le_left _ _) t.isLt⟩
/-- The point whose tile the second output's block holds after point `t`. -/
def pt9 (t : Fin cfg0.N) : Fin cfg0.N := ⟨max t.val 32, max_lt t.isLt (lt_of_lt_of_eq (by decide) N_0.symm)⟩

/-- The pipeline's proof data. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => iblk m c (7 : Fin 10) t
    | ⟨8, _⟩ => done m c (pt8 t)
    | ⟨9, _⟩ => done m c (pt9 t)
  Φ _ := Pipeline.ΦA spec0 c
  q _ := fullShare
  owed _ := 0

theorem after0 (c : Dev nD) (t : Fin cfg0.N) : (dats m 0 c).after (0 : Fin 10) t = iblk m c 0 t := rfl
theorem after1 (c : Dev nD) (t : Fin cfg0.N) : (dats m 0 c).after (1 : Fin 10) t = iblk m c 1 t := rfl
theorem after2 (c : Dev nD) (t : Fin cfg0.N) : (dats m 0 c).after (2 : Fin 10) t = iblk m c 2 t := rfl
theorem after3 (c : Dev nD) (t : Fin cfg0.N) : (dats m 0 c).after (3 : Fin 10) t = iblk m c 3 t := rfl
theorem after4 (c : Dev nD) (t : Fin cfg0.N) : (dats m 0 c).after (4 : Fin 10) t = iblk m c 4 t := rfl
theorem after5 (c : Dev nD) (t : Fin cfg0.N) : (dats m 0 c).after (5 : Fin 10) t = iblk m c 5 t := rfl
theorem after6 (c : Dev nD) (t : Fin cfg0.N) : (dats m 0 c).after (6 : Fin 10) t = iblk m c 6 t := rfl
theorem after7 (c : Dev nD) (t : Fin cfg0.N) : (dats m 0 c).after (7 : Fin 10) t = iblk m c 7 t := rfl
theorem after8 (c : Dev nD) (t : Fin cfg0.N) : (dats m 0 c).after (8 : Fin 10) t = done m c (pt8 t) := rfl
theorem after9 (c : Dev nD) (t : Fin cfg0.N) : (dats m 0 c).after (9 : Fin 10) t = done m c (pt9 t) := rfl

theorem pt8_early (t : Fin cfg0.N) (h : t.val < 32) : pt8 t = t := Fin.ext (show min t.val 31 = t.val by omega)
theorem pt9_late (t : Fin cfg0.N) (h : ¬t.val < 32) : pt9 t = t := Fin.ext (show max t.val 32 = t.val by omega)

theorem before0 (c : Dev nD) (t : Fin cfg0.N) (d) : (dats m 0 c).before (0 : Fin 10) t d = iblk m c 0 t := before0_0_of m (dats m 0 c) rfl (after0 m c) t d
theorem before1 (c : Dev nD) (t : Fin cfg0.N) (d) : (dats m 0 c).before (1 : Fin 10) t d = iblk m c 1 t := before0_1_of m (dats m 0 c) rfl (after1 m c) t d
theorem before2 (c : Dev nD) (t : Fin cfg0.N) (d) : (dats m 0 c).before (2 : Fin 10) t d = iblk m c 2 t := before0_2_of m (dats m 0 c) rfl (after2 m c) t d
theorem before3 (c : Dev nD) (t : Fin cfg0.N) (d) : (dats m 0 c).before (3 : Fin 10) t d = iblk m c 3 t := before0_3_of m (dats m 0 c) rfl (after3 m c) t d
theorem before4 (c : Dev nD) (t : Fin cfg0.N) (d) : (dats m 0 c).before (4 : Fin 10) t d = iblk m c 4 t := before0_4_of m (dats m 0 c) rfl (after4 m c) t d
theorem before5 (c : Dev nD) (t : Fin cfg0.N) (d) : (dats m 0 c).before (5 : Fin 10) t d = iblk m c 5 t := before0_5_of m (dats m 0 c) rfl (after5 m c) t d
theorem before6 (c : Dev nD) (t : Fin cfg0.N) (d) : (dats m 0 c).before (6 : Fin 10) t d = iblk m c 6 t := before0_6_of m (dats m 0 c) rfl (after6 m c) t d
theorem before7 (c : Dev nD) (t : Fin cfg0.N) (d) : (dats m 0 c).before (7 : Fin 10) t d = iblk m c 7 t := before0_7_of m (dats m 0 c) rfl (after7 m c) t d

/-- Where the first output's block is not stored, it carries the last prompt tile on. -/
theorem carry8 (c : Dev nD) (t : Fin cfg0.N) (ht : t.val ≠ 0) (h : ¬t.val < 32) :
    (dats m 0 c).after (8 : Fin 10) t = (dats m 0 c).after (8 : Fin 10) ⟨t.val - 1, by omega⟩ := by
  rw [after8, after8]
  exact congrArg (done m c) (Fin.ext (show min t.val 31 = min (t.val - 1) 31 by omega))

theorem before8 (c : Dev nD) (t : Fin cfg0.N) (d) (h : ¬t.val < 32) : (dats m 0 c).before (8 : Fin 10) t d = (dats m 0 c).after (8 : Fin 10) t := by
  rw [(dats m 0 c).before_out_traj (8 : Fin 10) rfl (fun _ _ => rfl) (fun t ht hi hf => carry8 m c t ht fun hl => by rw [idle8_early t hl] at hi; exact Bool.noConfusion hi) t.val t rfl d,
    fresh8_late t h, carry8 m c t (by omega) h]
  rfl

/-- What the body is handed at point `t`. -/
noncomputable def given (c : Dev nD) (t : Fin cfg0.N) : sProp 𝕄 :=
  iprop((dats m 0 c).Φ t.castSucc ∗ (dats m 0 c).owesAt () t.castSucc
        ∗ (∃ d, owns (c : Thread nD τ) (st0_0 t) fullShare ((dats m 0 c).before (0 : Fin 10) t d))
        ∗ (∃ d, owns (c : Thread nD τ) (st0_1 t) fullShare ((dats m 0 c).before (1 : Fin 10) t d))
        ∗ (∃ d, owns (c : Thread nD τ) (st0_2 t) fullShare ((dats m 0 c).before (2 : Fin 10) t d))
        ∗ (∃ d, owns (c : Thread nD τ) (st0_3 t) fullShare ((dats m 0 c).before (3 : Fin 10) t d))
        ∗ (∃ d, owns (c : Thread nD τ) (st0_4 t) fullShare ((dats m 0 c).before (4 : Fin 10) t d))
        ∗ (∃ d, owns (c : Thread nD τ) (st0_5 t) fullShare ((dats m 0 c).before (5 : Fin 10) t d))
        ∗ (∃ d, owns (c : Thread nD τ) (st0_6 t) fullShare ((dats m 0 c).before (6 : Fin 10) t d))
        ∗ (∃ d, owns (c : Thread nD τ) (st0_7 t) fullShare ((dats m 0 c).before (7 : Fin 10) t d))
        ∗ (∃ d, owns (c : Thread nD τ) (st0_8 t) fullShare ((dats m 0 c).before (8 : Fin 10) t d))
        ∗ (∃ d, owns (c : Thread nD τ) (st0_9 t) fullShare ((dats m 0 c).before (9 : Fin 10) t d)))

/-- What it hands back. -/
noncomputable def back (c : Dev nD) (t : Fin cfg0.N) : sProp 𝕄 :=
  iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t))

set_option maxHeartbeats 4000000 in
theorem body_prompt (c : Dev nD) (t : Fin cfg0.N) (h : t.val < 32) :
    given m c t ⊢ wp frame (wpE (defs₀ (F := F)) Variants.none c none) Set.univ (bodyAt0 t) fun _ => back m c t := by
  have f9 : (cfg0.win (9 : Fin 10)).flush t = false := flush9_early t h
  unfold given back
  rw [bigSep_W0]
  rewrite [idle8_early t h, idle9_early t h, f9, show (dats m 0 c).owesAt () t.succ = (dats m 0 c).owesAt () t.castSucc from rfl, show (dats m 0 c).Φ t.succ = (dats m 0 c).Φ t.castSucc from rfl]
  simp only [before0, before1, before2, before3, before4, before5, before6, before7, after0, after1, after2, after3, after4, after5, after6, after7]
  rw [after8, pt8_early t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_prompt c (grid0.coords t) (st0_0 t) _ (st0_1 t) _ (st0_2 t) _ (st0_3 t) _ (st0_4 t) _ (st0_5 t) _ (st0_6 t) _ (st0_7 t) _ (st0_8 t) _ (st0_9 t) _
    (iblk m c 0 t) (iblk m c 1 t) (iblk m c 2 t) (iblk m c 3 t) (iblk m c 4 t) (iblk m c 5 t) (iblk m c 6 t) (iblk m c 7 t) (prompt1 t h) (prompt2 t h) _ _ _)
  unfold holds
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

set_option maxHeartbeats 4000000 in
theorem body_sample (c : Dev nD) (t : Fin cfg0.N) (h : ¬t.val < 32) :
    given m c t ⊢ wp frame (wpE (defs₀ (F := F)) Variants.none c none) Set.univ (bodyAt0 t) fun _ => back m c t := by
  unfold given back
  rw [bigSep_W0]
  rewrite [idle8_late t h, idle9_late t h, show (dats m 0 c).owesAt () t.succ = (dats m 0 c).owesAt () t.castSucc from rfl, show (dats m 0 c).Φ t.succ = (dats m 0 c).Φ t.castSucc from rfl]
  simp only [before0, before1, before2, before3, before4, before5, before6, before7, after0, after1, after2, after3, after4, after5, after6, after7]
  rw [after9, pt9_late t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_sample c (grid0.coords t) (st0_0 t) _ (st0_1 t) _ (st0_2 t) _ (st0_3 t) _ (st0_4 t) _ (st0_5 t) _ (st0_6 t) _ (st0_7 t) _ (st0_8 t) _ (st0_9 t) _
    (iblk m c 0 t) (iblk m c 1 t) (iblk m c 2 t) (iblk m c 3 t) (iblk m c 4 t) (iblk m c 5 t) (iblk m c 6 t) (iblk m c 7 t) (sample1 t h) (sample2 t h) _ _ _)
  unfold holds
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · cases hf : (cfg0.win (8 : Fin 10)).flush t with
    | false => iexists d8; iexact H8
    | true => rw [← before8 m c t d8 h]; iexact H8
  iexact H9

/-- The body meets its obligation at every point. -/
theorem obligation (c : Dev nD) : BodyObligation (dats m 0 c) (defs₀ (F := F)) Variants.none () Set.univ := fun t => by
  rw [bigSep_W0]
  by_cases h : t.val < 32
  · exact body_prompt m c t h
  · exact body_sample m c t h

/-! ## The launch -/

theorem share_eq (c : Dev nD) (w : Fin 10) : (dats m 0 c).share w = fullShare := by unfold Dat.share; split <;> rfl

set_option backward.isDefEq.respectTransparency.types false in
set_option maxHeartbeats 4000000 in
/-- Every run ends with each window's array at what the points left in it and every counter at zero. -/
theorem run : θ_run (defs (F := F)) (onTc (τ := τ) (main (F := F))) (s₀ m ρ) (fun r => Pipeline.FramePost cfgs (dats m) 0 (V m) r ∧ r.2.sem = fun _ => 0) :=
  Pipeline.θ_run_frame (Q' := _) cfgs (dats m) 0 launch0 defs₀ Variants.none m ρ main (fun c => (obligation m c).loose) (share_eq m) (fun _ _ => rfl) (V m)
    (hmain m Variants.none) (fun _ _ => rfl) (fun _ _ => rfl)

end Cert.Proof.Finish

end
-- ==== Proof.FinEnd.lean ====
/-
  WHAT THE FINISH CALL LEAVES. Each output's array as its finished tiles one below the other, whatever it held before, and the
  arguments unchanged.
-/
module

public import proofs.«01_k».proof.Proof.FinRun
public import Idealize.ShloMosaic.Lib.Pipeline.ValueKit.Geometry

@[expose] public section

set_option maxRecDepth 16384

noncomputable section

namespace Cert.Proof.Finish

open Cert.Kernel3Ideal Cert.Kernel3Ideal.Gen
open Idealize.ShloMosaic
open Idealize.ShloMosaic.TcCoe Idealize.ShloMosaic.Tactic
open Idealize.SL Idealize.SL.RA Idealize.SL.Sem
open Idealize.ShloMosaic.Pipeline (Dat Cfg Window)

variable {F : FTy → Type} [FloatOps F]

/-! ## The schedule -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![min t.val 31, 0] := by decide +kernel
theorem index5 : ∀ t : Fin grid0.N, win0_5.index t = ![t.val - 32, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![min t.val 31, 0] := by decide +kernel
theorem index9 : ∀ t : Fin grid0.N, win0_9.index t = ![t.val - 32, 0] := by decide +kernel
theorem flush8 : ∀ t : Fin grid0.N, t.val < 31 ∨ t.val = 33 → win0_8.flush t = true := by decide +kernel
theorem flush9 : ∀ t : Fin grid0.N, 32 ≤ t.val → win0_9.flush t = true := by decide +kernel

theorem points : cfg0.N = 34 := N_0

/-! ## The final arrays -/

variable (m : (ℓ : Loc nD τ sig) → Buf (Elt F) ℓ) (ρ : Dev nD → PrngReg)

/-- A place in a tile from a row and a column of an array. -/
def inTile (r q : ℕ) (hq : q < 2048) : S512x2048.Idx := Fin.cons ⟨r % 512, Nat.mod_lt _ (by decide)⟩ (Fin.cons ⟨q, hq⟩ finZeroElim)

theorem done_congr (c : Dev nD) {t t' : Fin cfg0.N} {y y' : S512x2048.Idx} (h : t.val = t'.val) (h0 : (y 0).val = (y' 0).val) (h1 : (y 1).val = (y' 1).val) :
    done m c t y = done m c t' y' := by
  obtain rfl : t = t' := Fin.ext h
  refine congrArg (done m c t) (funext fun a => ?_)
  match a with
  | ⟨0, _⟩ => exact Fin.ext h0
  | ⟨1, _⟩ => exact Fin.ext h1

theorem prompt_lt (i : S16384x2048.Idx) : (i 0).val / 512 < cfg0.N := by
  have hi : (i 0).val < 16384 := (i 0).isLt
  exact lt_of_lt_of_eq (by omega) points.symm
theorem sample_lt (i : S1024x2048.Idx) : (i 0).val / 512 + 32 < cfg0.N := by
  have hi : (i 0).val < 1024 := (i 0).isLt
  exact lt_of_lt_of_eq (by omega) points.symm

/-- The prompts' finished tiles, one below the other. -/
def outP (c : Dev nD) (i : S16384x2048.Idx) : F .f32 := done m c ⟨(i 0).val / 512, prompt_lt i⟩ (inTile (i 0).val (i 1).val (i 1).isLt)
/-- The samples' two. -/
def outS (c : Dev nD) (i : S1024x2048.Idx) : F .f32 := done m c ⟨(i 0).val / 512 + 32, sample_lt i⟩ (inTile (i 0).val (i 1).val (i 1).isLt)

theorem flushed8 (c : Dev nD) (t : Fin cfg0.N) : (dats m 0 c).flushed (8 : Fin 10) t = ((cfg0.win (8 : Fin 10)).blk t).view.read (Elt F) (outP m c) := by
  funext y
  show done m c (pt8 t) y = outP m c (((cfg0.win (8 : Fin 10)).rect t).emb y)
  have e0 : ((((cfg0.win (8 : Fin 10)).rect t).emb y) (0 : Fin 2) : Nat) = min t.val 31 * 512 + (y (0 : Fin 2)).val := by
    have := Pipeline.Window.rect_emb_val (cfg0.win (8 : Fin 10)) t y (0 : Fin 2)
    rw [show (cfg0.win (8 : Fin 10)).index t = _ from index8 t] at this
    exact this
  have e1 : ((((cfg0.win (8 : Fin 10)).rect t).emb y) (1 : Fin 2) : Nat) = (y (1 : Fin 2)).val := by
    have := Pipeline.Window.rect_emb_val (cfg0.win (8 : Fin 10)) t y (1 : Fin 2)
    rw [show (cfg0.win (8 : Fin 10)).index t = _ from index8 t] at this
    exact this.trans (by simp)
  have hy : (y (0 : Fin 2)).val < 512 := (y (0 : Fin 2)).isLt
  unfold outP
  refine done_congr m c ?_ ?_ e1.symm
  · show min t.val 31 = _ / 512
    rw [e0]; omega
  · show (y (0 : Fin 2)).val = _ % 512
    rw [e0]; omega

theorem flushed9 (c : Dev nD) (t : Fin cfg0.N) (ht : 32 ≤ t.val) : (dats m 0 c).flushed (9 : Fin 10) t = ((cfg0.win (9 : Fin 10)).blk t).view.read (Elt F) (outS m c) := by
  funext y
  show done m c (pt9 t) y = outS m c (((cfg0.win (9 : Fin 10)).rect t).emb y)
  have e0 : ((((cfg0.win (9 : Fin 10)).rect t).emb y) (0 : Fin 2) : Nat) = (t.val - 32) * 512 + (y (0 : Fin 2)).val := by
    have := Pipeline.Window.rect_emb_val (cfg0.win (9 : Fin 10)) t y (0 : Fin 2)
    rw [show (cfg0.win (9 : Fin 10)).index t = _ from index9 t] at this
    exact this
  have e1 : ((((cfg0.win (9 : Fin 10)).rect t).emb y) (1 : Fin 2) : Nat) = (y (1 : Fin 2)).val := by
    have := Pipeline.Window.rect_emb_val (cfg0.win (9 : Fin 10)) t y (1 : Fin 2)
    rw [show (cfg0.win (9 : Fin 10)).index t = _ from index9 t] at this
    exact this.trans (by simp)
  have hy : (y (0 : Fin 2)).val < 512 := (y (0 : Fin 2)).isLt
  unfold outS
  refine done_congr m c ?_ ?_ e1.symm
  · show max t.val 32 = _ / 512 + 32
    rw [e0]; omega
  · show (y (0 : Fin 2)).val = _ % 512
    rw [e0]; omega

/-- Every row of the first output ends with its finished tile. -/
theorem final8 (c : Dev nD) : (dats m 0 c).arrAt (8 : Fin 10) cfg0.N = outP m c := by
  funext i
  have hi : (i 0).val < 16384 := (i 0).isLt
  have key : ∀ n (hn : n < cfg0.N), min n 31 = (i 0).val / 512 → (n < 31 ∨ n = 33) → (dats m 0 c).arrAt (8 : Fin 10) cfg0.N i = outP m c i := fun n hn hr hf =>
    (dats m 0 c).arrAt_apply_of_mem (8 : Fin 10) (outP m c) (fun t _ => flushed8 m c t) _ ⟨n, hn⟩ i hn (flush8 ⟨n, hn⟩ hf)
      ((Pipeline.Window.emb_mem_blk_iff (cfg0.win (8 : Fin 10)) ⟨n, hn⟩ i).mpr fun a => by
        rw [show (cfg0.win (8 : Fin 10)).index ⟨n, hn⟩ = _ from index8 ⟨n, hn⟩]
        match a with
        | ⟨0, _⟩ =>
          show min n 31 * 512 ≤ (i 0).val ∧ (i 0).val < min n 31 * 512 + 512
          omega
        | ⟨1, _⟩ =>
          show 0 * 2048 ≤ (i 1).val ∧ (i 1).val < 0 * 2048 + 2048
          have : (i 1).val < 2048 := (i 1).isLt
          omega)
  by_cases hl : (i 0).val / 512 < 31
  · exact key ((i 0).val / 512) (prompt_lt i) (by omega) (Or.inl hl)
  · exact key 33 (lt_of_lt_of_eq (by decide) points.symm) (by omega) (Or.inr rfl)

/-- Every row of the second output likewise. -/
theorem final9 (c : Dev nD) : (dats m 0 c).arrAt (9 : Fin 10) cfg0.N = outS m c := by
  funext i
  have hi : (i 0).val < 1024 := (i 0).isLt
  refine (dats m 0 c).arrAt_apply_of_mem (9 : Fin 10) (outS m c) (fun t hf => flushed9 m c t ?_) _ ⟨(i 0).val / 512 + 32, sample_lt i⟩ i (sample_lt i) (flush9 _ (Nat.le_add_left _ _))
    ((Pipeline.Window.emb_mem_blk_iff (cfg0.win (9 : Fin 10)) _ i).mpr fun a => ?_)
  · by_contra h
    have := flush9_early t (by omega)
    exact Bool.noConfusion (this.symm.trans hf)
  · rw [show (cfg0.win (9 : Fin 10)).index _ = _ from index9 _]
    match a with
    | ⟨0, _⟩ =>
      show ((i 0).val / 512 + 32 - 32) * 512 ≤ (i 0).val ∧ (i 0).val < ((i 0).val / 512 + 32 - 32) * 512 + 512
      omega
    | ⟨1, _⟩ =>
      show 0 * 2048 ≤ (i 1).val ∧ (i 1).val < 0 * 2048 + 2048
      have : (i 1).val < 2048 := (i 1).isLt
      omega

/-- The whole run: both outputs at their finished tiles, the arguments as they were, every counter at zero. -/
theorem run_end : θ_run (defs (F := F)) (onTc (τ := τ) (main (F := F))) ⟨m, fun _ => 0, ρ⟩ (fun r =>
    (∀ c : Dev nD, r.2.mem ((c.tc : Thread nD τ).loc main_v0_0) = outP m c
      ∧ r.2.mem ((c.tc : Thread nD τ).loc main_v0_1) = outS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).1 (8 : Fin 10)).trans (final8 m c), ((h.1 c).1 (9 : Fin 10)).trans (final9 m c),
    ((h.1 c).1 (0 : Fin 10)).trans ((dats m 0 c).arrAt_in (0 : Fin 10) rfl _), ((h.1 c).1 (1 : Fin 10)).trans ((dats m 0 c).arrAt_in (1 : Fin 10) rfl _),
    ((h.1 c).1 (2 : Fin 10)).trans ((dats m 0 c).arrAt_in (2 : Fin 10) rfl _), ((h.1 c).1 (3 : Fin 10)).trans ((dats m 0 c).arrAt_in (3 : Fin 10) rfl _),
    ((h.1 c).1 (4 : Fin 10)).trans ((dats m 0 c).arrAt_in (4 : Fin 10) rfl _), ((h.1 c).1 (5 : Fin 10)).trans ((dats m 0 c).arrAt_in (5 : Fin 10) rfl _),
    ((h.1 c).1 (6 : Fin 10)).trans ((dats m 0 c).arrAt_in (6 : Fin 10) rfl _), ((h.1 c).1 (7 : Fin 10)).trans ((dats m 0 c).arrAt_in (7 : Fin 10) rfl _)⟩, h.2⟩) (run m ρ)

end Cert.Proof.Finish

end
-- ==== Proof.FinBits.lean ====
/-
  THE PRINTED FINISH CALL IS THE IDEALIZED ONE'S TEXT, at any float values: the same bodies under the same pipeline. So a run of
  the one is a run of the other.
-/
module

public import proofs.«01_k».proof.Proof.FinEnd
public import proofs.«01_k».proof.Proof.Gen.Kernel3

@[expose] public section

set_option maxRecDepth 16384

noncomputable section

namespace Cert.Proof.Finish

open Idealize.ShloMosaic Idealize.SL.Sem

variable {F : FTy → Type} [FloatOps F]

theorem same_bodies : @Cert.Kernel3.defs₀ F _ _ = @Cert.Kernel3Ideal.defs₀ F _ _ := by
  unfold Cert.Kernel3.defs₀ Cert.Kernel3Ideal.defs₀
  refine congrArg Defs.onTc (funext fun l => funext fun a => ?_)
  match l, a with
  | 0, (t, s) => exact rfl

theorem same_defs : @Cert.Kernel3.defs F _ _ = @Cert.Kernel3Ideal.defs F _ _ := congrArg (Pipeline.defs (Cert.Kernel3.pcfgs (F := F))) same_bodies

theorem same_main : @Cert.Kernel3.main F _ = @Cert.Kernel3Ideal.main F _ := rfl

end Cert.Proof.Finish

end
-- ==== Proof.ExpBase.lean ====
/-
  THE EXPERTS CALL'S SET-UP. What one point of the grid does to the two scratch buffers and to its output block, as plain
  functions of the blocks it reads: the row tile unpacked into bf16, the sum over the hidden columns seen so far, the
  finished block rounded to bf16.
-/
module

public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev teM : Memref sig .tc .smem S76 .i32 := Memref.whole main_arg0
abbrev naM : Memref sig .tc .smem S1 .i32 := Memref.whole main_arg1
abbrev xbM : Memref sig .tc .vmem S512x2048 .bf16 := Memref.whole cc0_scratch0
abbrev acM : Memref sig .tc .vmem S512x2048 .f32 := Memref.whole cc0_scratch1

/-- A row tile unpacked: the low halves of its words are columns 0 to 1023, the high halves columns 1024 to 2047. -/
def unpacked (x : S512x1024.Idx → BitVec 32) : S512x2048.Idx → F .bf16 := fun p =>
  if h : (p 1).val < 1024 then k0_pay2 x (Fin.cons (p 0) (Fin.cons (⟨(p 1).val, h⟩ : Fin 1024) finZeroElim))
  else k0_pay3 x (Fin.cons (p 0) (Fin.cons (⟨(p 1).val - 1024, by have : (p 1).val < 2048 := (p 1).isLt; omega⟩ : Fin 1024) finZeroElim))

/-- The one word the kernel compares its row tile with. -/
abbrev naWord (T : S1.Idx → BitVec 32) : BitVec 32 :=
  View.readAt (Elt F) (naM).view (Rect.unit (s := S1) ![0] S1.size inb_S1_S1_0).toLoadRect T (Shape.Idx.first (numel1_S1.symm ▸ Nat.one_pos))

end Cert.Proof.Experts
-- ==== Proof.ExpMath.lean ====
/-
  THE EXPERTS' VALUE, PLAINLY, AND ONE STEP OF THE BODY. Matrices by natural coordinates, the words of a packed
  weight matrix as its rows, the gated hidden layer of one token, and what one point of the grid adds to the running sum.
-/
module

public import proofs.«01_k».proof.Proof.ExpBase
public import Idealize.ShloMosaic.Lib.MatmulPlain
public import Idealize.ShloMosaic.Lib.BitcastPair
public import Idealize.ShloMosaic.Lib.Pipeline.Value
public import Idealize.ShloMosaic.PureOps.Ideal.Laws

@[expose] public section

noncomputable section

namespace Cert.Proof.Experts

open Cert.Kernel2Ideal Cert.Kernel2Ideal.Gen
open Idealize.ShloMosaic Idealize.ShloMosaic.ValueIdx
open scoped BigOperators

/-! ## Words by natural coordinates -/

/-- The word of a matrix at natural coordinates, zero outside it. -/
def at2 {a b : ℕ} (x : (⟨2, ![a, b]⟩ : Shape).Idx → BitVec 32) (i j : ℕ) : BitVec 32 :=
  if h : i < a ∧ j < b then x (ix2 ⟨i, h.1⟩ ⟨j, h.2⟩) else 0#32

theorem at2_eq {a b : ℕ} (x : (⟨2, ![a, b]⟩ : Shape).Idx → BitVec 32) (y : (⟨2, ![a, b]⟩ : Shape).Idx) {i j : ℕ} (h0 : (y 0).val = i) (h1 : (y 1).val = j) :
    x y = at2 x i j := by
  subst h0; subst h1
  unfold at2
  rw [dif_pos ⟨(y 0).isLt, (y 1).isLt⟩]
  exact congrArg x (eq_ix2 y)

/-- The same of a stack of matrices. -/
def at3 {a b c : ℕ} (x : (⟨3, ![a, b, c]⟩ : Shape).Idx → BitVec 32) (e i j : ℕ) : BitVec 32 :=
  if h : e < a ∧ i < b ∧ j < c then x (ix3 ⟨e, h.1⟩ ⟨i, h.2.1⟩ ⟨j, h.2.2⟩) else 0#32

theorem at3_eq {a b c : ℕ} (x : (⟨3, ![a, b, c]⟩ : Shape).Idx → BitVec 32) (y : (⟨3, ![a, b, c]⟩ : Shape).Idx) {e i j : ℕ}
    (h0 : (y 0).val = e) (h1 : (y 1).val = i) (h2 : (y 2).val = j) : x y = at3 x e i j := by
  subst h0; subst h1; subst h2
  unfold at3
  rw [dif_pos ⟨(y 0).isLt, (y 1).isLt, (y 2).isLt⟩]
  exact congrArg x (eq_ix3 y)

/-! ## The mathematics -/

/-- Entry `(k, n)` of a weight matrix whose word `(r, n)` holds row `2 r` in its low half and row `2 r + 1` in its high one. -/
def half (W : ℕ → ℕ → BitVec 32) (k n : ℕ) : EReal := Ideal.ofBits .bf16 ((W (k / 2) n).extractLsb' (16 * (k % 2)) 16)

/-- Entry `(r, k)` of the tokens: the low halves of the words are columns 0 to 1023, the high halves the others. -/
def tok (X : ℕ → ℕ → BitVec 32) (r k : ℕ) : EReal :=
  if k < 1024 then Ideal.ofBits .f32 (X r k <<< 16) else Ideal.ofBits .f32 (X r (k - 1024) &&& 4294901760#32)

/-- A token times one column of a weight matrix. -/
def dotp (a b : ℕ → EReal) : EReal := ∑ k ∈ Finset.range 2048, a k * b k

/-- `1`, as the program writes it. -/
abbrev one : EReal := Ideal.ofBits .f32 0x3F800000#32

/-- One hidden unit: the gate's product `g` times the logistic function of `g`, times the other product. -/
def hid (x g u : ℕ → EReal) : EReal := dotp x g * Ideal.div one (one + Ideal.exp (-dotp x g)) * dotp x u

/-! ## One step -/

/-- The halves of a block of words, read at an index. -/
theorem halves {A B C : ℕ} (v : (⟨2, ![A, B]⟩ : Shape).Idx → BitVec 32) (h : (⟨2, ![A, B]⟩ : Shape).Bitcasts 32 ⟨2, ![C, B]⟩ 16) (W : ℕ → ℕ → BitVec 32)
    (hv : ∀ y : (⟨2, ![A, B]⟩ : Shape).Idx, v y = W (y 0).val (y 1).val) (y : (⟨2, ![C, B]⟩ : Shape).Idx) :
    bitcastToFloat (F := Ideal) .bf16 (bitcast ⟨2, ![C, B]⟩ 16 v h) y = half W (y 0).val (y 1).val := by
  show Ideal.ofBits .bf16 (bitcast ⟨2, ![C, B]⟩ 16 v h y) = _
  rw [bitcast_32_16, hv]
  rfl

variable (xb : S512x2048.Idx → Ideal .bf16) (bg bu : S1x1024x512.Idx → BitVec 32) (acc : S512x2048.Idx → Ideal .f32) (bd : S1x256x2048.Idx → BitVec 32)

theorem dims_in : dot_S512x2048_S2048x512_S512x512_1_0_0_1_n_n = DotDims.plain 512 2048 512 := rfl
theorem dims_out : dot_S512x512_S512x2048_S512x2048_1_0_0_1_n_n = DotDims.plain 512 512 2048 := rfl

/-- A row of the tokens' block times a column of a block of weights. -/
theorem product (w : S1x1024x512.Idx → BitVec 32) (X : ℕ → ℕ → EReal) (W : ℕ → ℕ → BitVec 32)
    (hx : ∀ y : S512x2048.Idx, xb y = X (y 0).val (y 1).val) (hw : ∀ y : S1x1024x512.Idx, w y = W (y 1).val (y 2).val) (p : Fin 512) (n : Fin 512) :
    matmul (F := Ideal) dot_S512x2048_S2048x512_S512x512_1_0_0_1_n_n none xb
      (bitcastToFloat .bf16 (bitcast S2048x512 16 (shapeCast S1024x512 w shapeCasts_S1x1024x512_S1024x512) bitcasts_S1024x512_w32_S2048x512_w16))
      (constant S512x512 .f32 0x00000000#32) (ix2 p n) = dotp (X p.val) (fun k => half W k n.val) := by
  rw [dims_in]
  refine (Ideal.matmul_plain_apply none xb _ _ p n).trans ?_
  have hz : (constant (F := Ideal) S512x512 .f32 0x00000000#32) (ix2 p n) = (0 : EReal) := Ideal.ofBits_zero_f32
  rw [hz, zero_add]
  unfold dotp
  rw [Finset.sum_range]
  refine Finset.sum_congr rfl fun k _ => ?_
  rw [hx]
  refine congrArg (X p.val k.val * ·) ?_
  refine halves (A := 1024) (B := 512) (C := 2048) _ bitcasts_S1024x512_w32_S2048x512_w16 W (fun y => ?_) (ix2 k n)
  refine (shapeCast_dropUnit_apply ![1024, 512] w shapeCasts_S1x1024x512_S1024x512 y).trans ?_
  exact hw _

/-- The step: the running sum plus this tile's hidden units times their rows of the second matrix. -/
theorem step (X : ℕ → ℕ → EReal) (G U D : ℕ → ℕ → BitVec 32)
    (hx : ∀ y : S512x2048.Idx, xb y = X (y 0).val (y 1).val) (hg : ∀ y : S1x1024x512.Idx, bg y = G (y 1).val (y 2).val)
    (hu : ∀ y : S1x1024x512.Idx, bu y = U (y 1).val (y 2).val) (hd : ∀ y : S1x256x2048.Idx, bd y = D (y 1).val (y 2).val) (p : Fin 512) (q : Fin 2048) :
    k0_pay5 (F := Ideal) xb bg bu acc bd (ix2 p q)
      = acc (ix2 p q) + ∑ n ∈ Finset.range 512, hid (X p.val) (fun k => half G k n) (fun k => half U k n) * half D n q.val := by
  unfold k0_pay5
  simp only [shapeCast_self]
  refine (congrArg (acc (ix2 p q) + ·) (?_ : _ = ∑ n ∈ Finset.range 512, hid (X p.val) (fun k => half G k n) (fun k => half U k n) * half D n q.val))
  rw [dims_out]
  refine (Ideal.matmul_plain_apply none _ _ _ p q).trans ?_
  have hz : (constant (F := Ideal) S512x2048 .f32 0x00000000#32) (ix2 p q) = (0 : EReal) := Ideal.ofBits_zero_f32
  rw [hz, zero_add, Finset.sum_range]
  refine Finset.sum_congr rfl fun n _ => ?_
  have e1 := product xb bg X G hx hg p n
  have e2 := product xb bu X U hx hu p n
  have e3 : bitcastToFloat (F := Ideal) .bf16 (bitcast S512x2048 16 (shapeCast S256x2048 bd shapeCasts_S1x256x2048_S256x2048) bitcasts_S256x2048_w32_S512x2048_w16) (ix2 n q)
      = half D n.val q.val :=
    halves (A := 256) (B := 2048) (C := 512) _ bitcasts_S256x2048_w32_S512x2048_w16 D
      (fun y => (shapeCast_dropUnit_apply ![256, 2048] bd shapeCasts_S1x256x2048_S256x2048 y).trans (hd _)) (ix2 n q)
  rw [e3]
  refine congrArg (· * half D n.val q.val) ?_
  unfold hid
  rw [← e1, ← e2]
  have en : ∀ x : EReal, Ideal.ofBits .f32 0x00000000#32 - x = -x := fun x => by rw [Ideal.ofBits_zero_f32, zero_sub]
  rw [← en]
  rfl

end Cert.Proof.Experts

end
-- ==== Proof.FinMath.lean ====
/-
  THE FINISHED ROW, PLAINLY, AND ONE TILE OF IT. A row's residual sum and its normalisation by natural coordinates, and the
  body's tile read at an index as that.
-/
module

public import proofs.«01_k».proof.Proof.FinBody
public import proofs.«01_k».proof.Proof.ExpMath
public import Idealize.ShloMosaic.Lib.Pointwise.SelectCore
public import Idealize.ShloMosaic.Lib.Pointwise.Reduce
public import Idealize.ShloMosaic.Lib.ValueLayout
public import Idealize.ShloMosaic.Lib.ValueLayoutCasts

@[expose] public section

set_option maxRecDepth 16384

noncomputable section

namespace Cert.Proof.Finish

open Cert.Kernel3Ideal Cert.Kernel3Ideal.Gen
open Cert.Proof.Experts (at2 at2_eq tok)
open Idealize.ShloMosaic hiding ix1 ix2 ix3 ix4 eq_ix2
open Idealize.ShloMosaic.ValueIdx
open scoped BigOperators

/-! ## The mathematics -/

/-- The number of a matrix at natural coordinates, zero outside it. -/
def num {a b : ℕ} (x : (⟨2, ![a, b]⟩ : Shape).Idx → EReal) (i j : ℕ) : EReal :=
  if h : i < a ∧ j < b then x (ix2 ⟨i, h.1⟩ ⟨j, h.2⟩) else 0

theorem num_eq {a b : ℕ} (x : (⟨2, ![a, b]⟩ : Shape).Idx → EReal) (y : (⟨2, ![a, b]⟩ : Shape).Idx) {i j : ℕ} (h0 : (y 0).val = i) (h1 : (y 1).val = j) :
    x y = num x i j := by
  subst h0; subst h1
  unfold num
  rw [dif_pos ⟨(y 0).isLt, (y 1).isLt⟩]
  exact congrArg x (eq_ix2 y)

/-- The residual stream's scale, the row length and the normalisation's small constant, as the program writes them. -/
abbrev scale : EReal := Ideal.ofBits .f32 0x3FB504F3#32
abbrev len : EReal := Ideal.ofBits .f32 0x45000000#32
abbrev eps : EReal := Ideal.ofBits .f32 0x3727C5AC#32

/-- Entry `k` of a row before its normalisation: the scaled stream plus the two expert rows, each times its gate. -/
def mix (x : ℕ → EReal) (ga gb : EReal) (A B : ℕ → EReal) (k : ℕ) : EReal := scale * x k + (ga * A k + gb * B k)

/-- The mean of a row. -/
def mean (v : ℕ → EReal) : EReal := Ideal.div (∑ k ∈ Finset.range 2048, v k) len

/-- Entry `q` of a row normalised: less its mean, over the root of its variance, times the gain, plus the bias. -/
def norm (v : ℕ → EReal) (g b : EReal) (q : ℕ) : EReal :=
  (v q - mean v) * Ideal.rsqrt (mean (fun k => (v k - mean v) * (v k - mean v)) + eps) * g + b

/-! ## The tile -/

/-- A column laid along the rows, read at an index. -/
theorem col_at {α : Type} {n : ℕ} (x : (⟨2, ![512, 1]⟩ : Shape).Idx → α) (h : (⟨2, ![512, 1]⟩ : Shape).Broadcasts ⟨2, ![512, n]⟩) (p : Fin 512) (q : Fin n) :
    broadcastTo ⟨2, ![512, n]⟩ x h (ix2 p q) = x (ix2 p 0) :=
  broadcastTo_apply x h (ix2 p q) (ix2 p 0) fun a => match a with
    | ⟨0, _⟩ => rfl
    | ⟨1, _⟩ => rfl

/-- A tile's row sums as a column. -/
theorem sum_at (x : S512x2048.Idx → EReal) (X : ℕ → EReal) (p : Fin 512) (hx : ∀ k : Fin 2048, x (ix2 p k) = X k.val) :
    shapeCast S512x1 (multiReduction (F := Ideal) (φ := .f32) .add [1] S512 x 0x00000000#32 reduces_S512x2048_S512 (.inl rfl) rfl) shapeCasts_S512_S512x1 (ix2 p 0)
      = ∑ k ∈ Finset.range 2048, X k := by
  refine (shapeCast_a_a1_apply _ shapeCasts_S512_S512x1 p 0).trans ?_
  refine (Ideal.reduceAdd_r2_a1 reduces_S512x2048_S512 x (ix1 p)).trans ?_
  rw [Finset.sum_range]
  exact Finset.sum_congr rfl fun k _ => hx k

/-- A tile's row means as a column. -/
def means (x : FVec Ideal S512x2048 .f32) : FVec Ideal S512x1 .f32 :=
  divf (shapeCast S512x1 (multiReduction (F := Ideal) (φ := .f32) .add [1] S512 x 0x00000000#32 reduces_S512x2048_S512 (.inl rfl) rfl) shapeCasts_S512_S512x1)
    (broadcast S512x1 (Scalar.ofBits (F := Ideal) .f32 0x45000000#32))

theorem means_at (x : FVec Ideal S512x2048 .f32) (X : ℕ → EReal) (p : Fin 512) (hx : ∀ k : Fin 2048, x (ix2 p k) = X k.val) : means x (ix2 p 0) = mean X :=
  congrArg (fun s : EReal => Ideal.div s len) (sum_at x X p hx)

/-- A tile less its row means. -/
def centred (x : FVec Ideal S512x2048 .f32) : FVec Ideal S512x2048 .f32 := subf x (broadcastTo S512x2048 (means x) broadcasts_S512x1_S512x2048)

theorem centred_at (x : FVec Ideal S512x2048 .f32) (X : ℕ → EReal) (p : Fin 512) (hx : ∀ k : Fin 2048, x (ix2 p k) = X k.val) (q : Fin 2048) :
    centred x (ix2 p q) = X q.val - mean X :=
  congrArg₂ (fun s t : EReal => s - t) (hx q) ((col_at (means x) broadcasts_S512x1_S512x2048 p q).trans (means_at x X p hx))

/-- The normalisation, read at an index. -/
theorem norm_at (x : FVec Ideal S512x2048 .f32) (g b : FVec Ideal S1x2048 .f32) (X : ℕ → EReal) (p : Fin 512) (q : Fin 2048)
    (hx : ∀ k : Fin 2048, x (ix2 p k) = X k.val) :
    k0_pay1 (F := Ideal) x g b (ix2 p q) = norm X (g (ix2 0 q)) (b (ix2 0 q)) q.val := by
  have e1 := centred_at x X p hx q
  have e2 := means_at (mulf (centred x) (centred x)) (fun k => (X k - mean X) * (X k - mean X)) p
    fun k => congrArg₂ (fun s t : EReal => s * t) (centred_at x X p hx k) (centred_at x X p hx k)
  have e3 := col_at (rsqrt (F := Ideal) (addf (means (mulf (centred x) (centred x))) (broadcast S512x1 (Scalar.ofBits (F := Ideal) .f32 0x3727C5AC#32)))) broadcasts_S512x1_S512x2048 p q
  have e4 : rsqrt (F := Ideal) (addf (means (mulf (centred x) (centred x))) (broadcast S512x1 (Scalar.ofBits (F := Ideal) .f32 0x3727C5AC#32))) (ix2 p 0)
      = Ideal.rsqrt (mean (fun k => (X k - mean X) * (X k - mean X)) + eps) := congrArg (fun s : EReal => Ideal.rsqrt (s + eps)) e2
  have e5 := broadcastTo_1b_ab_apply g broadcasts_S1x2048_S512x2048 p q
  have e6 := broadcastTo_1b_ab_apply b broadcasts_S1x2048_S512x2048 p q
  unfold norm
  rw [← e1, ← e4, ← e3, ← e5, ← e6]
  rfl

variable (i : grid0.Coords) (wa wb : S512x1024.Idx → BitVec 32) (ga gb : FVec Ideal S512x1 .f32) (xp xs : FVec Ideal S512x2048 .f32)
  (A B : ℕ → ℕ → BitVec 32) (r : ℕ) (p : Fin 512) (ha : ∀ k : Fin 1024, wa (ix2 p k) = A r k.val) (hb : ∀ k : Fin 1024, wb (ix2 p k) = B r k.val)

include ha hb in
/-- The two gated rows' low halves at a place of row `p`. -/
theorem low_at (y : S512x1024.Idx) (h0 : (y 0).val = p.val) {k : ℕ} (h1 : (y 1).val = k) :
    addf (F := Ideal) (mulf (broadcastTo S512x1024 ga broadcasts_S512x1_S512x1024) (bitcastToFloat .f32 (shli wa (broadcast S512x1024 16#32))))
        (mulf (broadcastTo S512x1024 gb broadcasts_S512x1_S512x1024) (bitcastToFloat .f32 (shli wb (broadcast S512x1024 16#32)))) y
      = ga (ix2 p 0) * Ideal.ofBits .f32 (A r k <<< 16) + gb (ix2 p 0) * Ideal.ofBits .f32 (B r k <<< 16) := by
  obtain ⟨p', q, rfl⟩ : ∃ (p' : Fin 512) (q : Fin 1024), y = ix2 p' q := ⟨y 0, y 1, eq_ix2 y⟩
  obtain rfl : p' = p := Fin.ext h0
  obtain rfl : q.val = k := h1
  rw [← ha q, ← hb q, ← col_at ga broadcasts_S512x1_S512x1024 p' q, ← col_at gb broadcasts_S512x1_S512x1024 p' q]
  rfl

include ha hb in
/-- Their high halves. -/
theorem high_at (y : S512x1024.Idx) (h0 : (y 0).val = p.val) {k : ℕ} (h1 : (y 1).val = k) :
    addf (F := Ideal) (mulf (broadcastTo S512x1024 ga broadcasts_S512x1_S512x1024) (bitcastToFloat .f32 (andi wa (broadcast S512x1024 4294901760#32))))
        (mulf (broadcastTo S512x1024 gb broadcasts_S512x1_S512x1024) (bitcastToFloat .f32 (andi wb (broadcast S512x1024 4294901760#32)))) y
      = ga (ix2 p 0) * Ideal.ofBits .f32 (A r k &&& 4294901760#32) + gb (ix2 p 0) * Ideal.ofBits .f32 (B r k &&& 4294901760#32) := by
  obtain ⟨p', q, rfl⟩ : ∃ (p' : Fin 512) (q : Fin 1024), y = ix2 p' q := ⟨y 0, y 1, eq_ix2 y⟩
  obtain rfl : p' = p := Fin.ext h0
  obtain rfl : q.val = k := h1
  rw [← ha q, ← hb q, ← col_at ga broadcasts_S512x1_S512x1024 p' q, ← col_at gb broadcasts_S512x1_S512x1024 p' q]
  rfl

include ha hb in
/-- The residual sum, read at an index. -/
theorem mix_at (X : ℕ → EReal) (hX : ∀ k : Fin 2048, Scalar.select (Scalar.cmpi .slt (BitVec.ofNat 32 (i 0).val) 32#32) xp xs (ix2 p k) = X k.val) (k : Fin 2048) :
    k0_pay2 (F := Ideal) i wa wb ga gb xp xs (ix2 p k) = mix X (ga (ix2 p 0)) (gb (ix2 p 0)) (tok A r) (tok B r) k.val := by
  unfold mix
  rw [← hX k]
  refine congrArg (scale * Scalar.select (Scalar.cmpi .slt (BitVec.ofNat 32 (i 0).val) 32#32) xp xs (ix2 p k) + ·) ?_
  refine (concatenate_pair_apply _ _ _ concatenates_S512x1024_S512x1024_S512x2048_d1 _).trans ?_
  unfold tok
  by_cases hk : k.val < 1024
  · rw [if_pos hk, if_pos hk]
    refine (dif_pos hk).trans ?_
    exact low_at wa wb ga gb A B r p ha hb _ rfl rfl
  · rw [if_neg hk, if_neg hk]
    refine (dif_neg hk).trans ?_
    exact high_at wa wb ga gb A B r p ha hb _ rfl rfl

include ha hb in
/-- The finished tile, read at an index. -/
theorem tile_at (g b : FVec Ideal S1x2048 .f32) (X : ℕ → EReal)
    (hX : ∀ k : Fin 2048, Scalar.select (Scalar.cmpi .slt (BitVec.ofNat 32 (i 0).val) 32#32) xp xs (ix2 p k) = X k.val) (q : Fin 2048) :
    tile (F := Ideal) i wa wb ga gb xp xs g b (ix2 p q) = norm (mix X (ga (ix2 p 0)) (gb (ix2 p 0)) (tok A r) (tok B r)) (g (ix2 0 q)) (b (ix2 0 q)) q.val :=
  norm_at _ g b _ p q (mix_at i wa wb ga gb xp xs A B r p ha hb X hX)

end Cert.Proof.Finish

end
-- ==== Proof.FinVal.lean ====
/-
  THE FINISH CALL'S VALUE. The blocks of the inputs at a point as the arrays' rows, and every entry of the two outputs as the
  normalised residual sum of its row.
-/
module

public import proofs.«01_k».proof.Proof.FinMath
public import proofs.«01_k».proof.Proof.FinEnd

@[expose] public section

set_option maxRecDepth 16384

noncomputable section

namespace Cert.Proof.Finish

open Cert.Kernel3Ideal Cert.Kernel3Ideal.Gen
open Cert.Proof.Experts (at2 at2_eq tok)
open Idealize.ShloMosaic hiding ix1 ix2 ix3 ix4 eq_ix2
open Idealize.ShloMosaic.ValueIdx
open Idealize.ShloMosaic.TcCoe
open scoped BigOperators

/-- Row `r` of the residual stream: the prompts' rows, then the samples'. -/
def stream (P : S16384x2048.Idx → EReal) (S : S1024x2048.Idx → EReal) (r k : ℕ) : EReal :=
  if r < 16384 then num (a := 16384) (b := 2048) P r k else num (a := 1024) (b := 2048) S (r - 16384) k

/-- Entry `(r, q)` of the layer's output. -/
def entry (A B : S17408x1024.Idx → BitVec 32) (ga gb : S17408x1.Idx → EReal) (P : S16384x2048.Idx → EReal) (S : S1024x2048.Idx → EReal) (g b : S1x2048.Idx → EReal) (r q : ℕ) : EReal :=
  norm (mix (stream P S r) (num (a := 17408) (b := 1) ga r 0) (num (a := 17408) (b := 1) gb r 0) (tok (at2 (a := 17408) (b := 1024) A) r) (tok (at2 (a := 17408) (b := 1024) B) r))
    (num (a := 1) (b := 2048) g 0 q) (num (a := 1) (b := 2048) b 0 q) q

variable (m : (ℓ : Loc nD τ sig) → Buf (Elt Ideal) ℓ) (c : Dev nD)

/-- The same of the arguments on device `c`. -/
def entryOf (r q : ℕ) : EReal :=
  entry (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) r q

/-! ## The blocks -/

theorem blk0 (t : Fin cfg0.N) (y : S512x1024.Idx) : iblk m c 0 t y = at2 (a := 17408) (b := 1024) (m ((c.tc : Thread nD τ).loc main_arg0)) (512 * t.val + (y 0).val) (y 1).val := by
  have h0 := Pipeline.Window.rect_emb_val (cfg0.win (0 : Fin 10)) t y (0 : Fin 2)
  have h1 := Pipeline.Window.rect_emb_val (cfg0.win (0 : Fin 10)) t y (1 : Fin 2)
  rw [show (cfg0.win (0 : Fin 10)).index t = _ from index0 t] at h0 h1
  exact at2_eq (a := 17408) (b := 1024) _ _ (h0.trans (show t.val * 512 + (y 0).val = _ by omega)) (h1.trans (show 0 * 1024 + (y 1).val = _ by omega))

theorem blk1 (t : Fin cfg0.N) (y : S512x1024.Idx) : iblk m c 1 t y = at2 (a := 17408) (b := 1024) (m ((c.tc : Thread nD τ).loc main_arg1)) (512 * t.val + (y 0).val) (y 1).val := by
  have h0 := Pipeline.Window.rect_emb_val (cfg0.win (1 : Fin 10)) t y (0 : Fin 2)
  have h1 := Pipeline.Window.rect_emb_val (cfg0.win (1 : Fin 10)) t y (1 : Fin 2)
  rw [show (cfg0.win (1 : Fin 10)).index t = _ from index1 t] at h0 h1
  exact at2_eq (a := 17408) (b := 1024) _ _ (h0.trans (show t.val * 512 + (y 0).val = _ by omega)) (h1.trans (show 0 * 1024 + (y 1).val = _ by omega))

theorem blk2 (t : Fin cfg0.N) (y : S512x1.Idx) : iblk m c 2 t y = num (a := 17408) (b := 1) (m ((c.tc : Thread nD τ).loc main_arg2)) (512 * t.val + (y 0).val) (y 1).val := by
  have h0 := Pipeline.Window.rect_emb_val (cfg0.win (2 : Fin 10)) t y (0 : Fin 2)
  have h1 := Pipeline.Window.rect_emb_val (cfg0.win (2 : Fin 10)) t y (1 : Fin 2)
  rw [show (cfg0.win (2 : Fin 10)).index t = _ from index2 t] at h0 h1
  exact num_eq (a := 17408) (b := 1) _ _ (h0.trans (show t.val * 512 + (y 0).val = _ by omega)) (h1.trans (show 0 * 1 + (y 1).val = _ by omega))

theorem blk3 (t : Fin cfg0.N) (y : S512x1.Idx) : iblk m c 3 t y = num (a := 17408) (b := 1) (m ((c.tc : Thread nD τ).loc main_arg3)) (512 * t.val + (y 0).val) (y 1).val := by
  have h0 := Pipeline.Window.rect_emb_val (cfg0.win (3 : Fin 10)) t y (0 : Fin 2)
  have h1 := Pipeline.Window.rect_emb_val (cfg0.win (3 : Fin 10)) t y (1 : Fin 2)
  rw [show (cfg0.win (3 : Fin 10)).index t = _ from index3 t] at h0 h1
  exact num_eq (a := 17408) (b := 1) _ _ (h0.trans (show t.val * 512 + (y 0).val = _ by omega)) (h1.trans (show 0 * 1 + (y 1).val = _ by omega))

theorem blk4 (t : Fin cfg0.N) (y : S512x2048.Idx) : iblk m c 4 t y = num (a := 16384) (b := 2048) (m ((c.tc : Thread nD τ).loc main_arg4)) (512 * min t.val 31 + (y 0).val) (y 1).val := by
  have h0 := Pipeline.Window.rect_emb_val (cfg0.win (4 : Fin 10)) t y (0 : Fin 2)
  have h1 := Pipeline.Window.rect_emb_val (cfg0.win (4 : Fin 10)) t y (1 : Fin 2)
  rw [show (cfg0.win (4 : Fin 10)).index t = _ from index4 t] at h0 h1
  exact num_eq (a := 16384) (b := 2048) _ _ (h0.trans (show min t.val 31 * 512 + (y 0).val = _ by omega)) (h1.trans (show 0 * 2048 + (y 1).val = _ by omega))

theorem blk5 (t : Fin cfg0.N) (y : S512x2048.Idx) : iblk m c 5 t y = num (a := 1024) (b := 2048) (m ((c.tc : Thread nD τ).loc main_arg5)) (512 * (t.val - 32) + (y 0).val) (y 1).val := by
  have h0 := Pipeline.Window.rect_emb_val (cfg0.win (5 : Fin 10)) t y (0 : Fin 2)
  have h1 := Pipeline.Window.rect_emb_val (cfg0.win (5 : Fin 10)) t y (1 : Fin 2)
  rw [show (cfg0.win (5 : Fin 10)).index t = _ from index5 t] at h0 h1
  exact num_eq (a := 1024) (b := 2048) _ _ (h0.trans (show (t.val - 32) * 512 + (y 0).val = _ by omega)) (h1.trans (show 0 * 2048 + (y 1).val = _ by omega))

theorem blk6 (t : Fin cfg0.N) (y : S1x2048.Idx) : iblk m c 6 t y = num (a := 1) (b := 2048) (m ((c.tc : Thread nD τ).loc main_arg6)) (y 0).val (y 1).val := by
  have h0 := Pipeline.Window.rect_emb_val (cfg0.win (6 : Fin 10)) t y (0 : Fin 2)
  have h1 := Pipeline.Window.rect_emb_val (cfg0.win (6 : Fin 10)) t y (1 : Fin 2)
  rw [show (cfg0.win (6 : Fin 10)).index t = _ from index6 t] at h0 h1
  exact num_eq (a := 1) (b := 2048) _ _ (h0.trans (show 0 * 1 + (y 0).val = _ by omega)) (h1.trans (show 0 * 2048 + (y 1).val = _ by omega))

theorem blk7 (t : Fin cfg0.N) (y : S1x2048.Idx) : iblk m c 7 t y = num (a := 1) (b := 2048) (m ((c.tc : Thread nD τ).loc main_arg7)) (y 0).val (y 1).val := by
  have h0 := Pipeline.Window.rect_emb_val (cfg0.win (7 : Fin 10)) t y (0 : Fin 2)
  have h1 := Pipeline.Window.rect_emb_val (cfg0.win (7 : Fin 10)) t y (1 : Fin 2)
  rw [show (cfg0.win (7 : Fin 10)).index t = _ from index7 t] at h0 h1
  exact num_eq (a := 1) (b := 2048) _ _ (h0.trans (show 0 * 1 + (y 0).val = _ by omega)) (h1.trans (show 0 * 2048 + (y 1).val = _ by omega))

/-! ## The tiles -/

theorem pick_prompt : ∀ t : Fin grid0.N, t.val < 32 → Scalar.cmpi .slt (BitVec.ofNat 32 (grid0.coords t 0).val) 32#32 = 1#1 := by decide +kernel
theorem pick_sample : ∀ t : Fin grid0.N, ¬t.val < 32 → Scalar.cmpi .slt (BitVec.ofNat 32 (grid0.coords t 0).val) 32#32 = 0#1 := by decide +kernel

/-- The stream a tile reads is its own rows of the two arguments. -/
theorem pick_at (t : Fin cfg0.N) (p : Fin 512) (k : Fin 2048) :
    Scalar.select (Scalar.cmpi .slt (BitVec.ofNat 32 (grid0.coords t 0).val) 32#32) (iblk m c 4 t : FVec Ideal S512x2048 .f32) (iblk m c 5 t) (ix2 p k)
      = stream (m ((c.tc : Thread nD τ).loc main_arg4)) (m ((c.tc : Thread nD τ).loc main_arg5)) (512 * t.val + p.val) k.val := by
  have hp := p.isLt
  unfold stream
  by_cases h : t.val < 32
  · rw [pick_prompt t h, if_pos (by omega)]
    refine (blk4 m c t (ix2 p k)).trans ?_
    rw [show min t.val 31 = t.val by omega]
  · rw [pick_sample t h, if_neg (by omega)]
    refine (blk5 m c t (ix2 p k)).trans ?_
    rw [show 512 * t.val + p.val - 16384 = 512 * (t.val - 32) + p.val by omega]

theorem done_at (t : Fin cfg0.N) (p : Fin 512) (q : Fin 2048) : done (F := Ideal) m c t (ix2 p q) = entryOf m c (512 * t.val + p.val) q.val := by
  refine (tile_at (grid0.coords t) (iblk m c 0 t) (iblk m c 1 t) (iblk m c 2 t) (iblk m c 3 t) (iblk m c 4 t) (iblk m c 5 t)
    (at2 (a := 17408) (b := 1024) (m ((c.tc : Thread nD τ).loc main_arg0))) (at2 (a := 17408) (b := 1024) (m ((c.tc : Thread nD τ).loc main_arg1))) (512 * t.val + p.val) p
    (fun k => blk0 m c t (ix2 p k)) (fun k => blk1 m c t (ix2 p k)) (iblk m c 6 t) (iblk m c 7 t)
    (stream (m ((c.tc : Thread nD τ).loc main_arg4)) (m ((c.tc : Thread nD τ).loc main_arg5)) (512 * t.val + p.val)) (pick_at m c t p) q).trans ?_
  rw [blk2 m c t (ix2 p 0), blk3 m c t (ix2 p 0), blk6 m c t (ix2 0 q), blk7 m c t (ix2 0 q)]
  rfl

theorem outP_at (i : S16384x2048.Idx) : outP (F := Ideal) m c i = entryOf m c (i 0).val (i 1).val := by
  have e := done_at m c ⟨(i 0).val / 512, prompt_lt i⟩ ⟨(i 0).val % 512, Nat.mod_lt _ (by decide)⟩ (i 1)
  rw [show 512 * ((i 0).val / 512) + (i 0).val % 512 = (i 0).val from Nat.div_add_mod _ _] at e
  refine Eq.trans ?_ e
  exact done_congr m c rfl rfl rfl

theorem outS_at (i : S1024x2048.Idx) : outS (F := Ideal) m c i = entryOf m c (16384 + (i 0).val) (i 1).val := by
  have e := done_at m c ⟨(i 0).val / 512 + 32, sample_lt i⟩ ⟨(i 0).val % 512, Nat.mod_lt _ (by decide)⟩ (i 1)
  rw [show 512 * ((i 0).val / 512 + 32) + (i 0).val % 512 = 16384 + (i 0).val by omega] at e
  refine Eq.trans ?_ e
  exact done_congr m c rfl rfl rfl

end Cert.Proof.Finish

end
-- ==== Proof.FinRef.lean ====
/-
  THE FINISH CALL'S REFERENCE, READ AT AN INDEX. Its rows are the same normalised residual sums.
-/
module

public import proofs.«01_k».proof.Proof.FinVal
public import proofs.«01_k».proof.Proof.Gen.Reference3Ideal.Run
public import Idealize.ShloMosaic.Lib.StableHlo.Predicate
public import Idealize.ShloMosaic.Lib.KernelVsHost
public import Idealize.ShloMosaic.Lib.IdealHost

@[expose] public section

set_option maxRecDepth 16384

noncomputable section

namespace Cert.Proof.Finish

open Cert.Reference3Ideal Cert.Reference3Ideal.Gen
open Cert.Proof.Experts (at2 at2_eq tok)
open Idealize.ShloMosaic hiding ix1 ix2 ix3 ix4 eq_ix2
open Idealize.ShloMosaic.ValueIdx
open scoped BigOperators

/-! ## Its normalisation -/

theorem hcol_at (x : FVec Ideal S17408x1 .f32) (p : Fin 17408) (q : Fin 2048) : broadcastInDim S17408x2048 ![0, 1] bcast_S17408x1_S17408x2048_0_1 x (ix2 p q) = x (ix2 p 0) :=
  broadcastInDim_apply ![0, 1] bcast_S17408x1_S17408x2048_0_1 x (ix2 p q) (ix2 p 0) fun a => match a with
    | ⟨0, _⟩ => rfl
    | ⟨1, _⟩ => rfl

/-- The reference's row sums as a column. -/
theorem hsum_at (x : FVec Ideal S17408x2048 .f32) (X : ℕ → EReal) (p : Fin 17408) (hx : ∀ k : Fin 2048, x (ix2 p k) = X k.val) :
    broadcastInDim S17408x1 ![0] bcast_S17408_S17408x1_0 (Host.reduceAdd x (constant S_ .f32 0x00000000#32) reducesTo_S17408x2048_S17408_d1 h_S_) (ix2 p 0)
      = ∑ k ∈ Finset.range 2048, X k := by
  refine (broadcastInDim_apply ![0] bcast_S17408_S17408x1_0 _ (ix2 p 0) (ix1 p) fun a => match a with
    | ⟨0, _⟩ => rfl).trans ?_
  refine (Ideal.hostReduceAdd_r2_a1 reducesTo_S17408x2048_S17408_d1 x (Ideal.ofBits .f32 0x00000000#32) (ix1 p)).trans ?_
  rw [Ideal.ofBits_zero_f32, zero_add, Finset.sum_range]
  exact Finset.sum_congr rfl fun k _ => hx k

/-- Its row means as a column. -/
def hmeans (x : FVec Ideal S17408x2048 .f32) : FVec Ideal S17408x1 .f32 :=
  Host.divf (broadcastInDim S17408x1 ![0] bcast_S17408_S17408x1_0 (Host.reduceAdd x (constant S_ .f32 0x00000000#32) reducesTo_S17408x2048_S17408_d1 h_S_))
    (broadcastInDim S17408x1 ![] bcast_S_S17408x1 (constant S_ .f32 0x45000000#32))

theorem hmeans_at (x : FVec Ideal S17408x2048 .f32) (X : ℕ → EReal) (p : Fin 17408) (hx : ∀ k : Fin 2048, x (ix2 p k) = X k.val) : hmeans x (ix2 p 0) = mean X :=
  congrArg (fun s : EReal => Ideal.div s len) (hsum_at x X p hx)

/-- Its rows less their means. -/
def hcentred (x : FVec Ideal S17408x2048 .f32) : FVec Ideal S17408x2048 .f32 := subf x (broadcastInDim S17408x2048 ![0, 1] bcast_S17408x1_S17408x2048_0_1 (hmeans x))

theorem hcentred_at (x : FVec Ideal S17408x2048 .f32) (X : ℕ → EReal) (p : Fin 17408) (hx : ∀ k : Fin 2048, x (ix2 p k) = X k.val) (q : Fin 2048) :
    hcentred x (ix2 p q) = X q.val - mean X :=
  congrArg₂ (fun s t : EReal => s - t) (hx q) ((hcol_at (hmeans x) p q).trans (hmeans_at x X p hx))

/-- The reciprocal roots of its rows' variances. -/
def hroots (x : FVec Ideal S17408x2048 .f32) : FVec Ideal S17408x1 .f32 :=
  Host.rsqrt (addf (hmeans (mulf (hcentred x) (hcentred x))) (broadcastInDim S17408x1 ![] bcast_S_S17408x1 (constant S_ .f32 0x3727C5AC#32)))

/-- Its normalised rows. -/
def hnorm (x : FVec Ideal S17408x2048 .f32) (g b : FVec Ideal S1x2048 .f32) : FVec Ideal S17408x2048 .f32 :=
  addf (mulf (mulf (hcentred x) (broadcastInDim S17408x2048 ![0, 1] bcast_S17408x1_S17408x2048_0_1 (hroots x))) (broadcastInDim S17408x2048 ![0, 1] bcast_S1x2048_S17408x2048_0_1 g))
    (broadcastInDim S17408x2048 ![0, 1] bcast_S1x2048_S17408x2048_0_1 b)

theorem hnorm_at (x : FVec Ideal S17408x2048 .f32) (g b : FVec Ideal S1x2048 .f32) (X : ℕ → EReal) (p : Fin 17408) (q : Fin 2048)
    (hx : ∀ k : Fin 2048, x (ix2 p k) = X k.val) : hnorm x g b (ix2 p q) = norm X (g (ix2 0 q)) (b (ix2 0 q)) q.val := by
  have e1 := hcentred_at x X p hx q
  have e2 := hmeans_at (mulf (hcentred x) (hcentred x)) (fun k => (X k - mean X) * (X k - mean X)) p
    fun k => congrArg₂ (fun s t : EReal => s * t) (hcentred_at x X p hx k) (hcentred_at x X p hx k)
  have e3 := hcol_at (hroots x) p q
  have e4 : hroots x (ix2 p 0) = Ideal.rsqrt (mean (fun k => (X k - mean X) * (X k - mean X)) + eps) := congrArg (fun s : EReal => Ideal.rsqrt (s + eps)) e2
  have e5 := broadcastInDim_oneRow_apply bcast_S1x2048_S17408x2048_0_1 g p q
  have e6 := broadcastInDim_oneRow_apply bcast_S1x2048_S17408x2048_0_1 b p q
  unfold norm
  rw [← e1, ← e4, ← e3, ← e5, ← e6]
  rfl

/-! ## Its residual sum -/

/-- The packed rows unpacked. -/
def hrows (x : S17408x1024.Idx → BitVec 32) : FVec Ideal S17408x2048 .f32 :=
  concatenate S17408x2048 1 [⟨S17408x1024, (bitcastToFloat (F := Ideal) .f32 (Host.shli (id x) (broadcastInDim S17408x1024 ![] bcast_S_S17408x1024 (constantI S_ 32 16#32))))⟩,
      ⟨S17408x1024, (bitcastToFloat (F := Ideal) .f32 (andi (id x) (broadcastInDim S17408x1024 ![] bcast_S_S17408x1024 (constantI S_ 32 4294901760#32))))⟩]
    concatenates_S17408x1024_S17408x1024_S17408x2048_d1

theorem hrows_at (x : S17408x1024.Idx → BitVec 32) (p : Fin 17408) (k : Fin 2048) : hrows x (ix2 p k) = tok (at2 (a := 17408) (b := 1024) x) p.val k.val := by
  refine (concatenate_pair_apply _ _ _ concatenates_S17408x1024_S17408x1024_S17408x2048_d1 _).trans ?_
  unfold tok
  by_cases hk : k.val < 1024
  · rw [if_pos hk]
    refine (dif_pos hk).trans ?_
    refine Eq.trans (b := Ideal.ofBits .f32 (IntOp.shli .host (x _) 16#32)) rfl ?_
    rw [ValueIdx.shli_host]
    exact congrArg (fun w : BitVec 32 => Ideal.ofBits .f32 (w <<< 16)) (at2_eq (a := 17408) (b := 1024) x _ rfl rfl)
  · rw [if_neg hk]
    refine (dif_neg hk).trans ?_
    exact congrArg (fun w : BitVec 32 => Ideal.ofBits .f32 (w &&& 4294901760#32)) (at2_eq (a := 17408) (b := 1024) x _ rfl rfl)

theorem hstream_at (P : FVec Ideal S16384x2048 .f32) (S : FVec Ideal S1024x2048 .f32) (p : Fin 17408) (k : Fin 2048) :
    concatenate S17408x2048 0 [⟨S16384x2048, P⟩, ⟨S1024x2048, S⟩] concatenates_S16384x2048_S1024x2048_S17408x2048_d0 (ix2 p k) = stream P S p.val k.val := by
  refine (concatenate_pair_apply _ _ _ concatenates_S16384x2048_S1024x2048_S17408x2048_d0 _).trans ?_
  unfold stream
  by_cases hp : p.val < 16384
  · rw [if_pos hp]
    refine (dif_pos hp).trans ?_
    exact num_eq (a := 16384) (b := 2048) P _ rfl rfl
  · rw [if_neg hp]
    refine (dif_neg hp).trans ?_
    exact num_eq (a := 1024) (b := 2048) S _ rfl rfl

/-- Its rows before the normalisation. -/
def hmix (A B : S17408x1024.Idx → BitVec 32) (ga gb : FVec Ideal S17408x1 .f32) (P : FVec Ideal S16384x2048 .f32) (S : FVec Ideal S1024x2048 .f32) : FVec Ideal S17408x2048 .f32 :=
  addf (mulf (broadcastInDim S17408x2048 ![] bcast_S_S17408x2048 (constant S_ .f32 0x3FB504F3#32))
      (concatenate S17408x2048 0 [⟨S16384x2048, P⟩, ⟨S1024x2048, S⟩] concatenates_S16384x2048_S1024x2048_S17408x2048_d0))
    (addf (mulf (broadcastInDim S17408x2048 ![0, 1] bcast_S17408x1_S17408x2048_0_1 ga) (hrows A)) (mulf (broadcastInDim S17408x2048 ![0, 1] bcast_S17408x1_S17408x2048_0_1 gb) (hrows B)))

theorem hmix_at (A B : S17408x1024.Idx → BitVec 32) (ga gb : FVec Ideal S17408x1 .f32) (P : FVec Ideal S16384x2048 .f32) (S : FVec Ideal S1024x2048 .f32) (p : Fin 17408) (k : Fin 2048) :
    hmix A B ga gb P S (ix2 p k) = mix (stream P S p.val) (num (a := 17408) (b := 1) ga p.val 0) (num (a := 17408) (b := 1) gb p.val 0)
      (tok (at2 (a := 17408) (b := 1024) A) p.val) (tok (at2 (a := 17408) (b := 1024) B) p.val) k.val := by
  unfold mix
  rw [← hrows_at A p k, ← hrows_at B p k, ← hstream_at P S p k, ← num_eq (a := 17408) (b := 1) ga (ix2 p 0) (i := p.val) (j := 0) rfl rfl, ← num_eq (a := 17408) (b := 1) gb (ix2 p 0) (i := p.val) (j := 0) rfl rfl,
    ← hcol_at ga p k, ← hcol_at gb p k]
  rfl

/-- Its finished rows, read at an index. -/
theorem hfinish_at (A B : S17408x1024.Idx → BitVec 32) (ga gb : FVec Ideal S17408x1 .f32) (P : FVec Ideal S16384x2048 .f32) (S : FVec Ideal S1024x2048 .f32) (g b : FVec Ideal S1x2048 .f32)
    (p : Fin 17408) (q : Fin 2048) : hnorm (hmix A B ga gb P S) g b (ix2 p q) = entry A B ga gb P S g b p.val q.val := by
  refine (hnorm_at _ g b _ p q (hmix_at A B ga gb P S p)).trans ?_
  rw [num_eq (a := 1) (b := 2048) g (ix2 0 q) (i := 0) (j := q.val) rfl rfl, num_eq (a := 1) (b := 2048) b (ix2 0 q) (i := 0) (j := q.val) rfl rfl]
  rfl

/-! ## The results -/

section Results
variable (m' : (ℓ : Loc nD τ sig) → Buf (Elt Ideal) ℓ) (c : Dev nD) (A B : S17408x1024.Idx → BitVec 32) (ga gb : FVec Ideal S17408x1 .f32) (P : FVec Ideal S16384x2048 .f32)
  (S : FVec Ideal S1024x2048 .f32) (g b : FVec Ideal S1x2048 .f32)
  (h0 : m' ((c.tc : Thread nD τ).loc main_arg0) = A) (h1 : m' ((c.tc : Thread nD τ).loc main_arg1) = B) (h2 : m' ((c.tc : Thread nD τ).loc main_arg2) = ga)
  (h3 : m' ((c.tc : Thread nD τ).loc main_arg3) = gb) (h4 : m' ((c.tc : Thread nD τ).loc main_arg4) = P) (h5 : m' ((c.tc : Thread nD τ).loc main_arg5) = S)
  (h6 : m' ((c.tc : Thread nD τ).loc main_arg6) = g) (h7 : m' ((c.tc : Thread nD τ).loc main_arg7) = b)

include h0 h1 h2 h3 h4 h5 h6 h7

theorem ref_prompt (i : S16384x2048.Idx) : Cert.Reference3Ideal.Value.res_main_v45 (F := Ideal) m' c i = entry A B ga gb P S g b (i 0).val (i 1).val := by
  have hi : (i 0).val < 16384 := (i 0).isLt
  subst h0 h1 h2 h3 h4 h5 h6 h7
  have e := hfinish_at (m' ((c.tc : Thread nD τ).loc main_arg0)) (m' ((c.tc : Thread nD τ).loc main_arg1)) (m' ((c.tc : Thread nD τ).loc main_arg2)) (m' ((c.tc : Thread nD τ).loc main_arg3))
    (m' ((c.tc : Thread nD τ).loc main_arg4)) (m' ((c.tc : Thread nD τ).loc main_arg5)) (m' ((c.tc : Thread nD τ).loc main_arg6)) (m' ((c.tc : Thread nD τ).loc main_arg7)) ⟨(i 0).val, by omega⟩ (i 1)
  refine Eq.trans ?_ e
  unfold Cert.Reference3Ideal.Value.res_main_v45
  exact extractStridedSlice_apply (α := EReal) ![0, 0] _ slices_S17408x2048_S16384x2048_0_0 i (ix2 ⟨(i 0).val, by omega⟩ (i 1)) fun a => match a with
    | ⟨0, _⟩ => (Nat.zero_add (i 0).val).symm
    | ⟨1, _⟩ => (Nat.zero_add (i 1).val).symm

theorem ref_sample (i : S1024x2048.Idx) : Cert.Reference3Ideal.Value.res_main_v46 (F := Ideal) m' c i = entry A B ga gb P S g b (16384 + (i 0).val) (i 1).val := by
  have hi : (i 0).val < 1024 := (i 0).isLt
  subst h0 h1 h2 h3 h4 h5 h6 h7
  have e := hfinish_at (m' ((c.tc : Thread nD τ).loc main_arg0)) (m' ((c.tc : Thread nD τ).loc main_arg1)) (m' ((c.tc : Thread nD τ).loc main_arg2)) (m' ((c.tc : Thread nD τ).loc main_arg3))
    (m' ((c.tc : Thread nD τ).loc main_arg4)) (m' ((c.tc : Thread nD τ).loc main_arg5)) (m' ((c.tc : Thread nD τ).loc main_arg6)) (m' ((c.tc : Thread nD τ).loc main_arg7)) ⟨16384 + (i 0).val, by omega⟩ (i 1)
  refine Eq.trans ?_ e
  unfold Cert.Reference3Ideal.Value.res_main_v46
  exact extractStridedSlice_apply (α := EReal) ![16384, 0] _ slices_S17408x2048_S1024x2048_16384_0 i (ix2 ⟨16384 + (i 0).val, by omega⟩ (i 1)) fun a => match a with
    | ⟨0, _⟩ => rfl
    | ⟨1, _⟩ => (Nat.zero_add (i 1).val).symm

end Results

end Cert.Proof.Finish

end
-- ==== Proof.DenBody.lean ====
/-
  ONE POINT OF THE DENSE FEED-FORWARD CALL. What its body leaves in the scratch buffer and in the two outputs' blocks, by its
  three paths, and the scratch buffer and the blocks after every point as a running sum.
-/
module

public import proofs.«01_k».proof.Proof.Gen.Kernel4Ideal.Launch
public import proofs.«01_k».proof.Proof.Gen.Kernel4Ideal.Skeleton
public import proofs.«01_k».proof.Proof.Gen.Kernel4Ideal.Frame
public import Idealize.ShloMosaic.Lib.Pipeline.Value
public import Idealize.ShloMosaic.Lib.Tactic

@[expose] public section

set_option maxRecDepth 16384

noncomputable section

namespace Cert.Proof.Dense

open Cert.Kernel4Ideal Cert.Kernel4Ideal.Gen
open Idealize.ShloMosaic
open Idealize.ShloMosaic.TcCoe
open Idealize.SL.Sem
open Idealize.ShloMosaic.Pipeline (Dat)

variable {F : FTy → Type} [FloatOps F]

theorem origin : (![0, 0] : Fin 2 → Nat) = fun _ => 0 := funext fun a => by fin_cases a <;> rfl

/-! ## The paths -/

section Paths
variable (c : Dev nD) (i : grid0.Coords)
  (a2 : Memref sig .tc .vmem S512x2048 .bf16) (h2 : a2.IsWhole)
  (a3 : Memref sig .tc .vmem S2048x512 .bf16) (h3 : a3.IsWhole)
  (a4 : Memref sig .tc .vmem S2048x512 .bf16) (h4 : a4.IsWhole)
  (a5 : Memref sig .tc .vmem S512x2048 .bf16) (h5 : a5.IsWhole)
  (a6 : Memref sig .tc .vmem S512x2048 .f32) (h6 : a6.IsWhole)
  (a7 : Memref sig .tc .vmem S1x2048 .f32) (h7 : a7.IsWhole)
  (a8 : Memref sig .tc .vmem S1x2048 .f32) (h8 : a8.IsWhole)
  (a9 : Memref sig .tc .vmem S512x2048 .f32) (h9 : a9.IsWhole)
  (a10 : Memref sig .tc .vmem S512x2048 .bf16) (h10 : a10.IsWhole)
  (a11 : Memref sig .tc .vmem S512x2048 .f32) (h11 : a11.IsWhole)
  (x0 : Vec F S512x2048 .bf16) (x1 : Vec F S2048x512 .bf16) (x2 : Vec F S2048x512 .bf16) (x3 : Vec F S512x2048 .bf16) (x4 : Vec F S512x2048 .f32)
  (x5 : Vec F S1x2048 .f32) (x6 : Vec F S1x2048 .f32) (xs : Vec F S512x2048 .f32)

/-- The first point of a row tile starts from zeros. -/
theorem sum_first (p : cond0_0 i) (q : ¬cond0_1 i) : sout0_A_0 c i a2 h2 a3 h3 a4 h4 a5 h5 a6 h6 a7 h7 a8 h8 a9 h9 a10 h10 a11 h11 p q x0 x1 x2 x3 x4 x5 x6 = k0_pay2 x0 x1 x2 (k0_pay1 (F := F)) x3 := by
  unfold sout0_A_0
  rw [View.read_writes_eq_canon _ _ _ (scover0_A_0 c i a2 h2 a3 h3 a4 h4 a5 h5 a6 h6 a7 h7 a8 h8 a9 h9 a10 h10 a11 h11 p q x0 x1 x2 x3 x4 x5 x6)]
  unfold kernelRun0_A
  dsimp only
  sl_unfold_words
  rw [View.canon_cons_unit_zero (S := S512x2048) origin, View.readCov_unit_zero (S := S512x2048) _ origin]
  simp only [View.readAt_eq_ld, h2.read_unread, h3.read_unread, h4.read_unread, h5.read_unread, View.ld_unit_zero (S := S512x2048) origin, View.ld_unit_zero (S := S2048x512) origin]

/-- A later one adds to what the point before it left. -/
theorem sum_middle (p : ¬cond0_0 i) (q : ¬cond0_1 i) : sout0_B_0 c i a2 h2 a3 h3 a4 h4 a5 h5 a6 h6 a7 h7 a8 h8 a9 h9 a10 h10 a11 h11 p q x0 x1 x2 x3 x4 x5 x6 xs = k0_pay2 x0 x1 x2 xs x3 := by
  unfold sout0_B_0
  rw [View.read_writes_eq_canon _ _ _ (scover0_B_0 c i a2 h2 a3 h3 a4 h4 a5 h5 a6 h6 a7 h7 a8 h8 a9 h9 a10 h10 a11 h11 p q x0 x1 x2 x3 x4 x5 x6 xs)]
  unfold kernelRun0_B
  dsimp only
  sl_unfold_words
  rw [View.canon_unit_zero origin]
  simp only [View.readAt_eq_ld, h2.read_unread, h3.read_unread, h4.read_unread, h5.read_unread, h11.read_unread, View.ld_unit_zero (S := S512x2048) origin, View.ld_unit_zero (S := S2048x512) origin]

/-- So does the last. -/
theorem sum_last (p : ¬cond0_0 i) (q : cond0_1 i) : sout0_C_0 c i a2 h2 a3 h3 a4 h4 a5 h5 a6 h6 a7 h7 a8 h8 a9 h9 a10 h10 a11 h11 p q x0 x1 x2 x3 x4 x5 x6 xs = k0_pay2 x0 x1 x2 xs x3 := by
  unfold sout0_C_0
  rw [View.read_writes_eq_canon _ _ _ (scover0_C_0 c i a2 h2 a3 h3 a4 h4 a5 h5 a6 h6 a7 h7 a8 h8 a9 h9 a10 h10 a11 h11 p q x0 x1 x2 x3 x4 x5 x6 xs)]
  unfold kernelRun0_C
  dsimp only
  sl_unfold_words
  rw [View.canon_unit_zero origin]
  simp only [View.readAt_eq_ld, h2.read_unread, h3.read_unread, h4.read_unread, h5.read_unread, h11.read_unread, View.ld_unit_zero (S := S512x2048) origin, View.ld_unit_zero (S := S2048x512) origin]

/-- The last point's first output: the normalised rows. -/
theorem rows_last (p : ¬cond0_0 i) (q : cond0_1 i) : out0_C_7 c i a2 h2 a3 h3 a4 h4 a5 h5 a6 h6 a7 h7 a8 h8 a9 h9 a10 h10 a11 h11 p q x0 x1 x2 x3 x4 x5 x6 xs = k0_pay3 x4 (k0_pay2 x0 x1 x2 xs x3) x5 x6 := by
  unfold out0_C_7
  rw [View.read_writes_eq_canon _ _ _ (cover0_C_7 c i a2 h2 a3 h3 a4 h4 a5 h5 a6 h6 a7 h7 a8 h8 a9 h9 a10 h10 a11 h11 p q x0 x1 x2 x3 x4 x5 x6 xs)]
  unfold kernelRun0_C
  dsimp only
  sl_unfold_words
  rw [View.canon_unit_zero origin, View.readCov_unit_zero (S := S512x2048) _ origin]
  simp only [View.readAt_eq_ld, h2.read_unread, h3.read_unread, h4.read_unread, h5.read_unread, h6.read_unread, h7.read_unread, h8.read_unread, h11.read_unread,
    View.ld_unit_zero (S := S512x2048) origin, View.ld_unit_zero (S := S2048x512) origin, View.ld_unit_zero (S := S1x2048) origin]

/-- Its second: the same rounded. -/
theorem short_last (p : ¬cond0_0 i) (q : cond0_1 i) : out0_C_8 c i a2 h2 a3 h3 a4 h4 a5 h5 a6 h6 a7 h7 a8 h8 a9 h9 a10 h10 a11 h11 p q x0 x1 x2 x3 x4 x5 x6 xs = k0_pay4 x4 (k0_pay2 x0 x1 x2 xs x3) x5 x6 := by
  unfold out0_C_8
  rw [View.read_writes_eq_canon _ _ _ (cover0_C_8 c i a2 h2 a3 h3 a4 h4 a5 h5 a6 h6 a7 h7 a8 h8 a9 h9 a10 h10 a11 h11 p q x0 x1 x2 x3 x4 x5 x6 xs)]
  unfold kernelRun0_C
  dsimp only
  sl_unfold_words
  rw [View.canon_unit_zero origin, View.readCov_unit_zero (S := S512x2048) _ origin]
  simp only [View.readAt_eq_ld, h2.read_unread, h3.read_unread, h4.read_unread, h5.read_unread, h6.read_unread, h7.read_unread, h8.read_unread, h11.read_unread,
    View.ld_unit_zero (S := S512x2048) origin, View.ld_unit_zero (S := S2048x512) origin, View.ld_unit_zero (S := S1x2048) origin]

end Paths

/-! ## The points -/

variable (m : (ℓ : Loc nD τ sig) → Buf (Elt F) ℓ) (ρ : Dev nD → PrngReg)

theorem points : cfg0.N = 352 := N_0

/-- The running sum after point `n`. -/
def upto (c : Dev nD) : (n : ℕ) → n < cfg0.N → Vec F S512x2048 .f32
  | 0, h => k0_pay2 (iblk m c 0 ⟨0, h⟩) (iblk m c 1 ⟨0, h⟩) (iblk m c 2 ⟨0, h⟩) (k0_pay1 (F := F)) (iblk m c 3 ⟨0, h⟩)
  | n + 1, h => k0_pay2 (iblk m c 0 ⟨n + 1, h⟩) (iblk m c 1 ⟨n + 1, h⟩) (iblk m c 2 ⟨n + 1, h⟩)
      (if (n + 1) % 11 = 0 then k0_pay1 (F := F) else upto c n (Nat.lt_of_succ_lt h)) (iblk m c 3 ⟨n + 1, h⟩)

theorem upto_first (c : Dev nD) (n : ℕ) (h : n < cfg0.N) (h0 : n % 11 = 0) :
    upto m c n h = k0_pay2 (iblk m c 0 ⟨n, h⟩) (iblk m c 1 ⟨n, h⟩) (iblk m c 2 ⟨n, h⟩) (k0_pay1 (F := F)) (iblk m c 3 ⟨n, h⟩) := by
  cases n with
  | zero => rfl
  | succ n => rw [upto, if_pos h0]

theorem upto_next (c : Dev nD) (n : ℕ) (h : n + 1 < cfg0.N) (h0 : ¬(n + 1) % 11 = 0) :
    upto m c (n + 1) h = k0_pay2 (iblk m c 0 ⟨n + 1, h⟩) (iblk m c 1 ⟨n + 1, h⟩) (iblk m c 2 ⟨n + 1, h⟩) (upto m c n (Nat.lt_of_succ_lt h)) (iblk m c 3 ⟨n + 1, h⟩) := by
  rw [upto, if_neg h0]

/-- What a point leaves depends on its number alone. -/
theorem outs_congr (c : Dev nD) {n n' : ℕ} (e : n = n') (h : n < cfg0.N) (h' : n' < cfg0.N) : outsAt0 m c n h = outsAt0 m c n' h' := by
  subst e; rfl

theorem scratch_first (c : Dev nD) (t : Fin cfg0.N) (h0 : t.val % 11 = 0) (h1 : ¬t.val % 11 = 10) :
    (outsAt0 m c t.val t.isLt).2.2 = k0_pay2 (iblk m c 0 t) (iblk m c 1 t) (iblk m c 2 t) (k0_pay1 (F := F)) (iblk m c 3 t) := by
  refine (congrArg (fun o => o.2.2) (outsAt0_A m c t h0 h1)).trans ?_
  dsimp only
  exact sum_first ..

theorem scratch_middle (c : Dev nD) (t : Fin cfg0.N) (h0 : ¬t.val % 11 = 0) (h1 : ¬t.val % 11 = 10) (z : Vec F S512x2048 .f32)
    (hz : (outsAt0 m c (t.val - 1) (Nat.lt_of_le_of_lt (Nat.sub_le _ _) t.isLt)).2.2 = z) :
    (outsAt0 m c t.val t.isLt).2.2 = k0_pay2 (iblk m c 0 t) (iblk m c 1 t) (iblk m c 2 t) z (iblk m c 3 t) := by
  refine (congrArg (fun o => o.2.2) (outsAt0_B m c t h0 h1)).trans ?_
  dsimp only
  rw [hz]
  exact sum_middle ..

theorem scratch_last (c : Dev nD) (t : Fin cfg0.N) (h0 : ¬t.val % 11 = 0) (h1 : t.val % 11 = 10) (z : Vec F S512x2048 .f32)
    (hz : (outsAt0 m c (t.val - 1) (Nat.lt_of_le_of_lt (Nat.sub_le _ _) t.isLt)).2.2 = z) :
    (outsAt0 m c t.val t.isLt).2.2 = k0_pay2 (iblk m c 0 t) (iblk m c 1 t) (iblk m c 2 t) z (iblk m c 3 t) := by
  refine (congrArg (fun o => o.2.2) (outsAt0_C m c t h0 h1)).trans ?_
  dsimp only
  rw [hz]
  exact sum_last ..

theorem block_rows (c : Dev nD) (t : Fin cfg0.N) (h0 : ¬t.val % 11 = 0) (h1 : t.val % 11 = 10) (z : Vec F S512x2048 .f32)
    (hz : (outsAt0 m c (t.val - 1) (Nat.lt_of_le_of_lt (Nat.sub_le _ _) t.isLt)).2.2 = z) :
    (outsAt0 m c t.val t.isLt).1 = k0_pay3 (iblk m c 4 t) (k0_pay2 (iblk m c 0 t) (iblk m c 1 t) (iblk m c 2 t) z (iblk m c 3 t)) (iblk m c 5 t) (iblk m c 6 t) := by
  refine (congrArg (fun o => o.1) (outsAt0_C m c t h0 h1)).trans ?_
  dsimp only
  rw [hz]
  exact rows_last ..

theorem block_short (c : Dev nD) (t : Fin cfg0.N) (h0 : ¬t.val % 11 = 0) (h1 : t.val % 11 = 10) (z : Vec F S512x2048 .f32)
    (hz : (outsAt0 m c (t.val - 1) (Nat.lt_of_le_of_lt (Nat.sub_le _ _) t.isLt)).2.2 = z) :
    (outsAt0 m c t.val t.isLt).2.1 = k0_pay4 (iblk m c 4 t) (k0_pay2 (iblk m c 0 t) (iblk m c 1 t) (iblk m c 2 t) z (iblk m c 3 t)) (iblk m c 5 t) (iblk m c 6 t) := by
  refine (congrArg (fun o => o.2.1) (outsAt0_C m c t h0 h1)).trans ?_
  dsimp only
  rw [hz]
  exact short_last ..

/-- The scratch buffer after point `n` is the running sum. -/
theorem scratch_eq (c : Dev nD) (n : ℕ) : ∀ h : n < cfg0.N, (outsAt0 m c n h).2.2 = upto m c n h := by
  induction n with
  | zero => exact fun h => (scratch_first m c ⟨0, h⟩ (Nat.zero_mod 11) (by show ¬0 % 11 = 10; omega)).trans (upto_first m c 0 h (Nat.zero_mod 11)).symm
  | succ n ih =>
    intro h
    by_cases h0 : (n + 1) % 11 = 0
    · exact (scratch_first m c ⟨n + 1, h⟩ h0 (by show ¬(n + 1) % 11 = 10; omega)).trans (upto_first m c (n + 1) h h0).symm
    · have hz := (congrArg (fun o => o.2.2) (outs_congr m c (Nat.add_sub_cancel n 1) (Nat.lt_of_le_of_lt (Nat.sub_le _ _) h) (Nat.lt_of_succ_lt h))).trans (ih (Nat.lt_of_succ_lt h))
      by_cases h1 : (n + 1) % 11 = 10
      · exact (scratch_last m c ⟨n + 1, h⟩ h0 h1 _ hz).trans (upto_next m c n h h0).symm
      · exact (scratch_middle m c ⟨n + 1, h⟩ h0 h1 _ hz).trans (upto_next m c n h h0).symm

/-- The two outputs' blocks after the last point of a row tile. -/
theorem blocks_eq (c : Dev nD) (n : ℕ) (h : n + 1 < cfg0.N) (h1 : (n + 1) % 11 = 10) :
    (outsAt0 m c (n + 1) h).1 = k0_pay3 (iblk m c 4 ⟨n + 1, h⟩) (upto m c (n + 1) h) (iblk m c 5 ⟨n + 1, h⟩) (iblk m c 6 ⟨n + 1, h⟩)
      ∧ (outsAt0 m c (n + 1) h).2.1 = k0_pay4 (iblk m c 4 ⟨n + 1, h⟩) (upto m c (n + 1) h) (iblk m c 5 ⟨n + 1, h⟩) (iblk m c 6 ⟨n + 1, h⟩) := by
  have h0 : ¬(n + 1) % 11 = 0 := by omega
  have hz := (congrArg (fun o => o.2.2) (outs_congr m c (Nat.add_sub_cancel n 1) (Nat.lt_of_le_of_lt (Nat.sub_le _ _) h) (Nat.lt_of_succ_lt h))).trans (scratch_eq m c n (Nat.lt_of_succ_lt h))
  rw [upto_next m c n h h0]
  exact ⟨block_rows m c ⟨n + 1, h⟩ h0 h1 _ hz, block_short m c ⟨n + 1, h⟩ h0 h1 _ hz⟩

end Cert.Proof.Dense

end
-- ==== Proof.DenEnd.lean ====
/-
  WHAT THE DENSE FEED-FORWARD CALL LEAVES. Both outputs' arrays as the finished tiles one below the other, and the arguments
  unchanged.
-/
module

public import proofs.«01_k».proof.Proof.DenBody
public import Idealize.ShloMosaic.Lib.Pipeline.ValueKit.Geometry

@[expose] public section

set_option maxRecDepth 16384

noncomputable section

namespace Cert.Proof.Dense

open Cert.Kernel4Ideal Cert.Kernel4Ideal.Gen
open Idealize.ShloMosaic
open Idealize.ShloMosaic.TcCoe
open Idealize.SL.Sem
open Idealize.ShloMosaic.Pipeline (Dat Cfg Window)

variable {F : FTy → Type} [FloatOps F]

/-! ## The schedule -/

theorem index0 : ∀ t : Fin grid0.N, win0_0.index t = ![t.val / 11, 0] := by decide +kernel
theorem index1 : ∀ t : Fin grid0.N, win0_1.index t = ![0, t.val % 11] := by decide +kernel
theorem index2 : ∀ t : Fin grid0.N, win0_2.index t = ![0, t.val % 11] := by decide +kernel
theorem index3 : ∀ t : Fin grid0.N, win0_3.index t = ![t.val % 11, 0] := by decide +kernel
theorem index4 : ∀ t : Fin grid0.N, win0_4.index t = ![t.val / 11, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val / 11, 0] := by decide +kernel
theorem index8 : ∀ t : Fin grid0.N, win0_8.index t = ![t.val / 11, 0] := by decide +kernel

/-! ## The final arrays -/

variable (m : (ℓ : Loc nD τ sig) → Buf (Elt F) ℓ) (ρ : Dev nD → PrngReg)

/-- The finished tile, where point `t` is the last of its row tile. -/
def done (c : Dev nD) (t : Fin cfg0.N) : Vec F S512x2048 .f32 := k0_pay3 (iblk m c 4 t) (upto m c t.val t.isLt) (iblk m c 5 t) (iblk m c 6 t)
/-- The same rounded. -/
def short (c : Dev nD) (t : Fin cfg0.N) : Vec F S512x2048 .bf16 := k0_pay4 (iblk m c 4 t) (upto m c t.val t.isLt) (iblk m c 5 t) (iblk m c 6 t)

theorem left (c : Dev nD) (t : Fin cfg0.N) (h : t.val % 11 = 10) : (dats m 0 c).after (7 : Fin 9) t = done m c t ∧ (dats m 0 c).after (8 : Fin 9) t = short m c t := by
  obtain ⟨n, hn⟩ := t
  cases n with
  | zero => exact absurd (show 0 % 11 = 10 from h) (by decide)
  | succ n =>
    have e := blocks_eq m c n hn h
    exact ⟨(after0_7 m c ⟨n + 1, hn⟩).trans e.1, (after0_8 m c ⟨n + 1, hn⟩).trans e.2⟩

/-- A place in a tile from a row and a column of an array. -/
def inTile (r q : ℕ) (hq : q < 2048) : S512x2048.Idx := Fin.cons ⟨r % 512, Nat.mod_lt _ (by decide)⟩ (Fin.cons ⟨q, hq⟩ finZeroElim)

theorem place_congr {α : Type} (f : Fin cfg0.N → S512x2048.Idx → α) {t t' : Fin cfg0.N} {y y' : S512x2048.Idx} (h : t.val = t'.val) (h0 : (y 0).val = (y' 0).val) (h1 : (y 1).val = (y' 1).val) :
    f t y = f t' y' := by
  obtain rfl : t = t' := Fin.ext h
  refine congrArg (f t) (funext fun a => ?_)
  match a with
  | ⟨0, _⟩ => exact Fin.ext h0
  | ⟨1, _⟩ => exact Fin.ext h1

theorem last_lt (i : S16384x2048.Idx) : 11 * ((i 0).val / 512) + 10 < cfg0.N := by
  have hi : (i 0).val < 16384 := (i 0).isLt
  exact lt_of_lt_of_eq (by omega) points.symm

/-- The finished tiles, one below the other. -/
def outA (c : Dev nD) (i : S16384x2048.Idx) : F .f32 := done m c ⟨11 * ((i 0).val / 512) + 10, last_lt i⟩ (inTile (i 0).val (i 1).val (i 1).isLt)
/-- The same rounded. -/
def outB (c : Dev nD) (i : S16384x2048.Idx) : F .bf16 := short m c ⟨11 * ((i 0).val / 512) + 10, last_lt i⟩ (inTile (i 0).val (i 1).val (i 1).isLt)

theorem flushed7 (c : Dev nD) (t : Fin cfg0.N) (ht : t.val % 11 = 10) : (dats m 0 c).flushed (7 : Fin 9) t = ((cfg0.win (7 : Fin 9)).blk t).view.read (Elt F) (outA m c) := by
  funext y
  show (dats m 0 c).after (7 : Fin 9) t y = outA m c (((cfg0.win (7 : Fin 9)).rect t).emb y)
  have e0 : ((((cfg0.win (7 : Fin 9)).rect t).emb y) (0 : Fin 2) : Nat) = t.val / 11 * 512 + (y (0 : Fin 2)).val := by
    have := Pipeline.Window.rect_emb_val (cfg0.win (7 : Fin 9)) t y (0 : Fin 2)
    rw [show (cfg0.win (7 : Fin 9)).index t = _ from index7 t] at this
    exact this
  have e1 : ((((cfg0.win (7 : Fin 9)).rect t).emb y) (1 : Fin 2) : Nat) = (y (1 : Fin 2)).val := by
    have := Pipeline.Window.rect_emb_val (cfg0.win (7 : Fin 9)) t y (1 : Fin 2)
    rw [show (cfg0.win (7 : Fin 9)).index t = _ from index7 t] at this
    exact this.trans (by simp)
  have hy : (y (0 : Fin 2)).val < 512 := (y (0 : Fin 2)).isLt
  rw [(left m c t ht).1]
  unfold outA
  refine place_congr (done m c) ?_ ?_ e1.symm
  · show t.val = 11 * (_ / 512) + 10
    rw [e0]; omega
  · show (y (0 : Fin 2)).val = _ % 512
    rw [e0]; omega

theorem flushed8 (c : Dev nD) (t : Fin cfg0.N) (ht : t.val % 11 = 10) : (dats m 0 c).flushed (8 : Fin 9) t = ((cfg0.win (8 : Fin 9)).blk t).view.read (Elt F) (outB m c) := by
  funext y
  show (dats m 0 c).after (8 : Fin 9) t y = outB m c (((cfg0.win (8 : Fin 9)).rect t).emb y)
  have e0 : ((((cfg0.win (8 : Fin 9)).rect t).emb y) (0 : Fin 2) : Nat) = t.val / 11 * 512 + (y (0 : Fin 2)).val := by
    have := Pipeline.Window.rect_emb_val (cfg0.win (8 : Fin 9)) t y (0 : Fin 2)
    rw [show (cfg0.win (8 : Fin 9)).index t = _ from index8 t] at this
    exact this
  have e1 : ((((cfg0.win (8 : Fin 9)).rect t).emb y) (1 : Fin 2) : Nat) = (y (1 : Fin 2)).val := by
    have := Pipeline.Window.rect_emb_val (cfg0.win (8 : Fin 9)) t y (1 : Fin 2)
    rw [show (cfg0.win (8 : Fin 9)).index t = _ from index8 t] at this
    exact this.trans (by simp)
  have hy : (y (0 : Fin 2)).val < 512 := (y (0 : Fin 2)).isLt
  rw [(left m c t ht).2]
  unfold outB
  refine place_congr (short m c) ?_ ?_ e1.symm
  · show t.val = 11 * (_ / 512) + 10
    rw [e0]; omega
  · show (y (0 : Fin 2)).val = _ % 512
    rw [e0]; omega

theorem last_mod (i : S16384x2048.Idx) : (11 * ((i 0).val / 512) + 10) % 11 = 10 := by omega

/-- Every row of the first output ends with its finished tile. -/
theorem final7 (c : Dev nD) : (dats m 0 c).arrAt (7 : Fin 9) cfg0.N = outA m c := by
  funext i
  have hi : (i 0).val < 16384 := (i 0).isLt
  refine (dats m 0 c).arrAt_apply_of_mem (7 : Fin 9) (outA m c) (fun t hf => flushed7 m c t ((flush0_7 t).mp hf)) _ ⟨11 * ((i 0).val / 512) + 10, last_lt i⟩ i (last_lt i)
    ((flush0_7 _).mpr (last_mod i)) ((Pipeline.Window.emb_mem_blk_iff (cfg0.win (7 : Fin 9)) _ i).mpr fun a => ?_)
  rw [show (cfg0.win (7 : Fin 9)).index _ = _ from index7 _]
  match a with
  | ⟨0, _⟩ =>
    show (11 * ((i 0).val / 512) + 10) / 11 * 512 ≤ (i 0).val ∧ (i 0).val < (11 * ((i 0).val / 512) + 10) / 11 * 512 + 512
    omega
  | ⟨1, _⟩ =>
    show 0 * 2048 ≤ (i 1).val ∧ (i 1).val < 0 * 2048 + 2048
    have : (i 1).val < 2048 := (i 1).isLt
    omega

/-- Every row of the second likewise. -/
theorem final8 (c : Dev nD) : (dats m 0 c).arrAt (8 : Fin 9) cfg0.N = outB m c := by
  funext i
  have hi : (i 0).val < 16384 := (i 0).isLt
  refine (dats m 0 c).arrAt_apply_of_mem (8 : Fin 9) (outB m c) (fun t hf => flushed8 m c t ((flush0_8 t).mp hf)) _ ⟨11 * ((i 0).val / 512) + 10, last_lt i⟩ i (last_lt i)
    ((flush0_8 _).mpr (last_mod i)) ((Pipeline.Window.emb_mem_blk_iff (cfg0.win (8 : Fin 9)) _ i).mpr fun a => ?_)
  rw [show (cfg0.win (8 : Fin 9)).index _ = _ from index8 _]
  match a with
  | ⟨0, _⟩ =>
    show (11 * ((i 0).val / 512) + 10) / 11 * 512 ≤ (i 0).val ∧ (i 0).val < (11 * ((i 0).val / 512) + 10) / 11 * 512 + 512
    omega
  | ⟨1, _⟩ =>
    show 0 * 2048 ≤ (i 1).val ∧ (i 1).val < 0 * 2048 + 2048
    have : (i 1).val < 2048 := (i 1).isLt
    omega

/-- The whole run: both outputs at their finished tiles, the arguments as they were, every counter at zero. -/
theorem run_end : θ_run (defs (F := F)) (onTc (τ := τ) (main (F := F))) ⟨m, fun _ => 0, ρ⟩ (fun r =>
    (∀ c : Dev nD, r.2.mem ((c.tc : Thread nD τ).loc main_v0_0) = outA m c
      ∧ r.2.mem ((c.tc : Thread nD τ).loc main_v0_1) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨((h.1 c).1 (7 : Fin 9)).trans (final7 m c), ((h.1 c).1 (8 : Fin 9)).trans (final8 m c),
    ((h.1 c).1 (0 : Fin 9)).trans ((dats m 0 c).arrAt_in (0 : Fin 9) rfl _), ((h.1 c).1 (4 : Fin 9)).trans ((dats m 0 c).arrAt_in (4 : Fin 9) rfl _),
    ((h.1 c).1 (1 : Fin 9)).trans ((dats m 0 c).arrAt_in (1 : Fin 9) rfl _), ((h.1 c).1 (2 : Fin 9)).trans ((dats m 0 c).arrAt_in (2 : Fin 9) rfl _),
    ((h.1 c).1 (3 : Fin 9)).trans ((dats m 0 c).arrAt_in (3 : Fin 9) rfl _), ((h.1 c).1 (5 : Fin 9)).trans ((dats m 0 c).arrAt_in (5 : Fin 9) rfl _),
    ((h.1 c).1 (6 : Fin 9)).trans ((dats m 0 c).arrAt_in (6 : Fin 9) rfl _)⟩, h.2⟩) (run_main_quiescent m ρ)

end Cert.Proof.Dense

end
-- ==== Proof.DenBits.lean ====
/-
  THE PRINTED DENSE FEED-FORWARD CALL IS THE IDEALIZED ONE'S TEXT, at any float values: the same body under the same pipeline.
  So a run of the one is a run of the other.
-/
module

public import proofs.«01_k».proof.Proof.DenEnd
public import proofs.«01_k».proof.Proof.Gen.Kernel4

@[expose] public section

set_option maxRecDepth 16384

noncomputable section

namespace Cert.Proof.Dense

open Idealize.ShloMosaic Idealize.SL.Sem

variable {F : FTy → Type} [FloatOps F]

theorem same_bodies : @Cert.Kernel4.defs₀ F _ _ = @Cert.Kernel4Ideal.defs₀ F _ _ := by
  unfold Cert.Kernel4.defs₀ Cert.Kernel4Ideal.defs₀
  refine congrArg Defs.onTc (funext fun l => funext fun a => ?_)
  match l, a with
  | 0, (t, s) => exact rfl

theorem same_defs : @Cert.Kernel4.defs F _ _ = @Cert.Kernel4Ideal.defs F _ _ := congrArg (Pipeline.defs (Cert.Kernel4.pcfgs (F := F))) same_bodies

theorem same_main : @Cert.Kernel4.main F _ = @Cert.Kernel4Ideal.main F _ := rfl

end Cert.Proof.Dense

end
-- ==== Proof.DenMath.lean ====
/-
  ONE STEP OF THE DENSE FEED-FORWARD CALL, PLAINLY. What one point adds to the running sum, and the finished tile read at an
  index.
-/
module

public import proofs.«01_k».proof.Proof.DenBody
public import proofs.«01_k».proof.Proof.FinMath
public import Idealize.ShloMosaic.Lib.MatmulPlain
public import Idealize.ShloMosaic.PureOps.Ideal.Laws

@[expose] public section

set_option maxRecDepth 16384

noncomputable section

namespace Cert.Proof.Dense

open Cert.Kernel4Ideal Cert.Kernel4Ideal.Gen
open Cert.Proof.Experts (dotp one hid)
open Cert.Proof.Finish (num num_eq scale norm norm_at)
open Idealize.ShloMosaic hiding ix1 ix2 ix3 ix4 eq_ix2
open Idealize.ShloMosaic.ValueIdx
open scoped BigOperators

theorem dims_in : dot_S512x2048_S2048x512_S512x512_1_0_0_1_n_n = DotDims.plain 512 2048 512 := rfl
theorem dims_out : dot_S512x512_S512x2048_S512x2048_1_0_0_1_n_n = DotDims.plain 512 512 2048 := rfl

/-- A row of the input's block times a column of a block of weights. -/
theorem product (xb : FVec Ideal S512x2048 .bf16) (w : FVec Ideal S2048x512 .bf16) (X W : ℕ → ℕ → EReal)
    (hx : ∀ y : S512x2048.Idx, xb y = X (y 0).val (y 1).val) (hw : ∀ y : S2048x512.Idx, w y = W (y 0).val (y 1).val) (p : Fin 512) (n : Fin 512) :
    matmul (F := Ideal) dot_S512x2048_S2048x512_S512x512_1_0_0_1_n_n none xb w (constant S512x512 .f32 0x00000000#32) (ix2 p n) = dotp (X p.val) (fun k => W k n.val) := by
  rw [dims_in]
  refine (Ideal.matmul_plain_apply none xb w _ p n).trans ?_
  have hz : (constant (F := Ideal) S512x512 .f32 0x00000000#32) (ix2 p n) = (0 : EReal) := Ideal.ofBits_zero_f32
  rw [hz, zero_add]
  unfold dotp
  rw [Finset.sum_range]
  exact Finset.sum_congr rfl fun k _ => congrArg₂ (fun s t : EReal => s * t) (hx (ix2 p k)) (hw (ix2 k n))

/-- The step: the running sum plus this tile's hidden units times their rows of the second matrix. -/
theorem step (xb : FVec Ideal S512x2048 .bf16) (bg bu : FVec Ideal S2048x512 .bf16) (acc : FVec Ideal S512x2048 .f32) (bd : FVec Ideal S512x2048 .bf16) (X G U D : ℕ → ℕ → EReal)
    (hx : ∀ y : S512x2048.Idx, xb y = X (y 0).val (y 1).val) (hg : ∀ y : S2048x512.Idx, bg y = G (y 0).val (y 1).val)
    (hu : ∀ y : S2048x512.Idx, bu y = U (y 0).val (y 1).val) (hd : ∀ y : S512x2048.Idx, bd y = D (y 0).val (y 1).val) (p : Fin 512) (q : Fin 2048) :
    k0_pay2 (F := Ideal) xb bg bu acc bd (ix2 p q)
      = acc (ix2 p q) + ∑ n ∈ Finset.range 512, hid (X p.val) (fun k => G k n) (fun k => U k n) * D n q.val := by
  unfold k0_pay2
  simp only [shapeCast_self]
  refine (congrArg (acc (ix2 p q) + ·) (?_ : _ = ∑ n ∈ Finset.range 512, hid (X p.val) (fun k => G k n) (fun k => U k n) * D n q.val))
  rw [dims_out]
  refine (Ideal.matmul_plain_apply none _ _ _ p q).trans ?_
  have hz : (constant (F := Ideal) S512x2048 .f32 0x00000000#32) (ix2 p q) = (0 : EReal) := Ideal.ofBits_zero_f32
  rw [hz, zero_add, Finset.sum_range]
  refine Finset.sum_congr rfl fun n _ => ?_
  have e1 := product xb bg X G hx hg p n
  have e2 := product xb bu X U hx hu p n
  rw [hd (ix2 n q)]
  refine congrArg (· * D n.val q.val) ?_
  unfold hid
  rw [← e1, ← e2]
  have en : ∀ x : EReal, Ideal.ofBits .f32 0x00000000#32 - x = -x := fun x => by rw [Ideal.ofBits_zero_f32, zero_sub]
  rw [← en]
  rfl

/-- The running sum starts from zeros. -/
theorem start (y : S512x2048.Idx) : k0_pay1 (F := Ideal) y = (0 : EReal) := by
  unfold k0_pay1
  simp only [shapeCast_self]
  exact Ideal.ofBits_zero_f32

/-- The finished tile, read at an index: the scaled stream plus the running sum, normalised. -/
theorem finished (x acc : FVec Ideal S512x2048 .f32) (g b : FVec Ideal S1x2048 .f32) (V : ℕ → EReal) (p : Fin 512) (q : Fin 2048)
    (hV : ∀ k : Fin 2048, scale * x (ix2 p k) + acc (ix2 p k) = V k.val) :
    k0_pay3 (F := Ideal) x acc g b (ix2 p q) = norm V (g (ix2 0 q)) (b (ix2 0 q)) q.val :=
  Eq.trans rfl (norm_at (addf (F := Ideal) (mulf (broadcast S512x2048 (Scalar.ofBits (F := Ideal) .f32 0x3FB504F3#32)) x) acc) g b V p q hV)

end Cert.Proof.Dense

end
-- ==== Proof.DenVal.lean ====
/-
  THE DENSE FEED-FORWARD CALL'S VALUE. The blocks of the inputs at a point as the arrays' rows and columns, the running sum
  along a row tile, and every entry of the two outputs as the normalised residual sum of its row.
-/
module

public import proofs.«01_k».proof.Proof.DenMath
public import proofs.«01_k».proof.Proof.DenEnd

@[expose] public section

set_option maxRecDepth 16384

noncomputable section

namespace Cert.Proof.Dense

open Cert.Kernel4Ideal Cert.Kernel4Ideal.Gen
open Cert.Proof.Experts (dotp one hid)
open Cert.Proof.Finish (num num_eq scale norm)
open Idealize.ShloMosaic hiding ix1 ix2 ix3 ix4 eq_ix2
open Idealize.ShloMosaic.ValueIdx
open Idealize.ShloMosaic.TcCoe
open scoped BigOperators

/-- What hidden unit `n` adds to entry `(r, q)`. -/
def part (X : S16384x2048.Idx → EReal) (G U : S2048x5632.Idx → EReal) (D : S5632x2048.Idx → EReal) (r q n : ℕ) : EReal :=
  hid (num (a := 16384) (b := 2048) X r) (fun k => num (a := 2048) (b := 5632) G k n) (fun k => num (a := 2048) (b := 5632) U k n) * num (a := 5632) (b := 2048) D n q

/-- Entry `q` of row `r` before its normalisation: the scaled stream plus every hidden unit's part. -/
def mix (X P : S16384x2048.Idx → EReal) (G U : S2048x5632.Idx → EReal) (D : S5632x2048.Idx → EReal) (r q : ℕ) : EReal :=
  scale * num (a := 16384) (b := 2048) P r q + ∑ n ∈ Finset.range 5632, part X G U D r q n

/-- Entry `(r, q)` of the output. -/
def entry (X P : S16384x2048.Idx → EReal) (G U : S2048x5632.Idx → EReal) (D : S5632x2048.Idx → EReal) (g b : S1x2048.Idx → EReal) (r q : ℕ) : EReal :=
  norm (mix X P G U D r) (num (a := 1) (b := 2048) g 0 q) (num (a := 1) (b := 2048) b 0 q) q

variable (m : (ℓ : Loc nD τ sig) → Buf (Elt Ideal) ℓ) (c : Dev nD)

/-- The same of the arguments on device `c`. -/
def partOf (r q n : ℕ) : EReal :=
  part (m ((c.tc : Thread nD τ).loc main_arg0)) (m ((c.tc : Thread nD τ).loc main_arg2)) (m ((c.tc : Thread nD τ).loc main_arg3)) (m ((c.tc : Thread nD τ).loc main_arg4)) r q n

def entryOf (r q : ℕ) : EReal :=
  entry (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) r q

/-! ## The blocks -/

section Blocks
variable (t : Fin cfg0.N) (j f : ℕ) (hj : t.val / 11 = j) (hf : t.val % 11 = f)

include hj in
theorem blk0 (y : S512x2048.Idx) : iblk m c 0 t y = num (a := 16384) (b := 2048) (m ((c.tc : Thread nD τ).loc main_arg0)) (512 * j + (y 0).val) (y 1).val := by
  have h0 := Pipeline.Window.rect_emb_val (cfg0.win (0 : Fin 9)) t y (0 : Fin 2)
  have h1 := Pipeline.Window.rect_emb_val (cfg0.win (0 : Fin 9)) t y (1 : Fin 2)
  rw [show (cfg0.win (0 : Fin 9)).index t = _ from index0 t, hj] at h0 h1
  exact num_eq (a := 16384) (b := 2048) _ _ (h0.trans (show j * 512 + (y 0).val = _ by omega)) (h1.trans (show 0 * 2048 + (y 1).val = _ by omega))

include hf in
theorem blk1 (y : S2048x512.Idx) : iblk m c 1 t y = num (a := 2048) (b := 5632) (m ((c.tc : Thread nD τ).loc main_arg2)) (y 0).val (512 * f + (y 1).val) := by
  have h0 := Pipeline.Window.rect_emb_val (cfg0.win (1 : Fin 9)) t y (0 : Fin 2)
  have h1 := Pipeline.Window.rect_emb_val (cfg0.win (1 : Fin 9)) t y (1 : Fin 2)
  rw [show (cfg0.win (1 : Fin 9)).index t = _ from index1 t, hf] at h0 h1
  exact num_eq (a := 2048) (b := 5632) _ _ (h0.trans (show 0 * 2048 + (y 0).val = _ by omega)) (h1.trans (show f * 512 + (y 1).val = _ by omega))

include hf in
theorem blk2 (y : S2048x512.Idx) : iblk m c 2 t y = num (a := 2048) (b := 5632) (m ((c.tc : Thread nD τ).loc main_arg3)) (y 0).val (512 * f + (y 1).val) := by
  have h0 := Pipeline.Window.rect_emb_val (cfg0.win (2 : Fin 9)) t y (0 : Fin 2)
  have h1 := Pipeline.Window.rect_emb_val (cfg0.win (2 : Fin 9)) t y (1 : Fin 2)
  rw [show (cfg0.win (2 : Fin 9)).index t = _ from index2 t, hf] at h0 h1
  exact num_eq (a := 2048) (b := 5632) _ _ (h0.trans (show 0 * 2048 + (y 0).val = _ by omega)) (h1.trans (show f * 512 + (y 1).val = _ by omega))

include hf in
theorem blk3 (y : S512x2048.Idx) : iblk m c 3 t y = num (a := 5632) (b := 2048) (m ((c.tc : Thread nD τ).loc main_arg4)) (512 * f + (y 0).val) (y 1).val := by
  have h0 := Pipeline.Window.rect_emb_val (cfg0.win (3 : Fin 9)) t y (0 : Fin 2)
  have h1 := Pipeline.Window.rect_emb_val (cfg0.win (3 : Fin 9)) t y (1 : Fin 2)
  rw [show (cfg0.win (3 : Fin 9)).index t = _ from index3 t, hf] at h0 h1
  exact num_eq (a := 5632) (b := 2048) _ _ (h0.trans (show f * 512 + (y 0).val = _ by omega)) (h1.trans (show 0 * 2048 + (y 1).val = _ by omega))

include hj in
theorem blk4 (y : S512x2048.Idx) : iblk m c 4 t y = num (a := 16384) (b := 2048) (m ((c.tc : Thread nD τ).loc main_arg1)) (512 * j + (y 0).val) (y 1).val := by
  have h0 := Pipeline.Window.rect_emb_val (cfg0.win (4 : Fin 9)) t y (0 : Fin 2)
  have h1 := Pipeline.Window.rect_emb_val (cfg0.win (4 : Fin 9)) t y (1 : Fin 2)
  rw [show (cfg0.win (4 : Fin 9)).index t = _ from index4 t, hj] at h0 h1
  exact num_eq (a := 16384) (b := 2048) _ _ (h0.trans (show j * 512 + (y 0).val = _ by omega)) (h1.trans (show 0 * 2048 + (y 1).val = _ by omega))

theorem blk5 (y : S1x2048.Idx) : iblk m c 5 t y = num (a := 1) (b := 2048) (m ((c.tc : Thread nD τ).loc main_arg5)) (y 0).val (y 1).val := by
  have h0 := Pipeline.Window.rect_emb_val (cfg0.win (5 : Fin 9)) t y (0 : Fin 2)
  have h1 := Pipeline.Window.rect_emb_val (cfg0.win (5 : Fin 9)) t y (1 : Fin 2)
  rw [show (cfg0.win (5 : Fin 9)).index t = _ from index5 t] at h0 h1
  exact num_eq (a := 1) (b := 2048) _ _ (h0.trans (show 0 * 1 + (y 0).val = _ by omega)) (h1.trans (show 0 * 2048 + (y 1).val = _ by omega))

theorem blk6 (y : S1x2048.Idx) : iblk m c 6 t y = num (a := 1) (b := 2048) (m ((c.tc : Thread nD τ).loc main_arg6)) (y 0).val (y 1).val := by
  have h0 := Pipeline.Window.rect_emb_val (cfg0.win (6 : Fin 9)) t y (0 : Fin 2)
  have h1 := Pipeline.Window.rect_emb_val (cfg0.win (6 : Fin 9)) t y (1 : Fin 2)
  rw [show (cfg0.win (6 : Fin 9)).index t = _ from index6 t] at h0 h1
  exact num_eq (a := 1) (b := 2048) _ _ (h0.trans (show 0 * 1 + (y 0).val = _ by omega)) (h1.trans (show 0 * 2048 + (y 1).val = _ by omega))

include hj hf in
/-- One point adds its tile of hidden units. -/
theorem point (acc : FVec Ideal S512x2048 .f32) (p : Fin 512) (q : Fin 2048) :
    k0_pay2 (F := Ideal) (iblk m c 0 t) (iblk m c 1 t) (iblk m c 2 t) acc (iblk m c 3 t) (ix2 p q)
      = acc (ix2 p q) + ∑ n ∈ Finset.range 512, partOf m c (512 * j + p.val) q.val (512 * f + n) := by
  refine (step (iblk m c 0 t) (iblk m c 1 t) (iblk m c 2 t) acc (iblk m c 3 t)
    (fun r k => num (a := 16384) (b := 2048) (m ((c.tc : Thread nD τ).loc main_arg0)) (512 * j + r) k)
    (fun k n => num (a := 2048) (b := 5632) (m ((c.tc : Thread nD τ).loc main_arg2)) k (512 * f + n))
    (fun k n => num (a := 2048) (b := 5632) (m ((c.tc : Thread nD τ).loc main_arg3)) k (512 * f + n))
    (fun n k => num (a := 5632) (b := 2048) (m ((c.tc : Thread nD τ).loc main_arg4)) (512 * f + n) k)
    (blk0 m c t j hj) (blk1 m c t f hf) (blk2 m c t f hf) (blk3 m c t f hf) p q).trans ?_
  rfl

end Blocks

/-! ## The running sum and the tiles -/

/-- The running sum along row tile `j`. -/
theorem along (j : ℕ) (p : Fin 512) (q : Fin 2048) : ∀ (f : ℕ) (hf : f < 11) (h : 11 * j + f < cfg0.N),
    upto m c (11 * j + f) h (ix2 p q) = ∑ n ∈ Finset.range (512 * (f + 1)), partOf m c (512 * j + p.val) q.val n := by
  intro f
  induction f with
  | zero =>
    intro hf h
    rw [upto_first m c (11 * j + 0) h (by omega)]
    refine (point m c ⟨11 * j + 0, h⟩ j 0 (by show (11 * j + 0) / 11 = j; omega) (by show (11 * j + 0) % 11 = 0; omega) _ p q).trans ?_
    rw [start, zero_add]
    refine Finset.sum_congr rfl fun n _ => ?_
    rw [Nat.mul_zero, Nat.zero_add]
  | succ f ih =>
    intro hf h
    have e := upto_next m c (11 * j + f) h (by omega)
    refine (congrFun e (ix2 p q)).trans ?_
    refine (point m c ⟨11 * j + f + 1, h⟩ j (f + 1) (by show (11 * j + f + 1) / 11 = j; omega) (by show (11 * j + f + 1) % 11 = f + 1; omega) _ p q).trans ?_
    rw [ih (by omega) _, show 512 * (f + 1 + 1) = 512 * (f + 1) + 512 by omega, Finset.sum_range_add]

theorem done_at (j : ℕ) (h : 11 * j + 10 < cfg0.N) (p : Fin 512) (q : Fin 2048) : done (F := Ideal) m c ⟨11 * j + 10, h⟩ (ix2 p q) = entryOf m c (512 * j + p.val) q.val := by
  have hj : (⟨11 * j + 10, h⟩ : Fin cfg0.N).val / 11 = j := by show (11 * j + 10) / 11 = j; omega
  refine (finished (iblk m c 4 ⟨11 * j + 10, h⟩) (upto m c (11 * j + 10) h) (iblk m c 5 ⟨11 * j + 10, h⟩) (iblk m c 6 ⟨11 * j + 10, h⟩)
    (mix (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (512 * j + p.val)) p q fun k => ?_).trans ?_
  · exact congrArg₂ (fun s t : EReal => scale * s + t) (blk4 m c ⟨11 * j + 10, h⟩ j hj (ix2 p k)) (along m c j p k 10 (by omega) h)
  · rw [blk5 m c ⟨11 * j + 10, h⟩ (ix2 0 q), blk6 m c ⟨11 * j + 10, h⟩ (ix2 0 q)]
    rfl

theorem outA_at (i : S16384x2048.Idx) : outA (F := Ideal) m c i = entryOf m c (i 0).val (i 1).val := by
  have e := done_at m c ((i 0).val / 512) (last_lt i) ⟨(i 0).val % 512, Nat.mod_lt _ (by decide)⟩ (i 1)
  rw [show 512 * ((i 0).val / 512) + (i 0).val % 512 = (i 0).val from Nat.div_add_mod _ _] at e
  refine Eq.trans ?_ e
  exact place_congr (done m c) rfl rfl rfl

theorem outB_at (i : S16384x2048.Idx) : outB (F := Ideal) m c i = entryOf m c (i 0).val (i 1).val := (show outB (F := Ideal) m c i = outA (F := Ideal) m c i from rfl).trans (outA_at m c i)

end Cert.Proof.Dense

end
-- ==== Proof.DenRef.lean ====
/-
  THE DENSE FEED-FORWARD CALL'S REFERENCE, READ AT AN INDEX. Its rows are the same normalised residual sums.
-/
module

public import proofs.«01_k».proof.Proof.DenVal
public import proofs.«01_k».proof.Proof.Gen.Reference4Ideal.Run
public import Idealize.ShloMosaic.Lib.StackMember
public import Idealize.ShloMosaic.Lib.StableHlo.Predicate
public import Idealize.ShloMosaic.Lib.KernelVsHost
public import Idealize.ShloMosaic.Lib.IdealHost

@[expose] public section

set_option maxRecDepth 16384

noncomputable section

namespace Cert.Proof.Dense

open Cert.Reference4Ideal Cert.Reference4Ideal.Gen
open Cert.Proof.Experts (dotp one hid)
open Cert.Proof.Finish (num num_eq scale len eps mean norm)
open Idealize.ShloMosaic hiding ix1 ix2 ix3 ix4 eq_ix2
open Idealize.ShloMosaic.ValueIdx
open scoped BigOperators

/-! ## Its normalisation -/

theorem hcol_at (x : FVec Ideal S16384x1 .f32) (p : Fin 16384) (q : Fin 2048) : broadcastInDim S16384x2048 ![0, 1] bcast_S16384x1_S16384x2048_0_1 x (ix2 p q) = x (ix2 p 0) :=
  broadcastInDim_apply ![0, 1] bcast_S16384x1_S16384x2048_0_1 x (ix2 p q) (ix2 p 0) fun a => match a with
    | ⟨0, _⟩ => rfl
    | ⟨1, _⟩ => rfl

/-- The reference's row sums as a column. -/
theorem hsum_at (x : FVec Ideal S16384x2048 .f32) (X : ℕ → EReal) (p : Fin 16384) (hx : ∀ k : Fin 2048, x (ix2 p k) = X k.val) :
    broadcastInDim S16384x1 ![0] bcast_S16384_S16384x1_0 (Host.reduceAdd x (constant S_ .f32 0x00000000#32) reducesTo_S16384x2048_S16384_d1 h_S_) (ix2 p 0)
      = ∑ k ∈ Finset.range 2048, X k := by
  refine (broadcastInDim_apply ![0] bcast_S16384_S16384x1_0 _ (ix2 p 0) (ix1 p) fun a => match a with
    | ⟨0, _⟩ => rfl).trans ?_
  refine (Ideal.hostReduceAdd_r2_a1 reducesTo_S16384x2048_S16384_d1 x (Ideal.ofBits .f32 0x00000000#32) (ix1 p)).trans ?_
  rw [Ideal.ofBits_zero_f32, zero_add, Finset.sum_range]
  exact Finset.sum_congr rfl fun k _ => hx k

/-- Its row means as a column. -/
def hmeans (x : FVec Ideal S16384x2048 .f32) : FVec Ideal S16384x1 .f32 :=
  Host.divf (broadcastInDim S16384x1 ![0] bcast_S16384_S16384x1_0 (Host.reduceAdd x (constant S_ .f32 0x00000000#32) reducesTo_S16384x2048_S16384_d1 h_S_))
    (broadcastInDim S16384x1 ![] bcast_S_S16384x1 (constant S_ .f32 0x45000000#32))

theorem hmeans_at (x : FVec Ideal S16384x2048 .f32) (X : ℕ → EReal) (p : Fin 16384) (hx : ∀ k : Fin 2048, x (ix2 p k) = X k.val) : hmeans x (ix2 p 0) = mean X :=
  congrArg (fun s : EReal => Ideal.div s len) (hsum_at x X p hx)

/-- Its rows less their means. -/
def hcentred (x : FVec Ideal S16384x2048 .f32) : FVec Ideal S16384x2048 .f32 := subf x (broadcastInDim S16384x2048 ![0, 1] bcast_S16384x1_S16384x2048_0_1 (hmeans x))

theorem hcentred_at (x : FVec Ideal S16384x2048 .f32) (X : ℕ → EReal) (p : Fin 16384) (hx : ∀ k : Fin 2048, x (ix2 p k) = X k.val) (q : Fin 2048) :
    hcentred x (ix2 p q) = X q.val - mean X :=
  congrArg₂ (fun s t : EReal => s - t) (hx q) ((hcol_at (hmeans x) p q).trans (hmeans_at x X p hx))

/-- The reciprocal roots of its rows' variances. -/
def hroots (x : FVec Ideal S16384x2048 .f32) : FVec Ideal S16384x1 .f32 :=
  Host.rsqrt (addf (hmeans (mulf (hcentred x) (hcentred x))) (broadcastInDim S16384x1 ![] bcast_S_S16384x1 (constant S_ .f32 0x3727C5AC#32)))

/-- Its normalised rows. -/
def hnorm (x : FVec Ideal S16384x2048 .f32) (g b : FVec Ideal S1x2048 .f32) : FVec Ideal S16384x2048 .f32 :=
  addf (mulf (mulf (hcentred x) (broadcastInDim S16384x2048 ![0, 1] bcast_S16384x1_S16384x2048_0_1 (hroots x))) (broadcastInDim S16384x2048 ![0, 1] bcast_S1x2048_S16384x2048_0_1 g))
    (broadcastInDim S16384x2048 ![0, 1] bcast_S1x2048_S16384x2048_0_1 b)

theorem hnorm_at (x : FVec Ideal S16384x2048 .f32) (g b : FVec Ideal S1x2048 .f32) (X : ℕ → EReal) (p : Fin 16384) (q : Fin 2048)
    (hx : ∀ k : Fin 2048, x (ix2 p k) = X k.val) : hnorm x g b (ix2 p q) = norm X (g (ix2 0 q)) (b (ix2 0 q)) q.val := by
  have e1 := hcentred_at x X p hx q
  have e2 := hmeans_at (mulf (hcentred x) (hcentred x)) (fun k => (X k - mean X) * (X k - mean X)) p
    fun k => congrArg₂ (fun s t : EReal => s * t) (hcentred_at x X p hx k) (hcentred_at x X p hx k)
  have e3 := hcol_at (hroots x) p q
  have e4 : hroots x (ix2 p 0) = Ideal.rsqrt (mean (fun k => (X k - mean X) * (X k - mean X)) + eps) := congrArg (fun s : EReal => Ideal.rsqrt (s + eps)) e2
  have e5 := broadcastInDim_oneRow_apply bcast_S1x2048_S16384x2048_0_1 g p q
  have e6 := broadcastInDim_oneRow_apply bcast_S1x2048_S16384x2048_0_1 b p q
  unfold Finish.norm
  rw [← e1, ← e4, ← e3, ← e5, ← e6]
  rfl

/-! ## Its residual sum -/

theorem hdims_in : dot_S16384x2048_S2048x5632_S16384x5632_1_0_0_1_n_n = DotDims.plain 16384 2048 5632 := rfl
theorem hdims_out : dot_S16384x5632_S5632x2048_S16384x2048_1_0_0_1_n_n = DotDims.plain 16384 5632 2048 := rfl

/-- The rows times a matrix of the hidden layer. -/
def hprod (X : FVec Ideal S16384x2048 .bf16) (W : FVec Ideal S2048x5632 .bf16) : FVec Ideal S16384x5632 .f32 :=
  Host.dotGeneral dot_S16384x2048_S2048x5632_S16384x5632_1_0_0_1_n_n none (extf .f32 X bitsLt_bf16_f32) (extf .f32 W bitsLt_bf16_f32)

theorem hprod_at (X : FVec Ideal S16384x2048 .bf16) (W : FVec Ideal S2048x5632 .bf16) (p : Fin 16384) (n : Fin 5632) :
    hprod X W (ix2 p n) = dotp (num (a := 16384) (b := 2048) X p.val) (fun k => num (a := 2048) (b := 5632) W k n.val) := by
  unfold hprod
  rw [hdims_in]
  refine (StackMember.dotGeneral_plain_apply none _ _ p n).trans ?_
  unfold dotp
  rw [Finset.sum_range]
  exact Finset.sum_congr rfl fun k _ => congrArg₂ (fun s t : EReal => s * t) (num_eq (a := 16384) (b := 2048) X (ix2 p k) (i := p.val) (j := k.val) rfl rfl)
    (num_eq (a := 2048) (b := 5632) W (ix2 k n) (i := k.val) (j := n.val) rfl rfl)

/-- The hidden layer. -/
def hhid (X : FVec Ideal S16384x2048 .bf16) (G U : FVec Ideal S2048x5632 .bf16) : FVec Ideal S16384x5632 .f32 :=
  mulf (mulf (hprod X G) (Host.divf (broadcastInDim S16384x5632 ![] bcast_S_S16384x5632 (constant S_ .f32 0x3F800000#32))
    (addf (broadcastInDim S16384x5632 ![] bcast_S_S16384x5632 (constant S_ .f32 0x3F800000#32)) (Host.exp (Host.negf (hprod X G)))))) (hprod X U)

theorem hhid_at (X : FVec Ideal S16384x2048 .bf16) (G U : FVec Ideal S2048x5632 .bf16) (p : Fin 16384) (n : Fin 5632) :
    hhid X G U (ix2 p n) = hid (num (a := 16384) (b := 2048) X p.val) (fun k => num (a := 2048) (b := 5632) G k n.val) (fun k => num (a := 2048) (b := 5632) U k n.val) := by
  unfold hid
  rw [← hprod_at X G p n, ← hprod_at X U p n]
  rfl

/-- Its rows before the normalisation. -/
def hmix (X : FVec Ideal S16384x2048 .bf16) (P : FVec Ideal S16384x2048 .f32) (G U : FVec Ideal S2048x5632 .bf16) (D : FVec Ideal S5632x2048 .bf16) : FVec Ideal S16384x2048 .f32 :=
  addf (mulf (broadcastInDim S16384x2048 ![] bcast_S_S16384x2048 (constant S_ .f32 0x3FB504F3#32)) P)
    (Host.dotGeneral dot_S16384x5632_S5632x2048_S16384x2048_1_0_0_1_n_n none (hhid X G U) (extf .f32 D bitsLt_bf16_f32))

theorem hmix_at (X : FVec Ideal S16384x2048 .bf16) (P : FVec Ideal S16384x2048 .f32) (G U : FVec Ideal S2048x5632 .bf16) (D : FVec Ideal S5632x2048 .bf16) (p : Fin 16384) (k : Fin 2048) :
    hmix X P G U D (ix2 p k) = mix X P G U D p.val k.val := by
  refine congrArg₂ (fun s t : EReal => scale * s + t) (num_eq (a := 16384) (b := 2048) P (ix2 p k) (i := p.val) (j := k.val) rfl rfl) ?_
  rw [hdims_out]
  refine (StackMember.dotGeneral_plain_apply none _ _ p k).trans ?_
  rw [Finset.sum_range]
  exact Finset.sum_congr rfl fun n _ => congrArg₂ (fun s t : EReal => s * t) (hhid_at X G U p n) (num_eq (a := 5632) (b := 2048) D (ix2 n k) (i := n.val) (j := k.val) rfl rfl)

/-- Its finished rows, read at an index. -/
theorem hdone_at (X : FVec Ideal S16384x2048 .bf16) (P : FVec Ideal S16384x2048 .f32) (G U : FVec Ideal S2048x5632 .bf16) (D : FVec Ideal S5632x2048 .bf16) (g b : FVec Ideal S1x2048 .f32)
    (p : Fin 16384) (q : Fin 2048) : hnorm (hmix X P G U D) g b (ix2 p q) = entry X P G U D g b p.val q.val := by
  refine (hnorm_at _ g b _ p q (hmix_at X P G U D p)).trans ?_
  rw [num_eq (a := 1) (b := 2048) g (ix2 0 q) (i := 0) (j := q.val) rfl rfl, num_eq (a := 1) (b := 2048) b (ix2 0 q) (i := 0) (j := q.val) rfl rfl]
  rfl

/-! ## The results -/

section Results
variable (m' : (ℓ : Loc nD τ sig) → Buf (Elt Ideal) ℓ) (c : Dev nD) (X : FVec Ideal S16384x2048 .bf16) (P : FVec Ideal S16384x2048 .f32) (G U : FVec Ideal S2048x5632 .bf16)
  (D : FVec Ideal S5632x2048 .bf16) (g b : FVec Ideal S1x2048 .f32)
  (h0 : m' ((c.tc : Thread nD τ).loc main_arg0) = X) (h1 : m' ((c.tc : Thread nD τ).loc main_arg1) = P) (h2 : m' ((c.tc : Thread nD τ).loc main_arg2) = G)
  (h3 : m' ((c.tc : Thread nD τ).loc main_arg3) = U) (h4 : m' ((c.tc : Thread nD τ).loc main_arg4) = D) (h5 : m' ((c.tc : Thread nD τ).loc main_arg5) = g)
  (h6 : m' ((c.tc : Thread nD τ).loc main_arg6) = b)

include h0 h1 h2 h3 h4 h5 h6

theorem ref_rows (i : S16384x2048.Idx) : Cert.Reference4Ideal.Value.res_main_v31 (F := Ideal) m' c i = entry X P G U D g b (i 0).val (i 1).val := by
  subst h0 h1 h2 h3 h4 h5 h6
  refine Eq.trans ?_ (hdone_at (m' ((c.tc : Thread nD τ).loc main_arg0)) (m' ((c.tc : Thread nD τ).loc main_arg1)) (m' ((c.tc : Thread nD τ).loc main_arg2)) (m' ((c.tc : Thread nD τ).loc main_arg3))
    (m' ((c.tc : Thread nD τ).loc main_arg4)) (m' ((c.tc : Thread nD τ).loc main_arg5)) (m' ((c.tc : Thread nD τ).loc main_arg6)) (i 0) (i 1))
  refine Eq.trans ?_ (congrArg _ (eq_ix2 i))
  unfold Cert.Reference4Ideal.Value.res_main_v31
  rfl

theorem ref_short (i : S16384x2048.Idx) : Cert.Reference4Ideal.Value.res_main_v32 (F := Ideal) m' c i = entry X P G U D g b (i 0).val (i 1).val := by
  refine Eq.trans ?_ (ref_rows m' c X P G U D g b h0 h1 h2 h3 h4 h5 h6 i)
  unfold Cert.Reference4Ideal.Value.res_main_v32 Cert.Reference4Ideal.Value.res_main_v31
  rfl

end Results

end Cert.Proof.Dense

end
-- ==== Proof.ConvBody.lean ====
/-
  ONE POINT OF THE CONVOLUTION CALL. What its body leaves in the two outputs' blocks: four pieces of 128 columns each, every piece
  the same function of its own columns of the inputs.
-/
module

public import proofs.«01_k».proof.Proof.Gen.Kernel5Ideal.Launch
public import proofs.«01_k».proof.Proof.Gen.Kernel5Ideal.Skeleton
public import proofs.«01_k».proof.Proof.Gen.Kernel5Ideal.Frame
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Proof.Conv

open Cert.Kernel5Ideal Cert.Kernel5Ideal.Gen
open Idealize.ShloMosaic
open Idealize.ShloMosaic.TcCoe
open Idealize.SL.Sem
open Idealize.ShloMosaic.Pipeline (Dat)

variable {F : FTy → Type} [FloatOps F]

/-- The normalised gated convolution of 128 columns: gates `b` and `c`, values `h`, the two kept rows `s0`, `s1`, the taps `w`, the scale `g`. -/
def mixed (b c h : Vec F S2048x128 .bf16) (s0 s1 : Vec F S1x1x128 .f32) (w : Vec F S3x128 .f32) (g : Vec F S1x128 .f32) : Vec F S2048x128 .bf16 :=
  k0_pay9 (k0_pay2 c h) (k0_pay4 c h s1) (k0_pay5 c h s0 s1) w (k0_pay7 b) (k0_pay8 w) g

section Paths
variable (c : Dev nD) (i : grid0.Coords)
  (a1 : Memref sig .tc .vmem S2048x512 .bf16) (h1 : a1.IsWhole)
  (a2 : Memref sig .tc .vmem S2048x512 .bf16) (h2 : a2.IsWhole)
  (a3 : Memref sig .tc .vmem S2048x512 .bf16) (h3 : a3.IsWhole)
  (a4 : Memref sig .tc .vmem S1x2x512 .f32) (h4 : a4.IsWhole)
  (a5 : Memref sig .tc .vmem S3x512 .f32) (h5 : a5.IsWhole)
  (a6 : Memref sig .tc .vmem S1x512 .f32) (h6 : a6.IsWhole)
  (a7 : Memref sig .tc .vmem S2048x512 .bf16) (h7 : a7.IsWhole)
  (a8 : Memref sig .tc .vmem S1x2x512 .f32) (h8 : a8.IsWhole)
  (x0 : Vec F S2048x512 .bf16) (x1 : Vec F S2048x512 .bf16) (x2 : Vec F S2048x512 .bf16) (x3 : Vec F S1x2x512 .f32) (x4 : Vec F S3x512 .f32)
  (x5 : Vec F S1x512 .f32)

/-- Columns `128 k` to `128 k + 127`. -/
abbrev cols2 {m : Nat} (k : Fin 4) : Rect (⟨2, ![m, 512]⟩ : Shape) :=
  Rect.unit ![0, 128 * k.val] ![m, 128] fun a => by have := k.isLt; fin_cases a <;> simp <;> omega

/-- One row of the kept rows, the same columns. -/
abbrev cols3 (r : Fin 2) (k : Fin 4) : Rect S1x2x512 :=
  Rect.unit ![0, r.val, 128 * k.val] ![1, 1, 128] fun a => by have := k.isLt; have := r.isLt; fin_cases a <;> simp <;> omega

/-- Both kept rows, the same columns. -/
abbrev both3 (k : Fin 4) : Rect S1x2x512 :=
  Rect.unit ![0, 0, 128 * k.val] ![1, 2, 128] fun a => by have := k.isLt; fin_cases a <;> simp <;> omega

/-- The first output's piece of a column group, at the blocks. -/
def piece (k : Fin 4) : Vec F S2048x128 .bf16 :=
  mixed (View.ld x0 (cols2 k)) (View.ld x1 (cols2 k)) (View.ld x2 (cols2 k)) (View.ld x3 (cols3 0 k)) (View.ld x3 (cols3 1 k)) (View.ld x4 (cols2 k)) (View.ld x5 (cols2 k))

/-- The second output's piece of a column group. -/
def keptPiece (k : Fin 4) : Vec F S1x2x128 .f32 := k0_pay6 (View.ld x1 (cols2 k)) (View.ld x2 (cols2 k))

theorem rows_pieces : out0_A_6 c i a1 h1 a2 h2 a3 h3 a4 h4 a5 h5 a6 h6 a7 h7 a8 h8 x0 x1 x2 x3 x4 x5 =
    View.canon (Val := Elt F) (s := S2048x512) (e := .bf16) [⟨cols2 3, piece x0 x1 x2 x3 x4 x5 3⟩, ⟨cols2 2, piece x0 x1 x2 x3 x4 x5 2⟩, ⟨cols2 1, piece x0 x1 x2 x3 x4 x5 1⟩, ⟨cols2 0, piece x0 x1 x2 x3 x4 x5 0⟩] := by
  unfold out0_A_6
  rw [View.read_writes_junk_eq_canon]
  unfold kernelRun0_A
  dsimp only
  sl_unfold_words
  simp only [View.readAt_eq_ld, h1.read_unread, h2.read_unread, h3.read_unread, h4.read_unread, h5.read_unread, h6.read_unread]
  rfl

theorem kept_pieces : out0_A_7 c i a1 h1 a2 h2 a3 h3 a4 h4 a5 h5 a6 h6 a7 h7 a8 h8 x0 x1 x2 x3 x4 x5 =
    View.canon (Val := Elt F) (s := S1x2x512) (e := .f32) [⟨both3 3, keptPiece x1 x2 3⟩, ⟨both3 2, keptPiece x1 x2 2⟩, ⟨both3 1, keptPiece x1 x2 1⟩, ⟨both3 0, keptPiece x1 x2 0⟩] := by
  unfold out0_A_7
  rw [View.read_writes_junk_eq_canon]
  unfold kernelRun0_A
  dsimp only
  sl_unfold_words
  simp only [View.readAt_eq_ld, h2.read_unread, h3.read_unread]
  rfl

end Paths

/-! ## The pieces read at an index -/

/-- Every one of four things is in the list of the four. -/
theorem mem_four {β : Type*} (Q : Fin 4 → β) (k : Fin 4) : Q k ∈ [Q 3, Q 2, Q 1, Q 0] := by
  fin_cases k <;> simp

/-- A piece of columns read at a place: only its own group's columns hold the place. -/
theorem tile2 {α : Type} (P : Fin 4 → S2048x128.Idx → α) (k j : Fin 4) (y : S2048x512.Idx) (z : S2048x128.Idx)
    (h0 : (y 0).val = (z 0).val) (h1 : (y 1).val = 128 * k.val + (z 1).val) (x : S2048x128.Idx) (hx0 : (y 0).val = 0 + (x 0).val) (hx1 : (y 1).val = 128 * j.val + (x 1).val) :
    P j x = P k z := by
  have hz : (z 1).val < 128 := (z 1).isLt
  have hx : (x 1).val < 128 := (x 1).isLt
  obtain rfl : j = k := Fin.ext (by omega)
  refine congrArg (P j) (funext fun a => ?_)
  match a with
  | ⟨0, _⟩ => exact Fin.ext (by show (x 0).val = (z 0).val; omega)
  | ⟨1, _⟩ => exact Fin.ext (by show (x 1).val = (z 1).val; omega)

theorem four2 (P : Fin 4 → S2048x128.Idx → Elt F .bf16) (k : Fin 4) (y : S2048x512.Idx) (z : S2048x128.Idx) (h0 : (y 0).val = (z 0).val) (h1 : (y 1).val = 128 * k.val + (z 1).val) :
    View.canon (Val := Elt F) (s := S2048x512) (e := .bf16) [⟨cols2 3, P 3⟩, ⟨cols2 2, P 2⟩, ⟨cols2 1, P 1⟩, ⟨cols2 0, P 0⟩] y = P k z := by
  have hz : (z 1).val < 128 := (z 1).isLt
  have hz0 : (z 0).val < 2048 := (z 0).isLt
  have hm : y ∈ (cols2 (m := 2048) k).set := Rect.mem_set_unit.mpr fun a => by
    match a with
    | ⟨0, _⟩ => exact ⟨Nat.zero_le _, by show (y 0).val < 0 + 2048; omega⟩
    | ⟨1, _⟩ => exact ⟨by show 128 * k.val ≤ (y 1).val; omega, by show (y 1).val < 128 * k.val + 128; omega⟩
  have ht : ∀ j : Fin 4, View.TileAt (Val := Elt F) (e := .bf16) y ![0, 128 * j.val] ![2048, 128] (P j) (P k z) := fun j x hx => tile2 P k j y z h0 h1 x (hx 0) (hx 1)
  refine View.canon_eq_of_allAt _ y _ ?_ ?_
  · exact ⟨⟨cols2 k, P k⟩, mem_four (fun j => (⟨cols2 j, P j⟩ : View.Piece (Elt F) S2048x512 .bf16)) k, hm⟩
  · exact View.allAt_cons_unit _ _ _ _ _ (ht 3) (View.allAt_cons_unit _ _ _ _ _ (ht 2) (View.allAt_cons_unit _ _ _ _ _ (ht 1) (View.allAt_cons_unit _ _ _ _ _ (ht 0) (View.allAt_nil _ _))))

theorem tile3 {α : Type} (P : Fin 4 → S1x2x128.Idx → α) (k j : Fin 4) (y : S1x2x512.Idx) (z : S1x2x128.Idx)
    (h1 : (y 1).val = (z 1).val) (h2 : (y 2).val = 128 * k.val + (z 2).val) (x : S1x2x128.Idx) (hx1 : (y 1).val = 0 + (x 1).val) (hx2 : (y 2).val = 128 * j.val + (x 2).val) :
    P j x = P k z := by
  have hz : (z 2).val < 128 := (z 2).isLt
  have hx : (x 2).val < 128 := (x 2).isLt
  have hz0 : (z 0).val < 1 := (z 0).isLt
  have hx0 : (x 0).val < 1 := (x 0).isLt
  obtain rfl : j = k := Fin.ext (by omega)
  refine congrArg (P j) (funext fun a => ?_)
  match a with
  | ⟨0, _⟩ => exact Fin.ext (by show (x 0).val = (z 0).val; omega)
  | ⟨1, _⟩ => exact Fin.ext (by show (x 1).val = (z 1).val; omega)
  | ⟨2, _⟩ => exact Fin.ext (by show (x 2).val = (z 2).val; omega)

theorem four3 (P : Fin 4 → S1x2x128.Idx → Elt F .f32) (k : Fin 4) (y : S1x2x512.Idx) (z : S1x2x128.Idx) (h1 : (y 1).val = (z 1).val) (h2 : (y 2).val = 128 * k.val + (z 2).val) :
    View.canon (Val := Elt F) (s := S1x2x512) (e := .f32) [⟨both3 3, P 3⟩, ⟨both3 2, P 2⟩, ⟨both3 1, P 1⟩, ⟨both3 0, P 0⟩] y = P k z := by
  have hz : (z 2).val < 128 := (z 2).isLt
  have hz1 : (z 1).val < 2 := (z 1).isLt
  have hy0 : (y 0).val < 1 := (y 0).isLt
  have hm : y ∈ (both3 k).set := Rect.mem_set_unit.mpr fun a => by
    match a with
    | ⟨0, _⟩ => exact ⟨Nat.zero_le _, by show (y 0).val < 0 + 1; omega⟩
    | ⟨1, _⟩ => exact ⟨Nat.zero_le _, by show (y 1).val < 0 + 2; omega⟩
    | ⟨2, _⟩ => exact ⟨by show 128 * k.val ≤ (y 2).val; omega, by show (y 2).val < 128 * k.val + 128; omega⟩
  have ht : ∀ j : Fin 4, View.TileAt (Val := Elt F) (e := .f32) y ![0, 0, 128 * j.val] ![1, 2, 128] (P j) (P k z) := fun j x hx => tile3 P k j y z h1 h2 x (hx 1) (hx 2)
  refine View.canon_eq_of_allAt _ y _ ?_ ?_
  · exact ⟨⟨both3 k, P k⟩, mem_four (fun j => (⟨both3 j, P j⟩ : View.Piece (Elt F) S1x2x512 .f32)) k, hm⟩
  · exact View.allAt_cons_unit _ _ _ _ _ (ht 3) (View.allAt_cons_unit _ _ _ _ _ (ht 2) (View.allAt_cons_unit _ _ _ _ _ (ht 1) (View.allAt_cons_unit _ _ _ _ _ (ht 0) (View.allAt_nil _ _))))

/-! ## The points -/

variable (m : (ℓ : Loc nD τ sig) → Buf (Elt F) ℓ) (ρ : Dev nD → PrngReg)

/-- The first output's piece of column group `k` after point `t`, -/
def rowsOf (c : Dev nD) (t : Fin cfg0.N) (k : Fin 4) : Vec F S2048x128 .bf16 :=
  piece (X0_0 m c t) (X0_1 m c t) (X0_2 m c t) (iblk m c 3 t) (iblk m c 4 t) (iblk m c 5 t) k
/-- and the second's. -/
def keptOf (c : Dev nD) (t : Fin cfg0.N) (k : Fin 4) : Vec F S1x2x128 .f32 := keptPiece (X0_1 m c t) (X0_2 m c t) k

theorem rows_at (c : Dev nD) (t : Fin cfg0.N) (k : Fin 4) (y : S2048x512.Idx) (z : S2048x128.Idx) (h0 : (y 0).val = (z 0).val) (h1 : (y 1).val = 128 * k.val + (z 1).val) :
    (dats m 0 c).after (6 : Fin 8) t y = rowsOf m c t k z := by
  refine (congrFun ((after0_6 m c t).trans ?_) y).trans (four2 (rowsOf m c t) k y z h0 h1)
  unfold outsAt0
  dsimp only
  exact rows_pieces ..

theorem kept_at (c : Dev nD) (t : Fin cfg0.N) (k : Fin 4) (y : S1x2x512.Idx) (z : S1x2x128.Idx) (h1 : (y 1).val = (z 1).val) (h2 : (y 2).val = 128 * k.val + (z 2).val) :
    (dats m 0 c).after (7 : Fin 8) t y = keptOf m c t k z := by
  refine (congrFun ((after0_7 m c t).trans ?_) y).trans (four3 (keptOf m c t) k y z h1 h2)
  unfold outsAt0
  dsimp only
  exact kept_pieces ..

end Cert.Proof.Conv

end
-- ==== Proof.ConvEnd.lean ====
/-
  WHAT THE CONVOLUTION MIXER LEAVES. Both outputs' arrays as the pieces of the points, one sequence after another, and the
  arguments unchanged.
-/
module

public import proofs.«01_k».proof.Proof.ConvBody
public import Idealize.ShloMosaic.Lib.Pipeline.ValueKit.Geometry
public import Idealize.ShloMosaic.Lib.ValueIdxCore

@[expose] public section

set_option maxRecDepth 16384

noncomputable section

namespace Cert.Proof.Conv

open Cert.Kernel5Ideal Cert.Kernel5Ideal.Gen
open Idealize.ShloMosaic
open Idealize.ShloMosaic.ValueIdx
open Idealize.ShloMosaic.TcCoe
open Idealize.SL.Sem
open Idealize.ShloMosaic.Pipeline (Dat Cfg Window)

variable {F : FTy → Type} [FloatOps F]

/-! ## The schedule -/

theorem index0 : ∀ t : Fin grid0.N, (cfg0.win (0 : Fin 8)).index t = ![t.val, 0] := by decide +kernel
theorem index1 : ∀ t : Fin grid0.N, (cfg0.win (1 : Fin 8)).index t = ![t.val, 1] := by decide +kernel
theorem index2 : ∀ t : Fin grid0.N, (cfg0.win (2 : Fin 8)).index t = ![t.val, 2] := by decide +kernel
theorem index3 : ∀ t : Fin grid0.N, (cfg0.win (3 : Fin 8)).index t = ![t.val, 0, 0] := by decide +kernel
theorem index4 : ∀ t : Fin grid0.N, (cfg0.win (4 : Fin 8)).index t = ![0, 0] := by decide +kernel
theorem index5 : ∀ t : Fin grid0.N, (cfg0.win (5 : Fin 8)).index t = ![0, 0] := by decide +kernel
theorem index6 : ∀ t : Fin grid0.N, (cfg0.win (6 : Fin 8)).index t = ![t.val, 0] := by decide +kernel
theorem index7 : ∀ t : Fin grid0.N, (cfg0.win (7 : Fin 8)).index t = ![t.val, 0, 0] := by decide +kernel

/-! ## The final arrays -/

variable (m : (ℓ : Loc nD τ sig) → Buf (Elt F) ℓ) (ρ : Dev nD → PrngReg)

theorem points : cfg0.N = 8 := N_0

theorem row_point (i : S16384x512.Idx) : (i 0).val / 2048 < cfg0.N := by
  have hi : (i 0).val < 16384 := (i 0).isLt
  exact lt_of_lt_of_eq (by omega) points.symm
theorem row_group (i : S16384x512.Idx) : (i 1).val / 128 < 4 := by
  have hi : (i 1).val < 512 := (i 1).isLt
  omega
theorem kept_point (i : S8x2x512.Idx) : (i 0).val < cfg0.N := lt_of_lt_of_eq (i 0).isLt points.symm
theorem kept_group (i : S8x2x512.Idx) : (i 2).val / 128 < 4 := by
  have hi : (i 2).val < 512 := (i 2).isLt
  omega

/-- The mixed rows, one sequence below the other. -/
def outA (c : Dev nD) (i : S16384x512.Idx) : F .bf16 :=
  rowsOf m c ⟨(i 0).val / 2048, row_point i⟩ ⟨(i 1).val / 128, row_group i⟩ (ix2 ⟨(i 0).val % 2048, Nat.mod_lt _ (by decide)⟩ ⟨(i 1).val % 128, Nat.mod_lt _ (by decide)⟩)
/-- The kept rows of each sequence. -/
def outB (c : Dev nD) (i : S8x2x512.Idx) : F .f32 :=
  keptOf m c ⟨(i 0).val, kept_point i⟩ ⟨(i 2).val / 128, kept_group i⟩ (ix3 0 (i 1) ⟨(i 2).val % 128, Nat.mod_lt _ (by decide)⟩)

theorem rows_congr (c : Dev nD) {t t' : Fin cfg0.N} {k k' : Fin 4} {y y' : S2048x128.Idx} (h : t.val = t'.val) (hk : k.val = k'.val) (h0 : (y 0).val = (y' 0).val) (h1 : (y 1).val = (y' 1).val) :
    rowsOf m c t k y = rowsOf m c t' k' y' := by
  obtain rfl : t = t' := Fin.ext h
  obtain rfl : k = k' := Fin.ext hk
  refine congrArg (rowsOf m c t k) (funext fun a => ?_)
  match a with
  | ⟨0, _⟩ => exact Fin.ext h0
  | ⟨1, _⟩ => exact Fin.ext h1

theorem kept_congr (c : Dev nD) {t t' : Fin cfg0.N} {k k' : Fin 4} {y y' : S1x2x128.Idx} (h : t.val = t'.val) (hk : k.val = k'.val) (h1 : (y 1).val = (y' 1).val) (h2 : (y 2).val = (y' 2).val) :
    keptOf m c t k y = keptOf m c t' k' y' := by
  obtain rfl : t = t' := Fin.ext h
  obtain rfl : k = k' := Fin.ext hk
  refine congrArg (keptOf m c t k) (funext fun a => ?_)
  match a with
  | ⟨0, _⟩ => exact Subsingleton.elim (α := Fin 1) _ _
  | ⟨1, _⟩ => exact Fin.ext h1
  | ⟨2, _⟩ => exact Fin.ext h2

theorem flushed6 (c : Dev nD) (t : Fin cfg0.N) : (dats m 0 c).flushed (6 : Fin 8) t = ((cfg0.win (6 : Fin 8)).blk t).view.read (Elt F) (outA m c) := by
  funext y
  show (dats m 0 c).after (6 : Fin 8) t y = outA m c (((cfg0.win (6 : Fin 8)).rect t).emb y)
  have e0 : ((((cfg0.win (6 : Fin 8)).rect t).emb y) (0 : Fin 2) : Nat) = t.val * 2048 + (y (0 : Fin 2)).val := by
    have := Pipeline.Window.rect_emb_val (cfg0.win (6 : Fin 8)) t y (0 : Fin 2)
    rw [index6 t] at this
    exact this
  have e1 : ((((cfg0.win (6 : Fin 8)).rect t).emb y) (1 : Fin 2) : Nat) = (y (1 : Fin 2)).val := by
    have := Pipeline.Window.rect_emb_val (cfg0.win (6 : Fin 8)) t y (1 : Fin 2)
    rw [index6 t] at this
    exact this.trans (by simp)
  have hy : (y (0 : Fin 2)).val < 2048 := (y (0 : Fin 2)).isLt
  have hy1 : (y (1 : Fin 2)).val < 512 := (y (1 : Fin 2)).isLt
  refine (rows_at m c t ⟨(y (1 : Fin 2)).val / 128, by omega⟩ y (ix2 ⟨(y (0 : Fin 2)).val, hy⟩ ⟨(y (1 : Fin 2)).val % 128, Nat.mod_lt _ (by decide)⟩) rfl
    (by show (y (1 : Fin 2)).val = 128 * ((y (1 : Fin 2)).val / 128) + (y (1 : Fin 2)).val % 128; omega)).trans ?_
  unfold outA
  refine rows_congr m c ?_ ?_ ?_ ?_
  · show t.val = _ / 2048
    rw [e0]; omega
  · show _ = _ / 128
    rw [e1]
  · show (y (0 : Fin 2)).val = _ % 2048
    rw [e0]; omega
  · show _ = _ % 128
    rw [e1]

theorem flushed7 (c : Dev nD) (t : Fin cfg0.N) : (dats m 0 c).flushed (7 : Fin 8) t = ((cfg0.win (7 : Fin 8)).blk t).view.read (Elt F) (outB m c) := by
  funext y
  show (dats m 0 c).after (7 : Fin 8) t y = outB m c (((cfg0.win (7 : Fin 8)).rect t).emb y)
  have hy0 : (y (0 : Fin 3)).val < 1 := (y (0 : Fin 3)).isLt
  have hy1 : (y (1 : Fin 3)).val < 2 := (y (1 : Fin 3)).isLt
  have hy2 : (y (2 : Fin 3)).val < 512 := (y (2 : Fin 3)).isLt
  have e0 : ((((cfg0.win (7 : Fin 8)).rect t).emb y) (0 : Fin 3) : Nat) = t.val := by
    have := Pipeline.Window.rect_emb_val (cfg0.win (7 : Fin 8)) t y (0 : Fin 3)
    rw [index7 t] at this
    exact this.trans (show t.val * 1 + (y (0 : Fin 3)).val = t.val by omega)
  have e1 : ((((cfg0.win (7 : Fin 8)).rect t).emb y) (1 : Fin 3) : Nat) = (y (1 : Fin 3)).val := by
    have := Pipeline.Window.rect_emb_val (cfg0.win (7 : Fin 8)) t y (1 : Fin 3)
    rw [index7 t] at this
    exact this.trans (show 0 * 2 + (y (1 : Fin 3)).val = _ by omega)
  have e2 : ((((cfg0.win (7 : Fin 8)).rect t).emb y) (2 : Fin 3) : Nat) = (y (2 : Fin 3)).val := by
    have := Pipeline.Window.rect_emb_val (cfg0.win (7 : Fin 8)) t y (2 : Fin 3)
    rw [index7 t] at this
    exact this.trans (show 0 * 512 + (y (2 : Fin 3)).val = _ by omega)
  refine (kept_at m c t ⟨(y (2 : Fin 3)).val / 128, by omega⟩ y (ix3 0 ⟨(y (1 : Fin 3)).val, hy1⟩ ⟨(y (2 : Fin 3)).val % 128, Nat.mod_lt _ (by decide)⟩) rfl
    (by show (y (2 : Fin 3)).val = 128 * ((y (2 : Fin 3)).val / 128) + (y (2 : Fin 3)).val % 128; omega)).trans ?_
  unfold outB
  refine kept_congr m c ?_ ?_ ?_ ?_
  · exact e0.symm
  · show _ = _ / 128
    rw [e2]
  · exact e1.symm
  · show _ = _ % 128
    rw [e2]

/-- Every row of the first output ends at its sequence's point's piece. -/
theorem final6 (c : Dev nD) : (dats m 0 c).arrAt (6 : Fin 8) cfg0.N = outA m c := by
  funext i
  have hi : (i 0).val < 16384 := (i 0).isLt
  refine (dats m 0 c).arrAt_apply_of_mem (6 : Fin 8) (outA m c) (fun t _ => flushed6 m c t) _ ⟨(i 0).val / 2048, row_point i⟩ i (row_point i)
    (flush0_6 _) ((Pipeline.Window.emb_mem_blk_iff (cfg0.win (6 : Fin 8)) _ i).mpr fun a => ?_)
  rw [index6 _]
  match a with
  | ⟨0, _⟩ =>
    show (i 0).val / 2048 * 2048 ≤ (i 0).val ∧ (i 0).val < (i 0).val / 2048 * 2048 + 2048
    omega
  | ⟨1, _⟩ =>
    show 0 * 512 ≤ (i 1).val ∧ (i 1).val < 0 * 512 + 512
    have : (i 1).val < 512 := (i 1).isLt
    omega

/-- The kept rows likewise. -/
theorem final7 (c : Dev nD) : (dats m 0 c).arrAt (7 : Fin 8) cfg0.N = outB m c := by
  funext i
  refine (dats m 0 c).arrAt_apply_of_mem (7 : Fin 8) (outB m c) (fun t _ => flushed7 m c t) _ ⟨(i 0).val, kept_point i⟩ i (kept_point i)
    (flush0_7 _) ((Pipeline.Window.emb_mem_blk_iff (cfg0.win (7 : Fin 8)) _ i).mpr fun a => ?_)
  rw [index7 _]
  match a with
  | ⟨0, _⟩ =>
    show (i 0).val * 1 ≤ (i 0).val ∧ (i 0).val < (i 0).val * 1 + 1
    omega
  | ⟨1, _⟩ =>
    show 0 * 2 ≤ (i 1).val ∧ (i 1).val < 0 * 2 + 2
    have : (i 1).val < 2 := (i 1).isLt
    omega
  | ⟨2, _⟩ =>
    show 0 * 512 ≤ (i 2).val ∧ (i 2).val < 0 * 512 + 512
    have : (i 2).val < 512 := (i 2).isLt
    omega

/-- The whole run: both outputs at their pieces, the arguments as they were, every counter at zero. -/
theorem run_end : θ_run (defs (F := F)) (onTc (τ := τ) (main (F := F))) ⟨m, fun _ => 0, ρ⟩ (fun r =>
    (∀ c : Dev nD, r.2.mem ((c.tc : Thread nD τ).loc main_v0_0) = outA m c
      ∧ r.2.mem ((c.tc : Thread nD τ).loc main_v0_1) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).1 (6 : Fin 8)).trans (final6 m c), ((h.1 c).1 (7 : Fin 8)).trans (final7 m c),
    ((h.1 c).1 (0 : Fin 8)).trans ((dats m 0 c).arrAt_in (0 : Fin 8) rfl _), ((h.1 c).1 (3 : Fin 8)).trans ((dats m 0 c).arrAt_in (3 : Fin 8) rfl _),
    ((h.1 c).1 (4 : Fin 8)).trans ((dats m 0 c).arrAt_in (4 : Fin 8) rfl _), ((h.1 c).1 (5 : Fin 8)).trans ((dats m 0 c).arrAt_in (5 : Fin 8) rfl _)⟩, h.2⟩) (run_main_quiescent m ρ)

end Cert.Proof.Conv

end
-- ==== Proof.ConvBits.lean ====
/-
  THE PRINTED CONVOLUTION MIXER IS THE IDEALIZED ONE'S TEXT, at any float values: the same body under the same pipeline.
  So a run of the one is a run of the other.
-/
module

public import proofs.«01_k».proof.Proof.ConvEnd
public import proofs.«01_k».proof.Proof.Gen.Kernel5

@[expose] public section

set_option maxRecDepth 16384

noncomputable section

namespace Cert.Proof.Conv

open Idealize.ShloMosaic Idealize.SL.Sem

variable {F : FTy → Type} [FloatOps F]

theorem same_bodies : @Cert.Kernel5.defs₀ F _ _ = @Cert.Kernel5Ideal.defs₀ F _ _ := by
  unfold Cert.Kernel5.defs₀ Cert.Kernel5Ideal.defs₀
  refine congrArg Defs.onTc (funext fun l => funext fun a => ?_)
  match l, a with
  | 0, (t, s) => exact rfl

theorem same_defs : @Cert.Kernel5.defs F _ _ = @Cert.Kernel5Ideal.defs F _ _ := congrArg (Pipeline.defs (Cert.Kernel5.pcfgs (F := F))) same_bodies

theorem same_main : @Cert.Kernel5.main F _ = @Cert.Kernel5Ideal.main F _ := rfl

end Cert.Proof.Conv

end
-- ==== Proof.ConvMath.lean ====
/-
  THE GATED CONVOLUTION OF A COLUMN GROUP, PLAINLY. One piece of each output read at an index.
-/
module

public import proofs.«01_k».proof.Proof.ConvBody
public import proofs.«01_k».proof.Proof.FinMath
public import Idealize.ShloMosaic.Lib.KernelVsHost
public import Idealize.ShloMosaic.Lib.WordCmp

@[expose] public section

set_option maxRecDepth 16384

noncomputable section

namespace Cert.Proof.Conv

open Cert.Kernel5Ideal Cert.Kernel5Ideal.Gen
open Idealize.ShloMosaic hiding ix1 ix2 ix3 ix4 eq_ix2
open Idealize.ShloMosaic.ValueIdx
open scoped BigOperators

/-! ## The mathematics -/

/-- The length of a column group and the normalisation's small constant, as the program writes them. -/
abbrev len : EReal := Ideal.ofBits .f32 0x43000000#32
abbrev eps : EReal := Ideal.ofBits .f32 0x358637BD#32

/-- Entry `l` of a column group over the root of the group's mean square, times its scale. -/
def unit (Y : ℕ → EReal) (g : EReal) (l : ℕ) : EReal := Y l * Ideal.rsqrt (Ideal.div (∑ k ∈ Finset.range 128, Y k * Y k) len + eps) * g

/-- The rows of a sequence after its two kept rows. -/
def after (S P : ℕ → ℕ → EReal) (r q : ℕ) : EReal := if r < 2 then S r q else P (r - 2) q

/-- The gated sum of three taps. -/
def gated (B S P W : ℕ → ℕ → EReal) (r q : ℕ) : EReal := B r q * (W 0 q * after S P r q + W 1 q * after S P (r + 1) q + W 2 q * after S P (r + 2) q)

/-! ## A piece -/

variable (b c h : FVec Ideal S2048x128 .bf16) (s0 s1 : FVec Ideal S1x1x128 .f32) (w : FVec Ideal S3x128 .f32) (g : FVec Ideal S1x128 .f32)
  (B S P W : ℕ → ℕ → EReal)

/-- A select on a row's number. -/
theorem pick_row (n : ℕ) (hn : n < 2048) (u v : FVec Ideal S2048x128 .f32) (p : Fin 2048) (q : Fin 128) :
    select (cmpi .eq (iota .tc S2048x128 32 [0] iota_S2048x128_d0_w32) (broadcast S2048x128 (BitVec.ofNat 32 n))) u v (ix2 p q) = if p.val = n then u (ix2 p q) else v (ix2 p q) := by
  have hp := p.isLt
  have e : cmpi .eq (iota .tc S2048x128 32 [0] iota_S2048x128_d0_w32) (broadcast S2048x128 (BitVec.ofNat 32 n)) (ix2 p q) = IntOp.cmpi .eq (BitVec.ofNat 32 p.val) (BitVec.ofNat 32 n) := by
    refine congrArg (fun x => IntOp.cmpi .eq x (BitVec.ofNat 32 n)) ?_
    show BitVec.ofNat 32 (0 * 2048 + p.val) = _
    rw [Nat.zero_mul, Nat.zero_add]
  rw [select_apply, e]
  split
  · next hh => rw [(WordCmp.cmpi_eq_ofNat_eq_one_iff (by omega) (by omega)).mpr hh]; rfl
  · next hh => rw [(WordCmp.cmpi_eq_ofNat_eq_zero_iff (by omega) (by omega)).mpr hh]; rfl

/-- The rows moved down. -/
theorem moved (n : BitVec 32) (x : FVec Ideal S2048x128 .f32) (p : Fin 2048) (q : Fin 128) (h1 : n.toNat ≤ p.val) :
    dynamicRotate 0 n none x rotates_S2048x128_d0 (ix2 p q) = x (ix2 ⟨p.val - n.toNat, by omega⟩ q) := by
  have hp := p.isLt
  refine dynamicRotate_apply (0 : Fin 2) n x rotates_S2048x128_d0 (ix2 p q) _ fun a => ?_
  match a with
  | ⟨0, _⟩ =>
    show p.val - n.toNat = (p.val + 2048 - n.toNat % 2048) % 2048
    rw [Nat.mod_eq_of_lt (by omega : n.toNat < 2048)]
    omega
  | ⟨1, _⟩ => rfl

/-- A kept row laid along the rows. -/
theorem kept_row (s : FVec Ideal S1x1x128 .f32) (p : Fin 2048) (q : Fin 128) :
    broadcastTo S2048x128 (shapeCast S1x128 (shapeCast S1x128 s shapeCasts_S1x1x128_S1x128) shapeCasts_S1x128_S1x128) broadcasts_S1x128_S2048x128 (ix2 p q) = s (ix3 0 0 q) := by
  refine (broadcastTo_1b_ab_apply _ broadcasts_S1x128_S2048x128 p q).trans ?_
  rw [shapeCast_self]
  exact shapeCast_1ab_ab_apply s shapeCasts_S1x1x128_S1x128 0 q

/-- A tap laid along the rows. -/
theorem tap_at (n : ℕ) (hn : n < 3) (hs : S3x128.Slices ![n, 0] S1x128) (p : Fin 2048) (q : Fin 128) :
    broadcastTo S2048x128 (extractStridedSlice S1x128 ![n, 0] w hs) broadcasts_S1x128_S2048x128 (ix2 p q) = w (ix2 ⟨n, hn⟩ q) := by
  refine (broadcastTo_1b_ab_apply _ broadcasts_S1x128_S2048x128 p q).trans ?_
  refine extractStridedSlice_apply ![n, 0] w hs (ix2 0 q) (ix2 ⟨n, hn⟩ q) fun a => ?_
  match a with
  | ⟨0, _⟩ => rfl
  | ⟨1, _⟩ => show q.val = 0 + q.val; omega

section
variable (hP : ∀ y : S2048x128.Idx, c y * h y = P (y 0).val (y 1).val) (h0 : ∀ q : Fin 128, s0 (ix3 0 0 q) = S 0 q.val) (h1 : ∀ q : Fin 128, s1 (ix3 0 0 q) = S 1 q.val)
  (hB : ∀ y : S2048x128.Idx, b y = B (y 0).val (y 1).val) (hW : ∀ y : S3x128.Idx, w y = W (y 0).val (y 1).val)

include hP in
theorem now_at (p : Fin 2048) (q : Fin 128) : k0_pay2 (F := Ideal) c h (ix2 p q) = P p.val q.val := hP (ix2 p q)

include hP h1 in
theorem prev_at (p : Fin 2048) (q : Fin 128) : k0_pay4 (F := Ideal) c h s1 (ix2 p q) = after S P (p.val + 1) q.val := by
  unfold k0_pay4 k0_pay3
  refine (pick_row 0 (by decide) _ _ p q).trans ?_
  unfold after
  by_cases hp : p.val = 0
  · rw [if_pos hp, if_pos (by omega), hp]
    exact (kept_row s1 p q).trans (h1 q)
  · rw [if_neg hp, if_neg (by omega)]
    refine (moved 1#32 _ p q (by show 1 ≤ p.val; omega)).trans ?_
    refine (now_at c h P hP _ q).trans ?_
    show P (p.val - 1) q.val = _
    rw [show p.val + 1 - 2 = p.val - 1 by omega]

include hP h0 h1 in
theorem before_at (p : Fin 2048) (q : Fin 128) : k0_pay5 (F := Ideal) c h s0 s1 (ix2 p q) = after S P p.val q.val := by
  unfold k0_pay5 k0_pay3
  refine (pick_row 0 (by decide) _ _ p q).trans ?_
  unfold after
  by_cases hp : p.val = 0
  · rw [if_pos hp, if_pos (by omega), hp]
    exact (kept_row s0 p q).trans (h0 q)
  · rw [if_neg hp]
    refine (pick_row 1 (by decide) _ _ p q).trans ?_
    by_cases hp1 : p.val = 1
    · rw [if_pos hp1, if_pos (by omega), hp1]
      exact (kept_row s1 p q).trans (h1 q)
    · rw [if_neg hp1, if_neg (by omega)]
      refine (moved 2#32 _ p q (by show 2 ≤ p.val; omega)).trans ?_
      exact now_at c h P hP _ q

/-- The gated sum as the body writes it. -/
def sums : FVec Ideal S2048x128 .f32 :=
  mulf (k0_pay7 b) (addf (addf (mulf (broadcastTo S2048x128 (extractStridedSlice S1x128 ![0, 0] w slices_S3x128_o0_0_S1x128) broadcasts_S1x128_S2048x128) (k0_pay5 c h s0 s1))
    (mulf (broadcastTo S2048x128 (extractStridedSlice S1x128 ![1, 0] w slices_S3x128_o1_0_S1x128) broadcasts_S1x128_S2048x128) (k0_pay4 c h s1)))
    (mulf (broadcastTo S2048x128 (extractStridedSlice S1x128 ![2, 0] w slices_S3x128_o2_0_S1x128) broadcasts_S1x128_S2048x128) (k0_pay2 c h)))

include hP h0 h1 hB hW in
theorem sums_at (p : Fin 2048) (q : Fin 128) : sums b c h s0 s1 w (ix2 p q) = gated B S P W p.val q.val := by
  have e0 := (tap_at w 0 (by decide) slices_S3x128_o0_0_S1x128 p q).trans (hW _)
  have e1 := (tap_at w 1 (by decide) slices_S3x128_o1_0_S1x128 p q).trans (hW _)
  have e2 := (tap_at w 2 (by decide) slices_S3x128_o2_0_S1x128 p q).trans (hW _)
  have f0 := before_at c h s0 s1 S P hP h0 h1 p q
  have f1 := prev_at c h s1 S P hP h1 p q
  have f2 : k0_pay2 (F := Ideal) c h (ix2 p q) = after S P (p.val + 2) q.val := by
    unfold after; rw [if_neg (by omega), now_at c h P hP p q, show p.val + 2 - 2 = p.val by omega]
  have eb := hB (ix2 p q)
  unfold gated
  exact congrArg₂ (fun s t : EReal => s * t) eb (congrArg₂ (fun s t : EReal => s + t) (congrArg₂ (fun s t : EReal => s + t)
    (congrArg₂ (fun s t : EReal => s * t) e0 f0) (congrArg₂ (fun s t : EReal => s * t) e1 f1)) (congrArg₂ (fun s t : EReal => s * t) e2 f2))

end

/-- A column laid along the rows, read at an index. -/
theorem column_at {α : Type} (x : S2048x1.Idx → α) (p : Fin 2048) (q : Fin 128) : broadcastTo S2048x128 x broadcasts_S2048x1_S2048x128 (ix2 p q) = x (ix2 p 0) :=
  broadcastTo_apply x broadcasts_S2048x1_S2048x128 (ix2 p q) (ix2 p 0) fun a => match a with
    | ⟨0, _⟩ => rfl
    | ⟨1, _⟩ => rfl

/-- The rows' mean squares as a column. -/
def squares (x : FVec Ideal S2048x128 .f32) : FVec Ideal S2048x1 .f32 :=
  divf (shapeCast S2048x1 (multiReduction (F := Ideal) (φ := .f32) .add [1] S2048 (mulf x x) 0x00000000#32 reduces_S2048x128_S2048 (.inl rfl) rfl) shapeCasts_S2048_S2048x1)
    (broadcast S2048x1 (Scalar.ofBits (F := Ideal) .f32 0x43000000#32))

theorem squares_at (x : FVec Ideal S2048x128 .f32) (Y : ℕ → EReal) (p : Fin 2048) (hx : ∀ k : Fin 128, x (ix2 p k) = Y k.val) :
    squares x (ix2 p 0) = Ideal.div (∑ k ∈ Finset.range 128, Y k * Y k) len := by
  refine congrArg (fun s : EReal => Ideal.div s len) ?_
  refine (shapeCast_a_a1_apply _ shapeCasts_S2048_S2048x1 p 0).trans ?_
  refine (Ideal.reduceAdd_r2_a1 reduces_S2048x128_S2048 (mulf x x) (ix1 p)).trans ?_
  rw [Finset.sum_range]
  exact Finset.sum_congr rfl fun k _ => congrArg₂ (fun s t : EReal => s * t) (hx k) (hx k)

/-- The first output's piece, read at an index. -/
theorem mixed_at (hP : ∀ y : S2048x128.Idx, c y * h y = P (y 0).val (y 1).val) (h0 : ∀ q : Fin 128, s0 (ix3 0 0 q) = S 0 q.val) (h1 : ∀ q : Fin 128, s1 (ix3 0 0 q) = S 1 q.val)
    (hB : ∀ y : S2048x128.Idx, b y = B (y 0).val (y 1).val) (hW : ∀ y : S3x128.Idx, w y = W (y 0).val (y 1).val) (p : Fin 2048) (l : Fin 128) :
    mixed (F := Ideal) b c h s0 s1 w g (ix2 p l) = unit (gated B S P W p.val) (g (ix2 0 l)) l.val := by
  have hx : ∀ k : Fin 128, sums b c h s0 s1 w (ix2 p k) = gated B S P W p.val k.val := sums_at b c h s0 s1 w B S P W hP h0 h1 hB hW p
  have e2 := squares_at (sums b c h s0 s1 w) (gated B S P W p.val) p hx
  have e3 := column_at (rsqrt (F := Ideal) (addf (squares (sums b c h s0 s1 w)) (broadcast S2048x1 (Scalar.ofBits (F := Ideal) .f32 0x358637BD#32)))) p l
  have e4 : rsqrt (F := Ideal) (addf (squares (sums b c h s0 s1 w)) (broadcast S2048x1 (Scalar.ofBits (F := Ideal) .f32 0x358637BD#32))) (ix2 p 0)
      = Ideal.rsqrt (Ideal.div (∑ k ∈ Finset.range 128, gated B S P W p.val k * gated B S P W p.val k) len + eps) := congrArg (fun s : EReal => Ideal.rsqrt (s + eps)) e2
  have e5 := broadcastTo_1b_ab_apply g broadcasts_S1x128_S2048x128 p l
  unfold unit
  rw [← hx l, ← e4, ← e3, ← e5]
  rfl

/-- The second output's piece, read at an index: the last two rows. -/
theorem last_at (hP : ∀ y : S2048x128.Idx, c y * h y = P (y 0).val (y 1).val) (u : Fin 2) (l : Fin 128) : k0_pay6 (F := Ideal) c h (ix3 0 u l) = P (2046 + u.val) l.val := by
  unfold k0_pay6
  have hu := u.isLt
  refine (shapeCast_ab_1ab_apply _ shapeCasts_S2x128_S1x2x128 0 u l).trans ?_
  refine (extractStridedSlice_apply ![2046, 0] _ slices_S2048x128_o2046_0_S2x128 (ix2 u l) (ix2 ⟨2046 + u.val, by omega⟩ l) fun a => ?_).trans (hP _)
  match a with
  | ⟨0, _⟩ => rfl
  | ⟨1, _⟩ => show l.val = 0 + l.val; omega

end Cert.Proof.Conv

end
-- ==== Proof.ConvVal.lean ====
/-
  THE CONVOLUTION MIXER'S VALUE. The blocks of the inputs at a point as the arrays' rows and columns, and every entry of the
  two outputs.
-/
module

public import proofs.«01_k».proof.Proof.ConvMath
public import proofs.«01_k».proof.Proof.ConvEnd

@[expose] public section

set_option maxRecDepth 16384

noncomputable section

namespace Cert.Proof.Conv

open Cert.Kernel5Ideal Cert.Kernel5Ideal.Gen
open Cert.Proof.Finish (num num_eq)
open Idealize.ShloMosaic hiding ix1 ix2 ix3 ix4 eq_ix2
open Idealize.ShloMosaic.ValueIdx
open Idealize.ShloMosaic.TcCoe
open scoped BigOperators

/-! ## The mathematics of the whole arrays -/

/-- The number of a rank-three array at natural coordinates, zero outside it. -/
def num3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem num3_eq {a b c : ℕ} (x : (⟨3, ![a, b, c]⟩ : Shape).Idx → EReal) (y : (⟨3, ![a, b, c]⟩ : Shape).Idx) {i j k : ℕ} (h0 : (y 0).val = i) (h1 : (y 1).val = j) (h2 : (y 2).val = k) :
    x y = num3 x i j k := by
  subst h0; subst h1; subst h2
  unfold num3
  rw [dif_pos ⟨(y 0).isLt, (y 1).isLt, (y 2).isLt⟩]
  exact congrArg x (ValueIdx.eq_ix3 y)

/-- Row `r` of sequence `s`: its gate times its value, in column `q`. -/
def prods (X : S17408x4096.Idx → EReal) (s r q : ℕ) : EReal :=
  num (a := 17408) (b := 4096) X (2048 * s + r) (512 + q) * num (a := 17408) (b := 4096) X (2048 * s + r) (1024 + q)

/-- Row `r` of sequence `s` after the gated taps, in column `q`. -/
def sumAt (X : S17408x4096.Idx → EReal) (S : S8x2x512.Idx → EReal) (W : S3x512.Idx → EReal) (s r q : ℕ) : EReal :=
  gated (fun r q => num (a := 17408) (b := 4096) X (2048 * s + r) q) (fun r q => num3 (a := 8) (b := 2) (c := 512) S s r q) (prods X s) (fun r q => num (a := 3) (b := 512) W r q) r q

/-- Entry `128 k + l` of row `r` of sequence `s` of the first output. -/
def entry (X : S17408x4096.Idx → EReal) (S : S8x2x512.Idx → EReal) (W : S3x512.Idx → EReal) (G : S1x2048.Idx → EReal) (s r k l : ℕ) : EReal :=
  unit (fun j => sumAt X S W s r (128 * k + j)) (num (a := 1) (b := 2048) G 0 (128 * k + l)) l

variable (m : (ℓ : Loc nD τ sig) → Buf (Elt Ideal) ℓ) (c : Dev nD)

/-! ## The blocks -/

section Blocks
variable (t : Fin cfg0.N)

theorem blk0 (y : S2048x512.Idx) : X0_0 m c t y = num (a := 17408) (b := 4096) (m ((c.tc : Thread nD τ).loc main_arg0)) (2048 * t.val + (y 0).val) (y 1).val := by
  unfold X0_0 Pipeline.Window.fill
  rw [dif_pos (moved0_0 t y)]
  have h0 := Pipeline.Window.rect_emb_val (cfg0.win (0 : Fin 8)) t (fun a => ⟨(y a).val, ((cfg0.win (0 : Fin 8)).moved_iff _ y).mp (moved0_0 t y) a⟩) (0 : Fin 2)
  have h1 := Pipeline.Window.rect_emb_val (cfg0.win (0 : Fin 8)) t (fun a => ⟨(y a).val, ((cfg0.win (0 : Fin 8)).moved_iff _ y).mp (moved0_0 t y) a⟩) (1 : Fin 2)
  rw [index0 t] at h0 h1
  exact num_eq (a := 17408) (b := 4096) _ _ (h0.trans (show t.val * 2048 + (y 0).val = _ by omega)) (h1.trans (show 0 * 512 + (y 1).val = _ by omega))

theorem blk1 (y : S2048x512.Idx) : X0_1 m c t y = num (a := 17408) (b := 4096) (m ((c.tc : Thread nD τ).loc main_arg0)) (2048 * t.val + (y 0).val) (512 + (y 1).val) := by
  unfold X0_1 Pipeline.Window.fill
  rw [dif_pos (moved0_1 t y)]
  have h0 := Pipeline.Window.rect_emb_val (cfg0.win (1 : Fin 8)) t (fun a => ⟨(y a).val, ((cfg0.win (1 : Fin 8)).moved_iff _ y).mp (moved0_1 t y) a⟩) (0 : Fin 2)
  have h1 := Pipeline.Window.rect_emb_val (cfg0.win (1 : Fin 8)) t (fun a => ⟨(y a).val, ((cfg0.win (1 : Fin 8)).moved_iff _ y).mp (moved0_1 t y) a⟩) (1 : Fin 2)
  rw [index1 t] at h0 h1
  exact num_eq (a := 17408) (b := 4096) _ _ (h0.trans (show t.val * 2048 + (y 0).val = _ by omega)) (h1.trans (show 1 * 512 + (y 1).val = _ by omega))

theorem blk2 (y : S2048x512.Idx) : X0_2 m c t y = num (a := 17408) (b := 4096) (m ((c.tc : Thread nD τ).loc main_arg0)) (2048 * t.val + (y 0).val) (1024 + (y 1).val) := by
  unfold X0_2 Pipeline.Window.fill
  rw [dif_pos (moved0_2 t y)]
  have h0 := Pipeline.Window.rect_emb_val (cfg0.win (2 : Fin 8)) t (fun a => ⟨(y a).val, ((cfg0.win (2 : Fin 8)).moved_iff _ y).mp (moved0_2 t y) a⟩) (0 : Fin 2)
  have h1 := Pipeline.Window.rect_emb_val (cfg0.win (2 : Fin 8)) t (fun a => ⟨(y a).val, ((cfg0.win (2 : Fin 8)).moved_iff _ y).mp (moved0_2 t y) a⟩) (1 : Fin 2)
  rw [index2 t] at h0 h1
  exact num_eq (a := 17408) (b := 4096) _ _ (h0.trans (show t.val * 2048 + (y 0).val = _ by omega)) (h1.trans (show 2 * 512 + (y 1).val = _ by omega))

theorem blk3 (y : S1x2x512.Idx) : iblk m c 3 t y = num3 (a := 8) (b := 2) (c := 512) (m ((c.tc : Thread nD τ).loc main_arg1)) t.val (y 1).val (y 2).val := by
  have hy : (y 0).val < 1 := (y 0).isLt
  have h0 := Pipeline.Window.rect_emb_val (cfg0.win (3 : Fin 8)) t y (0 : Fin 3)
  have h1 := Pipeline.Window.rect_emb_val (cfg0.win (3 : Fin 8)) t y (1 : Fin 3)
  have h2 := Pipeline.Window.rect_emb_val (cfg0.win (3 : Fin 8)) t y (2 : Fin 3)
  rw [index3 t] at h0 h1 h2
  exact num3_eq (a := 8) (b := 2) (c := 512) _ _ (h0.trans (show t.val * 1 + (y 0).val = _ by omega)) (h1.trans (show 0 * 2 + (y 1).val = _ by omega)) (h2.trans (show 0 * 512 + (y 2).val = _ by omega))

theorem blk4 (y : S3x512.Idx) : iblk m c 4 t y = num (a := 3) (b := 512) (m ((c.tc : Thread nD τ).loc main_arg2)) (y 0).val (y 1).val := by
  have h0 := Pipeline.Window.rect_emb_val (cfg0.win (4 : Fin 8)) t y (0 : Fin 2)
  have h1 := Pipeline.Window.rect_emb_val (cfg0.win (4 : Fin 8)) t y (1 : Fin 2)
  rw [index4 t] at h0 h1
  exact num_eq (a := 3) (b := 512) _ _ (h0.trans (show 0 * 3 + (y 0).val = _ by omega)) (h1.trans (show 0 * 512 + (y 1).val = _ by omega))

theorem blk5 (y : S1x512.Idx) : iblk m c 5 t y = num (a := 1) (b := 2048) (m ((c.tc : Thread nD τ).loc main_arg3)) (y 0).val (y 1).val := by
  have h0 := Pipeline.Window.rect_emb_val (cfg0.win (5 : Fin 8)) t y (0 : Fin 2)
  have h1 := Pipeline.Window.rect_emb_val (cfg0.win (5 : Fin 8)) t y (1 : Fin 2)
  rw [index5 t] at h0 h1
  exact num_eq (a := 1) (b := 2048) _ _ (h0.trans (show 0 * 1 + (y 0).val = _ by omega)) (h1.trans (show 0 * 512 + (y 1).val = _ by omega))

end Blocks

/-! ## A column group of a block -/

theorem group2 {n : ℕ} {e : EltTy} (x : (⟨2, ![n, 512]⟩ : Shape).Idx → Elt Ideal e) (f : ℕ → ℕ → Elt Ideal e) (hx : ∀ y, x y = f (y 0).val (y 1).val) (k : Fin 4) (z : (⟨2, ![n, 128]⟩ : Shape).Idx) :
    View.ld (Val := Elt Ideal) (e' := e) x (cols2 k) z = f (z 0).val (128 * k.val + (z 1).val) := by
  have hz : (z 1).val < 128 := (z 1).isLt
  have hk := k.isLt
  refine (View.ld_unit_apply_of (Val := Elt Ideal) (e := e) x _ _ _ z (ix2 (z 0) ⟨128 * k.val + (z 1).val, by omega⟩) fun a => ?_).trans (hx _)
  match a with
  | ⟨0, _⟩ => exact (Nat.zero_add _).symm
  | ⟨1, _⟩ => rfl

theorem group3 (x : S1x2x512.Idx → Elt Ideal .f32) (f : ℕ → ℕ → EReal) (hx : ∀ y, x y = f (y 1).val (y 2).val) (r : Fin 2) (k : Fin 4) (q : Fin 128) :
    View.ld (Val := Elt Ideal) (e' := .f32) x (cols3 r k) (ix3 0 0 q) = f r.val (128 * k.val + q.val) := by
  have hq := q.isLt
  have hk := k.isLt
  refine (View.ld_unit_apply_of (Val := Elt Ideal) (e := .f32) x _ _ _ (ix3 0 0 q) (ix3 0 r ⟨128 * k.val + q.val, by omega⟩) fun a => ?_).trans (hx _)
  match a with
  | ⟨0, _⟩ => rfl
  | ⟨1, _⟩ => rfl
  | ⟨2, _⟩ => rfl

/-! ## The pieces -/

/-- The same of the arguments on device `c`. -/
def entryOf (s r k l : ℕ) : EReal :=
  entry (m ((c.tc : Thread nD τ).loc main_arg0)) (m ((c.tc : Thread nD τ).loc main_arg1)) (m ((c.tc : Thread nD τ).loc main_arg2)) (m ((c.tc : Thread nD τ).loc main_arg3)) s r k l

theorem prod_at (t : Fin cfg0.N) (k : Fin 4) (y : S2048x128.Idx) :
    View.ld (Val := Elt Ideal) (e' := .bf16) (X0_1 m c t) (cols2 (m := 2048) k) y * View.ld (Val := Elt Ideal) (e' := .bf16) (X0_2 m c t) (cols2 (m := 2048) k) y
      = prods (m ((c.tc : Thread nD τ).loc main_arg0)) t.val (y 0).val (128 * k.val + (y 1).val) :=
  congrArg₂ (fun s t : EReal => s * t)
    (group2 (n := 2048) (e := .bf16) (X0_1 m c t) (fun r q => num (a := 17408) (b := 4096) (m ((c.tc : Thread nD τ).loc main_arg0)) (2048 * t.val + r) (512 + q)) (blk1 m c t) k y)
    (group2 (n := 2048) (e := .bf16) (X0_2 m c t) (fun r q => num (a := 17408) (b := 4096) (m ((c.tc : Thread nD τ).loc main_arg0)) (2048 * t.val + r) (1024 + q)) (blk2 m c t) k y)

theorem rowsOf_at (t : Fin cfg0.N) (k : Fin 4) (p : Fin 2048) (l : Fin 128) : rowsOf (F := Ideal) m c t k (ix2 p l) = entryOf m c t.val p.val k.val l.val := by
  have hs : ∀ (r : Fin 2) (q : Fin 128), View.ld (Val := Elt Ideal) (e' := .f32) (iblk m c 3 t) (cols3 r k) (ix3 0 0 q)
      = num3 (a := 8) (b := 2) (c := 512) (m ((c.tc : Thread nD τ).loc main_arg1)) t.val r.val (128 * k.val + q.val) :=
    fun r q => group3 (iblk m c 3 t) (fun r q => num3 (a := 8) (b := 2) (c := 512) (m ((c.tc : Thread nD τ).loc main_arg1)) t.val r q) (blk3 m c t) r k q
  refine (mixed_at _ _ _ _ _ _ _
    (fun r q => num (a := 17408) (b := 4096) (m ((c.tc : Thread nD τ).loc main_arg0)) (2048 * t.val + r) (128 * k.val + q))
    (fun r q => num3 (a := 8) (b := 2) (c := 512) (m ((c.tc : Thread nD τ).loc main_arg1)) t.val r (128 * k.val + q))
    (fun r q => prods (m ((c.tc : Thread nD τ).loc main_arg0)) t.val r (128 * k.val + q))
    (fun r q => num (a := 3) (b := 512) (m ((c.tc : Thread nD τ).loc main_arg2)) r (128 * k.val + q))
    (prod_at m c t k) (hs 0) (hs 1)
    (group2 (n := 2048) (e := .bf16) (X0_0 m c t) (fun r q => num (a := 17408) (b := 4096) (m ((c.tc : Thread nD τ).loc main_arg0)) (2048 * t.val + r) q) (blk0 m c t) k)
    (group2 (n := 3) (e := .f32) (iblk m c 4 t) (fun r q => num (a := 3) (b := 512) (m ((c.tc : Thread nD τ).loc main_arg2)) r q) (blk4 m c t) k) p l).trans ?_
  rw [group2 (n := 1) (e := .f32) (iblk m c 5 t) (fun r q => num (a := 1) (b := 2048) (m ((c.tc : Thread nD τ).loc main_arg3)) r q) (blk5 m c t) k (ix2 0 l)]
  rfl

theorem keptOf_at (t : Fin cfg0.N) (k : Fin 4) (u : Fin 2) (l : Fin 128) :
    keptOf (F := Ideal) m c t k (ix3 0 u l) = prods (m ((c.tc : Thread nD τ).loc main_arg0)) t.val (2046 + u.val) (128 * k.val + l.val) :=
  last_at _ _ (fun r q => prods (m ((c.tc : Thread nD τ).loc main_arg0)) t.val r (128 * k.val + q)) (prod_at m c t k) u l

/-- Every entry of the first output, -/
theorem outA_at (i : S16384x512.Idx) : outA (F := Ideal) m c i = entryOf m c ((i 0).val / 2048) ((i 0).val % 2048) ((i 1).val / 128) ((i 1).val % 128) :=
  rowsOf_at m c ⟨(i 0).val / 2048, row_point i⟩ ⟨(i 1).val / 128, row_group i⟩ ⟨(i 0).val % 2048, Nat.mod_lt _ (by decide)⟩ ⟨(i 1).val % 128, Nat.mod_lt _ (by decide)⟩

/-- and of the second. -/
theorem outB_at (i : S8x2x512.Idx) : outB (F := Ideal) m c i = prods (m ((c.tc : Thread nD τ).loc main_arg0)) (i 0).val (2046 + (i 1).val) (i 2).val := by
  refine (keptOf_at m c ⟨(i 0).val, kept_point i⟩ ⟨(i 2).val / 128, kept_group i⟩ (i 1) ⟨(i 2).val % 128, Nat.mod_lt _ (by decide)⟩).trans ?_
  show prods _ (i 0).val (2046 + (i 1).val) (128 * ((i 2).val / 128) + (i 2).val % 128) = _
  rw [Nat.div_add_mod]

end Cert.Proof.Conv

end
-- ==== Proof.ConvRef.lean ====
/-
  THE CONVOLUTION MIXER'S REFERENCE, READ AT AN INDEX. Its mixed rows and its kept rows are the same numbers.
-/
module

public import proofs.«01_k».proof.Proof.ConvVal
public import proofs.«01_k».proof.Proof.Gen.Reference5Ideal.Run
public import Idealize.ShloMosaic.Lib.StableHlo.Predicate
public import Idealize.ShloMosaic.Lib.KernelVsHost
public import Idealize.ShloMosaic.Lib.IdealHost

@[expose] public section

set_option maxRecDepth 16384

noncomputable section

namespace Cert.Proof.Conv

open Cert.Reference5Ideal Cert.Reference5Ideal.Gen
open Cert.Proof.Finish (num num_eq)
open Idealize.ShloMosaic hiding ix1 ix2 ix3 ix4 eq_ix2
open Idealize.ShloMosaic.ValueIdx
open scoped BigOperators

/-! ## The sequences -/

/-- The prompts' rows cut into sequences, without their last columns. -/
def hp (X : FVec Ideal S17408x4096 .bf16) : FVec Ideal S8x2048x1536 .f32 :=
  shapeCast S8x2048x1536 (extf .f32 (extractStridedSlice S16384x1536 ![0, 0] X slices_S17408x4096_S16384x1536_0_0) bitsLt_bf16_f32) shapeCasts_S16384x1536_S8x2048x1536

theorem hp_at (X : FVec Ideal S17408x4096 .bf16) (s : Fin 8) (r : Fin 2048) (q : Fin 1536) :
    hp X (ix3 s r q) = num (a := 17408) (b := 4096) X (2048 * s.val + r.val) q.val := by
  have hs := s.isLt
  have hr := r.isLt
  have hq := q.isLt
  unfold hp
  refine (shapeCast_apply _ shapeCasts_S16384x1536_S8x2048x1536 (ix3 s r q) (ix2 ⟨2048 * s.val + r.val, by omega⟩ q) ?_).trans ?_
  · rw [Shape.rowMajor_val_two, Shape.rowMajor_val_three]
    show (2048 * s.val + r.val) * 1536 + q.val = (s.val * 2048 + r.val) * 1536 + q.val
    omega
  · refine (extractStridedSlice_apply ![0, 0] X slices_S17408x4096_S16384x1536_0_0 (ix2 ⟨2048 * s.val + r.val, by omega⟩ q) (ix2 ⟨2048 * s.val + r.val, by omega⟩ ⟨q.val, by omega⟩) fun a => ?_).trans
      (num_eq (a := 17408) (b := 4096) X _ (i := 2048 * s.val + r.val) (j := q.val) rfl rfl)
    match a with
    | ⟨0, _⟩ => exact (Nat.zero_add _).symm
    | ⟨1, _⟩ => exact (Nat.zero_add _).symm

/-- One part of the columns. -/
theorem hpart_at (X : FVec Ideal S17408x4096 .bf16) (o : ℕ) (ho : o ≤ 1024) (h : S8x2048x1536.Slices ![0, 0, o] S8x2048x512) (s : Fin 8) (r : Fin 2048) (q : Fin 512) :
    extractStridedSlice S8x2048x512 ![0, 0, o] (hp X) h (ix3 s r q) = num (a := 17408) (b := 4096) X (2048 * s.val + r.val) (o + q.val) := by
  have hq := q.isLt
  refine (extractStridedSlice_apply ![0, 0, o] (hp X) h (ix3 s r q) (ix3 s r ⟨o + q.val, by omega⟩) fun a => ?_).trans (hp_at X s r ⟨o + q.val, by omega⟩)
  match a with
  | ⟨0, _⟩ => exact (Nat.zero_add _).symm
  | ⟨1, _⟩ => exact (Nat.zero_add _).symm
  | ⟨2, _⟩ => rfl

/-- The gated values. -/
def hz (X : FVec Ideal S17408x4096 .bf16) : FVec Ideal S8x2048x512 .f32 :=
  mulf (extractStridedSlice S8x2048x512 ![0, 0, 512] (hp X) slices_S8x2048x1536_S8x2048x512_0_0_512) (extractStridedSlice S8x2048x512 ![0, 0, 1024] (hp X) slices_S8x2048x1536_S8x2048x512_0_0_1024)

theorem hz_at (X : FVec Ideal S17408x4096 .bf16) (s : Fin 8) (r : Fin 2048) (q : Fin 512) : hz X (ix3 s r q) = prods X s.val r.val q.val :=
  congrArg₂ (fun s t : EReal => s * t) (hpart_at X 512 (by decide) slices_S8x2048x1536_S8x2048x512_0_0_512 s r q) (hpart_at X 1024 (by decide) slices_S8x2048x1536_S8x2048x512_0_0_1024 s r q)

/-- The kept rows, then the gated values. -/
def hall (X : FVec Ideal S17408x4096 .bf16) (S : FVec Ideal S8x2x512 .f32) : FVec Ideal S8x2050x512 .f32 :=
  concatenate S8x2050x512 1 [⟨S8x2x512, S⟩, ⟨S8x2048x512, hz X⟩] concatenates_S8x2x512_S8x2048x512_S8x2050x512_d1

theorem hall_at (X : FVec Ideal S17408x4096 .bf16) (S : FVec Ideal S8x2x512 .f32) (s : Fin 8) (r : Fin 2050) (q : Fin 512) :
    hall X S (ix3 s r q) = after (fun r q => num3 (a := 8) (b := 2) (c := 512) S s.val r q) (prods X s.val) r.val q.val := by
  have hr := r.isLt
  unfold hall after
  by_cases h : r.val < 2
  · rw [if_pos h]
    refine (concatenate_pair_apply_left (1 : Fin 3) S (hz X) concatenates_S8x2x512_S8x2048x512_S8x2050x512_d1 (ix3 s r q) rfl (ix3 s ⟨r.val, h⟩ q) fun a => ?_).trans
      (num3_eq (a := 8) (b := 2) (c := 512) S _ (i := s.val) (j := r.val) (k := q.val) rfl rfl rfl)
    match a with
    | ⟨0, _⟩ => rfl
    | ⟨1, _⟩ => rfl
    | ⟨2, _⟩ => rfl
  · rw [if_neg h]
    refine (concatenate_pair_apply_right (1 : Fin 3) S (hz X) concatenates_S8x2x512_S8x2048x512_S8x2050x512_d1 (ix3 s r q) rfl rfl (ix3 s ⟨r.val - 2, by omega⟩ q) (fun a ha => ?_) ?_).trans
      (hz_at X s ⟨r.val - 2, by omega⟩ q)
    · match a with
      | ⟨0, _⟩ => rfl
      | ⟨1, _⟩ => exact absurd rfl ha
      | ⟨2, _⟩ => rfl
    · show r.val - 2 + 2 = r.val
      omega

/-- The rows from the `n`-th on. -/
theorem hfrom_at (X : FVec Ideal S17408x4096 .bf16) (S : FVec Ideal S8x2x512 .f32) (n : ℕ) (hn : n ≤ 2) (h : S8x2050x512.Slices ![0, n, 0] S8x2048x512) (s : Fin 8) (r : Fin 2048) (q : Fin 512) :
    extractStridedSlice S8x2048x512 ![0, n, 0] (hall X S) h (ix3 s r q) = after (fun r q => num3 (a := 8) (b := 2) (c := 512) S s.val r q) (prods X s.val) (r.val + n) q.val := by
  have hr := r.isLt
  refine (extractStridedSlice_apply ![0, n, 0] (hall X S) h (ix3 s r q) (ix3 s ⟨r.val + n, by omega⟩ q) fun a => ?_).trans (hall_at X S s ⟨r.val + n, by omega⟩ q)
  match a with
  | ⟨0, _⟩ => exact (Nat.zero_add _).symm
  | ⟨1, _⟩ => exact Nat.add_comm _ _
  | ⟨2, _⟩ => exact (Nat.zero_add _).symm

/-- A tap laid along all rows. -/
theorem htap_at (W : FVec Ideal S3x512 .f32) (n : ℕ) (hn : n < 3) (h : S3x512.Slices ![n, 0] S1x512) (s : Fin 8) (r : Fin 2048) (q : Fin 512) :
    broadcastInDim S8x2048x512 ![0, 1, 2] bcast_S1x1x512_S8x2048x512_0_1_2 (broadcastInDim S1x1x512 ![2] bcast_S512_S1x1x512_2 (shapeCast S512 (extractStridedSlice S1x512 ![n, 0] W h) shapeCasts_S1x512_S512)) (ix3 s r q)
      = num (a := 3) (b := 512) W n q.val := by
  refine (broadcastInDim_apply ![0, 1, 2] bcast_S1x1x512_S8x2048x512_0_1_2 _ (ix3 s r q) (ix3 0 0 q) fun a => ?_).trans ?_
  · match a with
    | ⟨0, _⟩ => rfl
    | ⟨1, _⟩ => rfl
    | ⟨2, _⟩ => rfl
  refine (broadcastInDim_apply ![2] bcast_S512_S1x1x512_2 _ (ix3 0 0 q) (ix1 q) fun a => ?_).trans ?_
  · match a with
    | ⟨0, _⟩ => rfl
  refine (shapeCast_1a_a_apply _ shapeCasts_S1x512_S512 q).trans ?_
  refine (extractStridedSlice_apply ![n, 0] W h (ix2 0 q) (ix2 ⟨n, hn⟩ q) fun a => ?_).trans (num_eq (a := 3) (b := 512) W _ (i := n) (j := q.val) rfl rfl)
  match a with
  | ⟨0, _⟩ => rfl
  | ⟨1, _⟩ => exact (Nat.zero_add _).symm

/-- The gated taps. -/
def hsums (X : FVec Ideal S17408x4096 .bf16) (S : FVec Ideal S8x2x512 .f32) (W : FVec Ideal S3x512 .f32) : FVec Ideal S8x2048x512 .f32 :=
  mulf (extractStridedSlice S8x2048x512 ![0, 0, 0] (hp X) slices_S8x2048x1536_S8x2048x512_0_0_0)
    (addf (addf
      (mulf (broadcastInDim S8x2048x512 ![0, 1, 2] bcast_S1x1x512_S8x2048x512_0_1_2 (broadcastInDim S1x1x512 ![2] bcast_S512_S1x1x512_2 (shapeCast S512 (extractStridedSlice S1x512 ![0, 0] W slices_S3x512_S1x512_0_0) shapeCasts_S1x512_S512)))
        (extractStridedSlice S8x2048x512 ![0, 0, 0] (hall X S) slices_S8x2050x512_S8x2048x512_0_0_0))
      (mulf (broadcastInDim S8x2048x512 ![0, 1, 2] bcast_S1x1x512_S8x2048x512_0_1_2 (broadcastInDim S1x1x512 ![2] bcast_S512_S1x1x512_2 (shapeCast S512 (extractStridedSlice S1x512 ![1, 0] W slices_S3x512_S1x512_1_0) shapeCasts_S1x512_S512)))
        (extractStridedSlice S8x2048x512 ![0, 1, 0] (hall X S) slices_S8x2050x512_S8x2048x512_0_1_0)))
      (mulf (broadcastInDim S8x2048x512 ![0, 1, 2] bcast_S1x1x512_S8x2048x512_0_1_2 (broadcastInDim S1x1x512 ![2] bcast_S512_S1x1x512_2 (shapeCast S512 (extractStridedSlice S1x512 ![2, 0] W slices_S3x512_S1x512_2_0) shapeCasts_S1x512_S512)))
        (extractStridedSlice S8x2048x512 ![0, 2, 0] (hall X S) slices_S8x2050x512_S8x2048x512_0_2_0)))

theorem hsums_at (X : FVec Ideal S17408x4096 .bf16) (S : FVec Ideal S8x2x512 .f32) (W : FVec Ideal S3x512 .f32) (s : Fin 8) (r : Fin 2048) (q : Fin 512) :
    hsums X S W (ix3 s r q) = sumAt X S W s.val r.val q.val := by
  have e := hpart_at X 0 (by decide) slices_S8x2048x1536_S8x2048x512_0_0_0 s r q
  rw [Nat.zero_add] at e
  unfold sumAt gated
  exact congrArg₂ (fun s t : EReal => s * t) e (congrArg₂ (fun s t : EReal => s + t) (congrArg₂ (fun s t : EReal => s + t)
    (congrArg₂ (fun s t : EReal => s * t) (htap_at W 0 (by decide) slices_S3x512_S1x512_0_0 s r q) (hfrom_at X S 0 (by decide) slices_S8x2050x512_S8x2048x512_0_0_0 s r q))
    (congrArg₂ (fun s t : EReal => s * t) (htap_at W 1 (by decide) slices_S3x512_S1x512_1_0 s r q) (hfrom_at X S 1 (by decide) slices_S8x2050x512_S8x2048x512_0_1_0 s r q)))
    (congrArg₂ (fun s t : EReal => s * t) (htap_at W 2 (by decide) slices_S3x512_S1x512_2_0 s r q) (hfrom_at X S 2 (by decide) slices_S8x2050x512_S8x2048x512_0_2_0 s r q)))

/-! ## The groups -/

/-- The gated taps by rows and column groups. -/
def hgroups (X : FVec Ideal S17408x4096 .bf16) (S : FVec Ideal S8x2x512 .f32) (W : FVec Ideal S3x512 .f32) : FVec Ideal S16384x4x128 .f32 :=
  shapeCast S16384x4x128 (hsums X S W) shapeCasts_S8x2048x512_S16384x4x128

theorem hgroups_at (X : FVec Ideal S17408x4096 .bf16) (S : FVec Ideal S8x2x512 .f32) (W : FVec Ideal S3x512 .f32) (p : Fin 16384) (k : Fin 4) (l : Fin 128) :
    hgroups X S W (ix3 p k l) = sumAt X S W (p.val / 2048) (p.val % 2048) (128 * k.val + l.val) := by
  have hp := p.isLt
  have hk := k.isLt
  have hl := l.isLt
  refine (shapeCast_apply _ shapeCasts_S8x2048x512_S16384x4x128 (ix3 p k l)
    (ix3 ⟨p.val / 2048, by omega⟩ ⟨p.val % 2048, Nat.mod_lt _ (by decide)⟩ ⟨128 * k.val + l.val, by omega⟩) ?_).trans (hsums_at X S W _ _ _)
  rw [Shape.rowMajor_val_three, Shape.rowMajor_val_three]
  show (p.val / 2048 * 2048 + p.val % 2048) * 512 + (128 * k.val + l.val) = (p.val * 4 + k.val) * 128 + l.val
  omega

/-- The mean squares of the groups. -/
def hsquares (x : FVec Ideal S16384x4x128 .f32) : FVec Ideal S16384x4x1 .f32 :=
  Host.divf (broadcastInDim S16384x4x1 ![0, 1] bcast_S16384x4_S16384x4x1_0_1 (Host.reduceAdd (mulf x x) (constant S_ .f32 0x00000000#32) reducesTo_S16384x4x128_S16384x4_d2 h_S_))
    (broadcastInDim S16384x4x1 ![] bcast_S_S16384x4x1 (constant S_ .f32 0x43000000#32))

theorem hsquares_at (x : FVec Ideal S16384x4x128 .f32) (Y : ℕ → EReal) (p : Fin 16384) (k : Fin 4) (hx : ∀ l : Fin 128, x (ix3 p k l) = Y l.val) :
    hsquares x (ix3 p k 0) = Ideal.div (∑ l ∈ Finset.range 128, Y l * Y l) len := by
  refine congrArg (fun s : EReal => Ideal.div s len) ?_
  refine (broadcastInDim_apply ![0, 1] bcast_S16384x4_S16384x4x1_0_1 _ (ix3 p k 0) (ix2 p k) fun a => match a with
    | ⟨0, _⟩ => rfl
    | ⟨1, _⟩ => rfl).trans ?_
  refine (Ideal.hostReduceAdd_r3_a2 reducesTo_S16384x4x128_S16384x4_d2 (mulf x x) (Ideal.ofBits .f32 0x00000000#32) (ix2 p k)).trans ?_
  rw [Ideal.ofBits_zero_f32, zero_add, Finset.sum_range]
  exact Finset.sum_congr rfl fun l _ => congrArg₂ (fun s t : EReal => s * t) (hx l) (hx l)

/-- A number of each group laid along it. -/
theorem hcol_at (x : FVec Ideal S16384x4x1 .f32) (p : Fin 16384) (k : Fin 4) (l : Fin 128) :
    broadcastInDim S16384x4x128 ![0, 1, 2] bcast_S16384x4x1_S16384x4x128_0_1_2 x (ix3 p k l) = x (ix3 p k 0) :=
  broadcastInDim_apply ![0, 1, 2] bcast_S16384x4x1_S16384x4x128_0_1_2 x (ix3 p k l) (ix3 p k 0) fun a => match a with
    | ⟨0, _⟩ => rfl
    | ⟨1, _⟩ => rfl
    | ⟨2, _⟩ => rfl

/-- The scales by column groups. -/
def hscales (G : FVec Ideal S1x2048 .f32) : FVec Ideal S16384x4x128 .f32 :=
  broadcastInDim S16384x4x128 ![0, 1, 2] bcast_S1x4x128_S16384x4x128_0_1_2 (broadcastInDim S1x4x128 ![1, 2] bcast_S4x128_S1x4x128_1_2
    (shapeCast S4x128 (shapeCast S512 (extractStridedSlice S1x512 ![0, 0] G slices_S1x2048_S1x512_0_0) shapeCasts_S1x512_S512) shapeCasts_S512_S4x128))

theorem hscales_at (G : FVec Ideal S1x2048 .f32) (p : Fin 16384) (k : Fin 4) (l : Fin 128) : hscales G (ix3 p k l) = num (a := 1) (b := 2048) G 0 (128 * k.val + l.val) := by
  have hk := k.isLt
  have hl := l.isLt
  unfold hscales
  refine (broadcastInDim_apply ![0, 1, 2] bcast_S1x4x128_S16384x4x128_0_1_2 _ (ix3 p k l) (ix3 0 k l) fun a => ?_).trans ?_
  · match a with
    | ⟨0, _⟩ => rfl
    | ⟨1, _⟩ => rfl
    | ⟨2, _⟩ => rfl
  refine (broadcastInDim_apply ![1, 2] bcast_S4x128_S1x4x128_1_2 _ (ix3 0 k l) (ix2 k l) fun a => ?_).trans ?_
  · match a with
    | ⟨0, _⟩ => rfl
    | ⟨1, _⟩ => rfl
  refine (shapeCast_apply _ shapeCasts_S512_S4x128 (ix2 k l) (ix1 ⟨128 * k.val + l.val, by omega⟩) ?_).trans ?_
  · rw [Shape.rowMajor_val_one, Shape.rowMajor_val_two]
    show 128 * k.val + l.val = k.val * 128 + l.val
    omega
  refine (shapeCast_1a_a_apply _ shapeCasts_S1x512_S512 _).trans ?_
  refine (extractStridedSlice_apply ![0, 0] G slices_S1x2048_S1x512_0_0 (ix2 0 ⟨128 * k.val + l.val, by omega⟩) (ix2 0 ⟨128 * k.val + l.val, by omega⟩) fun a => ?_).trans
    (num_eq (a := 1) (b := 2048) G _ (i := 0) (j := 128 * k.val + l.val) rfl rfl)
  match a with
  | ⟨0, _⟩ => rfl
  | ⟨1, _⟩ => exact (Nat.zero_add _).symm

/-- The reciprocal roots. -/
def hroots (x : FVec Ideal S16384x4x128 .f32) : FVec Ideal S16384x4x1 .f32 :=
  Host.rsqrt (addf (hsquares x) (broadcastInDim S16384x4x1 ![] bcast_S_S16384x4x1 (constant S_ .f32 0x358637BD#32)))

/-- The normalised groups. -/
def hunits (x : FVec Ideal S16384x4x128 .f32) (G : FVec Ideal S1x2048 .f32) : FVec Ideal S16384x4x128 .f32 :=
  mulf (mulf x (broadcastInDim S16384x4x128 ![0, 1, 2] bcast_S16384x4x1_S16384x4x128_0_1_2 (hroots x))) (hscales G)

theorem hunits_at (X : FVec Ideal S17408x4096 .bf16) (S : FVec Ideal S8x2x512 .f32) (W : FVec Ideal S3x512 .f32) (G : FVec Ideal S1x2048 .f32) (p : Fin 16384) (k : Fin 4) (l : Fin 128) :
    hunits (hgroups X S W) G (ix3 p k l) = entry X S W G (p.val / 2048) (p.val % 2048) k.val l.val := by
  have hx := hgroups_at X S W p k
  have e1 := hsquares_at (hgroups X S W) (fun j => sumAt X S W (p.val / 2048) (p.val % 2048) (128 * k.val + j)) p k hx
  have e2 : hroots (hgroups X S W) (ix3 p k 0) = _ := congrArg (fun s : EReal => Ideal.rsqrt (s + eps)) e1
  have e3 := (hcol_at (hroots (hgroups X S W)) p k l).trans e2
  exact congrArg₂ (fun s t : EReal => s * t) (congrArg₂ (fun s t : EReal => s * t) (hx l) e3) (hscales_at G p k l)

/-- The first result as the reference writes it. -/
def hrows (X : FVec Ideal S17408x4096 .bf16) (S : FVec Ideal S8x2x512 .f32) (W : FVec Ideal S3x512 .f32) (G : FVec Ideal S1x2048 .f32) : FVec Ideal S16384x512 .bf16 :=
  truncf .bf16 (shapeCast S16384x512 (hunits (hgroups X S W) G) shapeCasts_S16384x4x128_S16384x512) bitsLt_bf16_f32

theorem hrows_at (X : FVec Ideal S17408x4096 .bf16) (S : FVec Ideal S8x2x512 .f32) (W : FVec Ideal S3x512 .f32) (G : FVec Ideal S1x2048 .f32) (i : S16384x512.Idx) :
    hrows X S W G i = entry X S W G ((i 0).val / 2048) ((i 0).val % 2048) ((i 1).val / 128) ((i 1).val % 128) := by
  have h0 : (i 0).val < 16384 := (i 0).isLt
  have h1 : (i 1).val < 512 := (i 1).isLt
  refine (shapeCast_apply (hunits (hgroups X S W) G) shapeCasts_S16384x4x128_S16384x512 i (ix3 (i 0) ⟨(i 1).val / 128, by omega⟩ ⟨(i 1).val % 128, Nat.mod_lt _ (by decide)⟩) ?_).trans
    (hunits_at X S W G _ _ _)
  rw [Shape.rowMajor_val_three, Shape.rowMajor_val_two]
  show ((i 0).val * 4 + (i 1).val / 128) * 128 + (i 1).val % 128 = (i 0).val * 512 + (i 1).val
  omega

/-! ## The results -/

section Results
variable (m' : (ℓ : Loc nD τ sig) → Buf (Elt Ideal) ℓ) (c : Dev nD) (X : FVec Ideal S17408x4096 .bf16) (S : FVec Ideal S8x2x512 .f32) (W : FVec Ideal S3x512 .f32) (G : FVec Ideal S1x2048 .f32)
  (h0 : m' ((c.tc : Thread nD τ).loc main_arg0) = X) (h1 : m' ((c.tc : Thread nD τ).loc main_arg1) = S) (h2 : m' ((c.tc : Thread nD τ).loc main_arg2) = W)
  (h3 : m' ((c.tc : Thread nD τ).loc main_arg3) = G)

include h0 h1 h2 h3 in
theorem ref_rows (i : S16384x512.Idx) : Cert.Reference5Ideal.Value.res_main_v47 (F := Ideal) m' c i = entry X S W G ((i 0).val / 2048) ((i 0).val % 2048) ((i 1).val / 128) ((i 1).val % 128) := by
  subst h0 h1 h2 h3
  refine Eq.trans ?_ (hrows_at (m' ((c.tc : Thread nD τ).loc main_arg0)) (m' ((c.tc : Thread nD τ).loc main_arg1)) (m' ((c.tc : Thread nD τ).loc main_arg2)) (m' ((c.tc : Thread nD τ).loc main_arg3)) i)
  unfold Cert.Reference5Ideal.Value.res_main_v47
  rfl

end Results

/-- The second result: the last two rows of each sequence. -/
theorem ref_kept (X : FVec Ideal S17408x4096 .bf16) (S : FVec Ideal S8x2x512 .f32) (i : S8x2x512.Idx) :
    extractStridedSlice S8x2x512 ![0, 2048, 0] (hall X S) slices_S8x2050x512_S8x2x512_0_2048_0 i = prods X (i 0).val (2046 + (i 1).val) (i 2).val := by
  have h1 : (i 1).val < 2 := (i 1).isLt
  refine (extractStridedSlice_apply ![0, 2048, 0] (hall X S) slices_S8x2050x512_S8x2x512_0_2048_0 i (ix3 (i 0) ⟨2048 + (i 1).val, by omega⟩ (i 2)) fun a => ?_).trans
    ((hall_at X S (i 0) ⟨2048 + (i 1).val, by omega⟩ (i 2)).trans ?_)
  · match a with
    | ⟨0, _⟩ => exact (Nat.zero_add _).symm
    | ⟨1, _⟩ => rfl
    | ⟨2, _⟩ => exact (Nat.zero_add _).symm
  · unfold after
    rw [if_neg (by show ¬(2048 + (i 1).val < 2); omega)]
    show prods X (i 0).val (2048 + (i 1).val - 2) (i 2).val = _
    rw [show 2048 + (i 1).val - 2 = 2046 + (i 1).val by omega]

end Cert.Proof.Conv

end
-- ==== Proof.ExpBits.lean ====
module

public import proofs.«01_k».proof.Proof.Gen.Kernel2
public import proofs.«01_k».proof.Proof.Gen.Kernel2Ideal

/-! # The experts' two printed programs have the same bodies

The program over bit patterns and the one over the ideal numbers are one text; here their body tables are
matched, label by label, so that a run proved of the one is a run of the other. -/

@[expose] public section

noncomputable section
namespace Cert.Proof.Experts
open Idealize.ShloMosaic Idealize.SL.Sem
open Cert.Kernel2.Gen Cert.Kernel2Ideal.Gen

variable {F : FTy → Type} [FloatOps F]

/-- The one kernel function's body, at each grid point and stage. -/
theorem same_bodies : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | 0, (t, s) => exact rfl

/-- And the whole table, with the pipeline's own labels. -/
theorem same_defs : @Cert.Kernel2.defs F _ _ = @Cert.Kernel2Ideal.defs F _ _ :=
  congrArg (Pipeline.defs (Cert.Kernel2.pcfgs (F := F))) same_bodies

theorem same_main : @Cert.Kernel2.main F _ _ = @Cert.Kernel2Ideal.main F _ _ := rfl

end Cert.Proof.Experts
-- ==== Proof.ExpTables.lean ====
/-
  THE EXPERTS CALL'S TABLES. Table 0 names each row tile's expert, table 1 is the one word saying how many row tiles are used.
  Under the precondition (every expert below 8, between 1 and 76 used tiles) each window's block index as plain numbers, and
  the side condition of the pipeline: every block lies within its array.
-/
module

public import proofs.«01_k».proof.Proof.ExpBase

@[expose] public section

noncomputable section

namespace Cert.Proof.Experts

open Cert.Kernel2Ideal Cert.Kernel2Ideal.Gen
open Idealize.ShloMosaic

/-! ## Words as numbers -/

theorem slt_nat {x y : BitVec 32} (hx : x.toNat < 2 ^ 31) (hy : y.toNat < 2 ^ 31) : x.slt y = decide (x.toNat < y.toNat) := by
  unfold BitVec.slt
  rw [BitVec.toInt_eq_toNat_of_lt (by omega), BitVec.toInt_eq_toNat_of_lt (by omega)]
  simp

theorem ofNat_toNat {n : ℕ} (h : n < 2 ^ 32) : (BitVec.ofNat 32 n).toNat = n := by simp; omega

theorem cmpi_slt {x y : BitVec 32} (hx : x.toNat < 2 ^ 31) (hy : y.toNat < 2 ^ 31) : Scalar.cmpi .slt x y = BitVec.ofBool (decide (x.toNat < y.toNat)) :=
  congrArg BitVec.ofBool (slt_nat hx hy)

theorem ne_extui (b : Bool) : Scalar.cmpi .ne (Scalar.extui (BitVec.ofBool b)) 0#32 = BitVec.ofBool b := by cases b <;> rfl

theorem cmpi_eq_nat {x y : BitVec 32} : Scalar.cmpi .eq x y = BitVec.ofBool (decide (x.toNat = y.toNat)) := by
  refine congrArg BitVec.ofBool ?_
  rw [Bool.eq_iff_iff]; simp [BitVec.toNat_inj]

theorem minsi_nat {x y : BitVec 32} (hx : x.toNat < 2 ^ 31) (hy : y.toNat < 2 ^ 31) : (Scalar.minsi x y).toNat = min x.toNat y.toNat := by
  show (if x.slt y then x else y).toNat = _
  rw [slt_nat hx hy]
  by_cases h : x.toNat < y.toNat
  · simp [h]; omega
  · simp [h]; omega

theorem ofBool_eq_one (b : Bool) : BitVec.ofBool b = 1#1 ↔ b = true := by cases b <;> decide

/-! ## The tables -/

/-- The only index of the one-word table. -/
noncomputable abbrev z1 : S1.Idx := fun a => ⟨0, by fin_cases a; decide⟩
theorem idx1 (x : S1.Idx) : x = z1 := by
  funext a; refine Fin.ext ?_
  have : (x a).val < S1.size a := (x a).isLt
  have h : S1.size a = 1 := by fin_cases a; rfl
  show (x a).val = 0; omega

/-- The word of table 0 at row tile `j`. -/
noncomputable abbrev ix76 (j : ℕ) (h : j < 76) : S76.Idx := fun a => ⟨j, by fin_cases a; exact h⟩
theorem ext76 {x y : S76.Idx} (h : (x 0).val = (y 0).val) : x = y := by
  funext a; fin_cases a; exact Fin.ext h

/-- How many row tiles are used. -/
def na (T1 : S1.Idx → BitVec 32) : ℕ := (T1 z1).toNat

/-- The precondition in plain words: every tile's expert is one of eight, and between one and 76 row tiles are used. -/
structure Good (T0 : S76.Idx → BitVec 32) (T1 : S1.Idx → BitVec 32) : Prop where
  te : ∀ x, (T0 x).toNat < 8
  lo : 1 ≤ na T1
  hi : na T1 ≤ 76

variable {F : FTy → Type} [FloatOps F]
variable (T0 : S76.Idx → BitVec 32) (T1 : S1.Idx → BitVec 32)

/-- The expert of row tile `j`. -/
noncomputable def te (j : ℕ) : ℕ := if h : j < 76 then (T0 (ix76 j h)).toNat else 0
/-- The row block point `(j, f)` holds. -/
noncomputable def rowBlk (j : ℕ) : ℕ := min j (na T1 - 1)
/-- The hidden-column block point `(j, f)` holds. -/
noncomputable def colBlk (j f : ℕ) : ℕ := if j < na T1 then f else 10

/-- The tables as the pipeline takes them. -/
noncomputable def pf : pre0.Contents (Elt F)
  | ⟨0, _⟩ => T0
  | ⟨1, _⟩ => T1
  | ⟨_ + 2, h⟩ => absurd h (Nat.not_lt.2 (Nat.le_add_left _ _))

variable {T0 T1}

theorem lt0 (i : grid0.Coords) : (i 0).val < 76 := (i 0).isLt
theorem lt1 (i : grid0.Coords) : (i 1).val < 11 := (i 1).isLt

theorem cond1_iff (hg : Good T0 T1) (i : grid0.Coords) (v : BitVec 32) (hv : v = T1 z1) : k0_cond1 i v = 1#1 ↔ (i 0).val < na T1 := by
  have := lt0 i; have := hg.hi; have hn : (T1 z1).toNat = na T1 := rfl
  subst hv
  unfold k0_cond1
  show Scalar.cmpi .ne (Scalar.extui (Scalar.cmpi .slt (BitVec.ofNat 32 (i 0).val) (T1 z1))) 0#32 = 1#1 ↔ _
  rw [cmpi_slt (by rw [ofNat_toNat] <;> omega) (by omega), ne_extui, ofBool_eq_one, ofNat_toNat (by omega), hn]
  simp

theorem first_iff (i : grid0.Coords) : Scalar.cmpi .ne (Scalar.extui (Scalar.cmpi .eq (BitVec.ofNat 32 (i 1).val) 0#32)) 0#32 = 1#1 ↔ (i 1).val = 0 := by
  have := lt1 i
  rw [cmpi_eq_nat, ne_extui, ofBool_eq_one, ofNat_toNat (by omega)]
  simp

theorem cond3_iff (i : grid0.Coords) : k0_cond3 i = 1#1 ↔ (i 1).val = 10 := by
  have := lt1 i
  unfold k0_cond3
  show Scalar.cmpi .ne (Scalar.extui (Scalar.cmpi .eq (BitVec.ofNat 32 (i 1).val) 10#32)) 0#32 = 1#1 ↔ _
  rw [cmpi_eq_nat, ne_extui, ofBool_eq_one, ofNat_toNat (by omega)]
  simp

theorem word1 (r : Rect S1) (h : r.shape.numel = 1) : (pf (F := F) T0 T1).at 1 r h = T1 z1 := congrArg T1 (idx1 _)

theorem word0 (i : grid0.Coords) (h : (Rect.unit (s := S76) ![(BitVec.ofNat 32 (i 0).val).toNat] S1.size (k0_off1_inb i)).shape.numel = 1) :
    ((pf (F := F) T0 T1).at 0 (Rect.unit (s := S76) ![(BitVec.ofNat 32 (i 0).val).toNat] S1.size (k0_off1_inb i)) h).toNat = te T0 (i 0).val := by
  have h76 := lt0 i
  unfold te
  rw [dif_pos h76]
  refine congrArg (fun x : S76.Idx => (T0 x).toNat) (ext76 ?_)
  have e := ofNat_toNat (n := (i 0).val) (by omega)
  exact (show ∀ y, y < 1 → (BitVec.ofNat 32 (i 0).val).toNat + 1 * y = (i 0).val from fun y hy => by omega) _ (Shape.Idx.first (h.symm ▸ Nat.one_pos) (0 : Fin 1)).isLt

theorem tr0 (hg : Good T0 T1) (i : grid0.Coords) : cc0_transform_0 inb_S1_S1_0 numel1_S1 (pf (F := F) T0 T1) i = ![rowBlk T1 (i 0).val, 0] := by
  have h0 := lt0 i; have h1 := hg.lo; have h2 := hg.hi; have hn : (T1 z1).toNat = na T1 := rfl
  have e : (Scalar.minsi (BitVec.ofNat 32 (i 0).val) (Scalar.subi (T1 z1) 1#32)).toNat = rowBlk T1 (i 0).val := by
    have hs : (Scalar.subi (T1 z1) 1#32).toNat = na T1 - 1 := by
      show (T1 z1 - 1#32).toNat = _
      rw [BitVec.toNat_sub]; simp only [BitVec.toNat_ofNat]; omega
    rw [minsi_nat (by rw [ofNat_toNat] <;> omega) (by omega), hs, ofNat_toNat (by omega)]; rfl
  refine (congrArg (fun v : BitVec 32 => (![(Scalar.minsi (BitVec.ofNat 32 (i 0).val) (Scalar.subi v 1#32)).toNat, (0#32).toNat] : Fin 2 → ℕ))
    (word1 (F := F) (T0 := T0) (T1 := T1) (Rect.unit (s := S1) ![0] S1.size inb_S1_S1_0) numel1_S1)).trans ?_
  show ![(Scalar.minsi (BitVec.ofNat 32 (i 0).val) (Scalar.subi (T1 z1) 1#32)).toNat, 0] = _
  rw [e]

theorem tr4 (hg : Good T0 T1) (i : grid0.Coords) : cc0_transform_4 inb_S1_S1_0 numel1_S1 (pf (F := F) T0 T1) i = ![rowBlk T1 (i 0).val, 0] := tr0 hg i

theorem col_word (hg : Good T0 T1) (i : grid0.Coords) :
    (Scalar.select (Scalar.cmpi .slt (BitVec.ofNat 32 (i 0).val) (T1 z1)) (BitVec.ofNat 32 (i 1).val) 10#32).toNat = colBlk T1 (i 0).val (i 1).val := by
  have h0 := lt0 i; have h1 := hg.lo; have h2 := hg.hi; have h3 := lt1 i; have hn : (T1 z1).toNat = na T1 := rfl
  rw [cmpi_slt (by rw [ofNat_toNat] <;> omega) (by omega), ofNat_toNat (by omega), hn]
  unfold colBlk
  by_cases h : (i 0).val < na T1
  · rw [if_pos h]; simp only [h, decide_true]; exact ofNat_toNat (by omega)
  · rw [if_neg h]; simp only [h, decide_false]; rfl

theorem tr1 (hg : Good T0 T1) (i : grid0.Coords) : cc0_transform_1 k0_off1_inb numel1_S1 inb_S1_S1_0 (pf (F := F) T0 T1) i = ![te T0 (i 0).val, 0, colBlk T1 (i 0).val (i 1).val] := by
  have e0 := word0 (F := F) (T0 := T0) (T1 := T1) i numel1_S1
  have e1 := col_word hg i
  refine (congrArg (fun v : BitVec 32 => (fun x : BitVec 32 => (![x.toNat, (0#32).toNat, (Scalar.select (Scalar.cmpi .slt (BitVec.ofNat 32 (i 0).val) v) (BitVec.ofNat 32 (i 1).val) 10#32).toNat] : Fin 3 → ℕ))
      ((pf (F := F) T0 T1).at 0 (Rect.unit (s := S76) ![(BitVec.ofNat 32 (i 0).val).toNat] S1.size (k0_off1_inb i)) numel1_S1))
    (word1 (F := F) (T0 := T0) (T1 := T1) (Rect.unit (s := S1) ![0] S1.size inb_S1_S1_0) numel1_S1)).trans ?_
  rw [← e0, ← e1]
  rfl

theorem tr2 (hg : Good T0 T1) (i : grid0.Coords) : cc0_transform_2 k0_off1_inb numel1_S1 inb_S1_S1_0 (pf (F := F) T0 T1) i = ![te T0 (i 0).val, 0, colBlk T1 (i 0).val (i 1).val] := tr1 hg i

theorem tr3 (hg : Good T0 T1) (i : grid0.Coords) : cc0_transform_3 k0_off1_inb numel1_S1 inb_S1_S1_0 (pf (F := F) T0 T1) i = ![te T0 (i 0).val, colBlk T1 (i 0).val (i 1).val, 0] := by
  have e0 := word0 (F := F) (T0 := T0) (T1 := T1) i numel1_S1
  have e1 := col_word hg i
  refine (congrArg (fun v : BitVec 32 => (fun x : BitVec 32 => (![x.toNat, (Scalar.select (Scalar.cmpi .slt (BitVec.ofNat 32 (i 0).val) v) (BitVec.ofNat 32 (i 1).val) 10#32).toNat, (0#32).toNat] : Fin 3 → ℕ))
      ((pf (F := F) T0 T1).at 0 (Rect.unit (s := S76) ![(BitVec.ofNat 32 (i 0).val).toNat] S1.size (k0_off1_inb i)) numel1_S1))
    (word1 (F := F) (T0 := T0) (T1 := T1) (Rect.unit (s := S1) ![0] S1.size inb_S1_S1_0) numel1_S1)).trans ?_
  rw [← e0, ← e1]
  rfl

theorem te_lt (hg : Good T0 T1) (j : ℕ) : te T0 j < 8 := by
  unfold te; split
  · exact hg.te _
  · omega

theorem rowBlk_lt (hg : Good T0 T1) (j : ℕ) : rowBlk T1 j < 76 := by
  have h1 := hg.lo; have h2 := hg.hi
  unfold rowBlk; omega

theorem colBlk_lt (i : grid0.Coords) : colBlk T1 (i 0).val (i 1).val < 11 := by
  have := lt1 i
  unfold colBlk; split <;> omega

/-- Every block lies within its array. -/
theorem ok (hg : Good T0 T1) : ok0 (pf (F := F) T0 T1) := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S38912x2048) (p := EltTy.packing .bf16) (by decide) (by decide))⟩⟩
  · rw [tr0 hg]
    have := rowBlk_lt hg (i 0).val
    fin_cases a
    · show (rowBlk T1 (i 0).val + 1) * 512 ≤ 38912; omega
    · show (0 + 1) * 1024 ≤ 1024; omega
  · rw [tr1 hg]
    have := te_lt hg (i 0).val; have := colBlk_lt (T1 := T1) i
    fin_cases a
    · show (te T0 (i 0).val + 1) * 1 ≤ 8; omega
    · show (0 + 1) * 1024 ≤ 1024; omega
    · show (colBlk T1 (i 0).val (i 1).val + 1) * 512 ≤ 5632; omega
  · rw [tr2 hg]
    have := te_lt hg (i 0).val; have := colBlk_lt (T1 := T1) i
    fin_cases a
    · show (te T0 (i 0).val + 1) * 1 ≤ 8; omega
    · show (0 + 1) * 1024 ≤ 1024; omega
    · show (colBlk T1 (i 0).val (i 1).val + 1) * 512 ≤ 5632; omega
  · rw [tr3 hg]
    have := te_lt hg (i 0).val; have := colBlk_lt (T1 := T1) i
    fin_cases a
    · show (te T0 (i 0).val + 1) * 1 ≤ 8; omega
    · show (colBlk T1 (i 0).val (i 1).val + 1) * 256 ≤ 2816; omega
    · show (0 + 1) * 2048 ≤ 2048; omega
  · rw [tr4 hg]
    have := rowBlk_lt hg (i 0).val
    fin_cases a
    · show (rowBlk T1 (i 0).val + 1) * 512 ≤ 38912; omega
    · show (0 + 1) * 2048 ≤ 2048; omega

/-- The tables as admissible contents of the pipeline. -/
noncomputable abbrev adm (hg : Good T0 T1) : (pcfg0 (F := F)).Adm := ⟨pf T0 T1, ok hg⟩
noncomputable abbrev cfgE (hg : Good T0 T1) : Pipeline.Cfg sig Λ₀ := cfg0 (F := F) (adm hg)

/-! ## The schedule -/

variable (hg : Good T0 T1)

theorem N_E : (cfgE (F := F) hg).N = 836 := N_0

theorem crd0 (t : Fin (cfgE (F := F) hg).N) : ((cfgE (F := F) hg).grid.coords t 0).val = t.val / 11 := by
  have h : t.val < 836 := lt_of_lt_of_eq t.isLt (N_E hg)
  rw [Pipeline.Grid.coords_val (S := 11) (B := 76) t 0 (show grid0.stride 0 = 11 by decide) rfl]
  omega
theorem crd1 (t : Fin (cfgE (F := F) hg).N) : ((cfgE (F := F) hg).grid.coords t 1).val = t.val % 11 := by
  rw [Pipeline.Grid.coords_val (S := 1) (B := 11) t 1 (show grid0.stride 1 = 1 by decide) rfl, Nat.div_one]

theorem idle4 (t : Fin (cfgE (F := F) hg).N) :
    (cfgE (F := F) hg).idle (4 : Fin 5) ((cfgE (F := F) hg).grid.coords t) = !(decide (t.val / 11 < na T1) && decide (t.val % 11 = 10)) := by
  have e : (cfgE (F := F) hg).idle (4 : Fin 5) ((cfgE (F := F) hg).grid.coords t)
      = !(k0_cond1 ((cfgE (F := F) hg).grid.coords t) ((pf (F := F) T0 T1).atD 1 ![0]) == 1#1 && k0_cond3 ((cfgE (F := F) hg).grid.coords t) == 1#1) := rfl
  have hw : (pf (F := F) T0 T1).atD 1 ![0] = T1 z1 := by
    show (if h : _ then _ else _) = _
    rw [dif_pos (by decide)]
    exact congrArg T1 (idx1 _)
  rw [e, hw, ← crd0 hg t, ← crd1 hg t]
  congr 2
  · rw [Bool.eq_iff_iff, beq_iff_eq, decide_eq_true_eq]; exact cond1_iff hg _ _ rfl
  · rw [Bool.eq_iff_iff, beq_iff_eq, decide_eq_true_eq]; exact cond3_iff _

theorem index4 (t : Fin (cfgE (F := F) hg).N) : ((cfgE (F := F) hg).win (4 : Fin 5)).index t = ![rowBlk T1 (t.val / 11), 0] := by
  rw [← crd0 hg t]; exact tr4 hg _

/-- The output's block is written back after the last point of every used row tile but the last, and at the end. -/
theorem flush4 (t : Fin (cfgE (F := F) hg).N) :
    ((cfgE (F := F) hg).win (4 : Fin 5)).flush t = (decide (t.val = 835) || (decide (t.val % 11 = 10) && decide (t.val / 11 + 1 < na T1))) := by
  have hN := N_E (F := F) hg
  have ht : t.val < 836 := lt_of_lt_of_eq t.isLt (N_E hg)
  have h1 := hg.lo; have h2 := hg.hi
  show (true && (decide (t.val + 1 = (cfgE (F := F) hg).N) || decide (∃ h : t.val + 1 < (cfgE (F := F) hg).N, ((cfgE (F := F) hg).win (4 : Fin 5)).index ⟨t.val + 1, h⟩ ≠ ((cfgE (F := F) hg).win (4 : Fin 5)).index t))) = _
  rw [Bool.eq_iff_iff]
  simp only [Bool.true_and, Bool.or_eq_true, decide_eq_true_eq, Bool.and_eq_true]
  simp only [hN]
  constructor
  · rintro (h | ⟨h, hne⟩)
    · left; omega
    · right
      by_contra hc
      apply hne
      have : rowBlk T1 ((t.val + 1) / 11) = rowBlk T1 (t.val / 11) := by unfold rowBlk; omega
      rw [index4, this, ← index4]
  · rintro (h | ⟨ha, hb⟩)
    · left; omega
    · right
      refine ⟨by omega, fun he => ?_⟩
      rw [index4, index4] at he
      have e0 : rowBlk T1 ((t.val + 1) / 11) = rowBlk T1 (t.val / 11) := congrFun he 0
      unfold rowBlk at e0
      omega

/-- When nothing has been stored into the output's block since it was last written back. -/
theorem fresh4 (n : ℕ) (h : n ≤ 836) : (cfgE (F := F) hg).fresh (4 : Fin 5) n = (decide (n = 836) || decide (n < 11 * na T1)) := by
  have h1 := hg.lo; have h2 := hg.hi
  refine Pipeline.Cfg.fresh_tab (cfgE (F := F) hg) (4 : Fin 5) (fun n => decide (n = 836) || decide (n < 11 * na T1)) ?_ ?_ n (by rw [N_E]; exact h)
  · simp; omega
  · intro t
    have ht : t.val < 836 := lt_of_lt_of_eq t.isLt (N_E hg)
    rw [flush4, idle4, Bool.eq_iff_iff]
    simp only [Bool.or_eq_true, Bool.and_eq_true, decide_eq_true_eq, Bool.not_eq_true', Bool.and_eq_false_iff, decide_eq_false_iff_not]
    omega

end Cert.Proof.Experts
-- ==== Proof.ExpBody.lean ====
/-
  ONE POINT OF THE EXPERTS CALL. The body run along each of its four paths: the first point of a used row tile (unpack, clear,
  add), a middle point (add), the last point (add, round, write out), and a point of an unused row tile (nothing).
-/
module

public import proofs.«01_k».proof.Proof.ExpBase

@[expose] public section

set_option maxRecDepth 16384
set_option Elab.async false

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether a point is the first of its row tile, as the kernel asks it. -/
abbrev firstCol (i : grid0.Coords) : BitVec 1 := Scalar.cmpi .ne (Scalar.extui (Scalar.cmpi .eq (BitVec.ofNat 32 (i 1).val) 0#32)) 0#32

/-- A load of a whole staging buffer's own sizes reads what the buffer holds. -/
theorem rd {sp : Space} {s : Shape} {e : EltTy} {M : Memref sig .tc sp s e} (h : M.IsWhole) (X : s.Idx → Elt F e) {off : Fin s.rank → ℕ} (inb : ∀ a, off a + s.size a ≤ s.size a) :
    M.view.readAt (Elt F) (Rect.unit off s.size inb).toLoadRect (h.unread X) = X := by
  rw [View.readAt_full]; exact h.read_unread X

/-- The two stores of the unpacking, read back. -/
theorem unpack_pieces (v : View sig .tc .vmem S512x2048 .bf16) (f : v.ty.Contents (Elt F)) (x : S512x1024.Idx → Elt F .i32) :
    v.read (Elt F) (v.writes (Elt F) f [⟨Rect.unit ![0, 1024] S512x1024.size inb_S512x2048_S512x1024_0_1024, k0_pay3 x⟩,
      ⟨Rect.unit ![0, 0] S512x1024.size inb_S512x2048_S512x1024_0_0, k0_pay2 x⟩]) = unpacked x := by
  funext p
  have hp : (p 1).val < 2048 := (p 1).isLt
  have hp0 : (p 0).val < 512 := (p 0).isLt
  unfold unpacked
  by_cases h : (p 1).val < 1024
  · rw [dif_pos h, View.read_writes_cons_unit_of_not_mem v f _ _ _ p rfl 1 (by left; exact h)]
    exact View.read_writes_cons_unit_of_mem v f _ _ _ p _ rfl (fun a => by
      fin_cases a
      · show (p 0).val = 0 + (p 0).val; omega
      · show (p 1).val = 0 + (p 1).val; omega)
  · rw [dif_neg h]
    exact View.read_writes_cons_unit_of_mem v f _ _ _ p _ rfl (fun a => by
      fin_cases a
      · show (p 0).val = 0 + (p 0).val; omega
      · show (p 1).val = 1024 + ((p 1).val - 1024); omega)

theorem pay5_congr {a a' : Vec F S512x2048 .bf16} {b b' d d' : Vec F S1x1024x512 .i32} {e e' : Vec F S512x2048 .f32} {g g' : Vec F S1x256x2048 .i32}
    (ha : a = a') (hb : b = b') (hd : d = d') (he : e = e') (hg : g = g') : k0_pay5 a b d e g = k0_pay5 a' b' d' e' g' := by
  subst ha hb hd he hg; rfl

section
variable (c : Dev nD) (i : grid0.Coords) (arg4 : Memref sig .tc .vmem S512x1024 .i32) (harg4 : arg4.IsWhole) (arg5 : Memref sig .tc .vmem S1x1024x512 .i32) (harg5 : arg5.IsWhole)
  (arg6 : Memref sig .tc .vmem S1x1024x512 .i32) (harg6 : arg6.IsWhole) (arg7 : Memref sig .tc .vmem S1x256x2048 .i32) (harg7 : arg7.IsWhole) (arg8 : Memref sig .tc .vmem S512x2048 .bf16) (harg8 : arg8.IsWhole)
  (T0 : S76.Idx → Elt F .i32) (T1 : S1.Idx → Elt F .i32)
  (x : S512x1024.Idx → Elt F .i32) (wg wu : S1x1024x512.Idx → Elt F .i32) (wd : S1x256x2048.Idx → Elt F .i32)

/-- What a point holds: its blocks, the two tables, its output block and the scratch buffers. -/
def holds (o : S512x2048.Idx → F .bf16) (xb : S512x2048.Idx → F .bf16) (ac : S512x2048.Idx → F .f32) : sProp 𝕄 :=
  iprop(owns (c : Thread nD τ) arg4 fullShare x ∗ owns (c : Thread nD τ) arg5 fullShare wg ∗ owns (c : Thread nD τ) arg6 fullShare wu ∗ owns (c : Thread nD τ) arg7 fullShare wd
    ∗ ((teM).view.loc (c : Thread nD τ) ↦{fullShare.right} T0) ∗ ((naM).view.loc (c : Thread nD τ) ↦{fullShare.right} T1)
    ∗ owns (c : Thread nD τ) arg8 fullShare o ∗ owns (c : Thread nD τ) xbM fullShare xb ∗ owns (c : Thread nD τ) acM fullShare ac)

set_option maxHeartbeats 8000000 in
/-- The first point of a used row tile unpacks the rows, clears the sum and adds its columns' share. -/
theorem run_first (h1 : k0_cond1 i (View.readAt (Elt F) (naM).view (Rect.unit (s := S1) ![0] S1.size inb_S1_S1_0).toLoadRect T1 (Shape.Idx.first (numel1_S1.symm ▸ Nat.one_pos))) = 1#1) (h2 : firstCol i = 1#1) (h3 : ¬k0_cond3 i = 1#1)
    (o xb : S512x2048.Idx → F .bf16) (ac : S512x2048.Idx → F .f32) (K : PUnit → sProp 𝕄) :
    iprop(holds c arg4 arg5 arg6 arg7 arg8 T0 T1 x wg wu wd o xb ac ∗ (holds c arg4 arg5 arg6 arg7 arg8 T0 T1 x wg wu wd o (unpacked x) (k0_pay5 (unpacked x) wg wu (k0_pay4 (F := F)) wd) -∗ K ⟨⟩))
      ⊢ wp frame (wpE (defs₀ (F := F)) Variants.none c none) Set.univ (cc0_moe_experts i teM (Memref.isWhole_whole _) naM (Memref.isWhole_whole _) arg4 harg4 arg5 harg5 arg6 harg6 arg7 harg7 arg8 harg8 xbM (Memref.isWhole_whole _) acM (Memref.isWhole_whole _)) K := by
  unfold holds owns
  rw [cc0_moe_experts_eq_skeleton]; unfold cc0_moe_experts_skel
  iintro ⟨⟨⟨%f0, %hf0, H0⟩, ⟨%f1, %hf1, H1⟩, ⟨%f2, %hf2, H2⟩, ⟨%f3, %hf3, H3⟩, HT0, HT1, ⟨%f4, %hf4, H4⟩, ⟨%f5, %hf5, H5⟩, ⟨%f6, %hf6, H6⟩⟩, Hk⟩
  have hS0 : (xbM).IsWhole := Memref.isWhole_whole _
  have hS1 : (acM).IsWhole := Memref.isWhole_whole _
  have hT0 : (teM).IsWhole := Memref.isWhole_whole _
  have hT1 : (naM).IsWhole := Memref.isWhole_whole _
  obtain rfl := harg4.eq_unread hf0
  obtain rfl := harg5.eq_unread hf1
  obtain rfl := harg6.eq_unread hf2
  obtain rfl := harg7.eq_unread hf3
  obtain rfl := harg8.eq_unread hf4
  obtain rfl := hS0.eq_unread hf5
  obtain rfl := hS1.eq_unread hf6
  sl_exec! (disch := first | (guard_target = k0_cond1 _ _ = _; exact h1) | (guard_target = Scalar.cmpi = _; exact h2) | (guard_target = ¬(k0_cond3 _ = _); exact h3))
  sl_step
  iapply Hk
  isplitl [H0]
  · iexists _; isplitr; swap
    · iexact H0
    · ipureintro; exact harg4.read_unread _
  isplitl [H1]
  · iexists _; isplitr; swap
    · iexact H1
    · ipureintro; exact harg5.read_unread _
  isplitl [H2]
  · iexists _; isplitr; swap
    · iexact H2
    · ipureintro; exact harg6.read_unread _
  isplitl [H3]
  · iexists _; isplitr; swap
    · iexact H3
    · ipureintro; exact harg7.read_unread _
  isplitl [HT0]; · iexact HT0
  isplitl [HT1]; · iexact HT1
  isplitl [H4]
  · iexists _; isplitr; swap
    · iexact H4
    · ipureintro; exact harg8.read_unread _
  isplitl [H5]
  · iexists _; isplitr; swap
    · iexact H5
    · ipureintro; unfold run_first.sl.H5_2; rw [rd harg4]; exact unpack_pieces _ _ _
  iexists _; isplitr; swap
  · iexact H6
  · ipureintro; unfold run_first.sl.H6_2; rw [View.read_writes_full]
    refine pay5_congr ?_ (rd harg5 _ _) (rd harg6 _ _) ?_ (rd harg7 _ _)
    · unfold run_first.sl.v7; refine (View.readAt_full _ _ _).trans ?_
      unfold run_first.sl.H5_2; rw [rd harg4]; exact unpack_pieces _ _ _
    · unfold run_first.sl.v25 run_first.sl.H6_1; exact View.readCov_full _ _ _ _ _

set_option maxHeartbeats 8000000 in
/-- A middle point adds its columns' share. -/
theorem run_middle (h1 : k0_cond1 i (View.readAt (Elt F) (naM).view (Rect.unit (s := S1) ![0] S1.size inb_S1_S1_0).toLoadRect T1 (Shape.Idx.first (numel1_S1.symm ▸ Nat.one_pos))) = 1#1) (h2 : ¬firstCol i = 1#1) (h3 : ¬k0_cond3 i = 1#1)
    (o xb : S512x2048.Idx → F .bf16) (ac : S512x2048.Idx → F .f32) (K : PUnit → sProp 𝕄) :
    iprop(holds c arg4 arg5 arg6 arg7 arg8 T0 T1 x wg wu wd o xb ac ∗ (holds c arg4 arg5 arg6 arg7 arg8 T0 T1 x wg wu wd o xb (k0_pay5 xb wg wu ac wd) -∗ K ⟨⟩))
      ⊢ wp frame (wpE (defs₀ (F := F)) Variants.none c none) Set.univ (cc0_moe_experts i teM (Memref.isWhole_whole _) naM (Memref.isWhole_whole _) arg4 harg4 arg5 harg5 arg6 harg6 arg7 harg7 arg8 harg8 xbM (Memref.isWhole_whole _) acM (Memref.isWhole_whole _)) K := by
  unfold holds owns
  rw [cc0_moe_experts_eq_skeleton]; unfold cc0_moe_experts_skel
  iintro ⟨⟨⟨%f0, %hf0, H0⟩, ⟨%f1, %hf1, H1⟩, ⟨%f2, %hf2, H2⟩, ⟨%f3, %hf3, H3⟩, HT0, HT1, ⟨%f4, %hf4, H4⟩, ⟨%f5, %hf5, H5⟩, ⟨%f6, %hf6, H6⟩⟩, Hk⟩
  have hS0 : (xbM).IsWhole := Memref.isWhole_whole _
  have hS1 : (acM).IsWhole := Memref.isWhole_whole _
  have hT0 : (teM).IsWhole := Memref.isWhole_whole _
  have hT1 : (naM).IsWhole := Memref.isWhole_whole _
  obtain rfl := harg4.eq_unread hf0
  obtain rfl := harg5.eq_unread hf1
  obtain rfl := harg6.eq_unread hf2
  obtain rfl := harg7.eq_unread hf3
  obtain rfl := harg8.eq_unread hf4
  obtain rfl := hS0.eq_unread hf5
  obtain rfl := hS1.eq_unread hf6
  sl_exec! (disch := first | (guard_target = k0_cond1 _ _ = _; exact h1) | (guard_target = ¬(Scalar.cmpi = _); exact h2) | (guard_target = ¬(k0_cond3 _ = _); exact h3))
  sl_step
  iapply Hk
  isplitl [H0]
  · iexists _; isplitr; swap
    · iexact H0
    · ipureintro; exact harg4.read_unread _
  isplitl [H1]
  · iexists _; isplitr; swap
    · iexact H1
    · ipureintro; exact harg5.read_unread _
  isplitl [H2]
  · iexists _; isplitr; swap
    · iexact H2
    · ipureintro; exact harg6.read_unread _
  isplitl [H3]
  · iexists _; isplitr; swap
    · iexact H3
    · ipureintro; exact harg7.read_unread _
  isplitl [HT0]; · iexact HT0
  isplitl [HT1]; · iexact HT1
  isplitl [H4]
  · iexists _; isplitr; swap
    · iexact H4
    · ipureintro; exact harg8.read_unread _
  isplitl [H5]
  · iexists _; isplitr; swap
    · iexact H5
    · ipureintro; exact hS0.read_unread _
  iexists _; isplitr; swap
  · iexact H6
  · ipureintro; unfold run_middle.sl.H6_1; rw [View.read_writes_full]; exact pay5_congr (rd hS0 _ _) (rd harg5 _ _) (rd harg6 _ _) (rd hS1 _ _) (rd harg7 _ _)

set_option maxHeartbeats 8000000 in
/-- The last point of a used row tile adds its columns' share and writes the rounded sum out. -/
theorem run_last (h1 : k0_cond1 i (View.readAt (Elt F) (naM).view (Rect.unit (s := S1) ![0] S1.size inb_S1_S1_0).toLoadRect T1 (Shape.Idx.first (numel1_S1.symm ▸ Nat.one_pos))) = 1#1) (h2 : ¬firstCol i = 1#1) (h3 : k0_cond3 i = 1#1)
    (o xb : S512x2048.Idx → F .bf16) (ac : S512x2048.Idx → F .f32) (K : PUnit → sProp 𝕄) :
    iprop(holds c arg4 arg5 arg6 arg7 arg8 T0 T1 x wg wu wd o xb ac ∗ (holds c arg4 arg5 arg6 arg7 arg8 T0 T1 x wg wu wd (k0_pay1 (k0_pay5 xb wg wu ac wd)) xb (k0_pay5 xb wg wu ac wd) -∗ K ⟨⟩))
      ⊢ wp frame (wpE (defs₀ (F := F)) Variants.none c none) Set.univ (cc0_moe_experts i teM (Memref.isWhole_whole _) naM (Memref.isWhole_whole _) arg4 harg4 arg5 harg5 arg6 harg6 arg7 harg7 arg8 harg8 xbM (Memref.isWhole_whole _) acM (Memref.isWhole_whole _)) K := by
  unfold holds owns
  rw [cc0_moe_experts_eq_skeleton]; unfold cc0_moe_experts_skel
  iintro ⟨⟨⟨%f0, %hf0, H0⟩, ⟨%f1, %hf1, H1⟩, ⟨%f2, %hf2, H2⟩, ⟨%f3, %hf3, H3⟩, HT0, HT1, ⟨%f4, %hf4, H4⟩, ⟨%f5, %hf5, H5⟩, ⟨%f6, %hf6, H6⟩⟩, Hk⟩
  have hS0 : (xbM).IsWhole := Memref.isWhole_whole _
  have hS1 : (acM).IsWhole := Memref.isWhole_whole _
  have hT0 : (teM).IsWhole := Memref.isWhole_whole _
  have hT1 : (naM).IsWhole := Memref.isWhole_whole _
  obtain rfl := harg4.eq_unread hf0
  obtain rfl := harg5.eq_unread hf1
  obtain rfl := harg6.eq_unread hf2
  obtain rfl := harg7.eq_unread hf3
  obtain rfl := harg8.eq_unread hf4
  obtain rfl := hS0.eq_unread hf5
  obtain rfl := hS1.eq_unread hf6
  sl_exec! (disch := first | (guard_target = k0_cond1 _ _ = _; exact h1) | (guard_target = ¬(Scalar.cmpi = _); exact h2) | (guard_target = k0_cond3 _ = _; exact h3))
  sl_step
  iapply Hk
  isplitl [H0]
  · iexists _; isplitr; swap
    · iexact H0
    · ipureintro; exact harg4.read_unread _
  isplitl [H1]
  · iexists _; isplitr; swap
    · iexact H1
    · ipureintro; exact harg5.read_unread _
  isplitl [H2]
  · iexists _; isplitr; swap
    · iexact H2
    · ipureintro; exact harg6.read_unread _
  isplitl [H3]
  · iexists _; isplitr; swap
    · iexact H3
    · ipureintro; exact harg7.read_unread _
  isplitl [HT0]; · iexact HT0
  isplitl [HT1]; · iexact HT1
  isplitl [H4]
  · iexists _; isplitr; swap
    · iexact H4
    · ipureintro; unfold run_last.sl.H4_1; rw [View.read_writes_full]; refine congrArg k0_pay1 ?_; unfold run_last.sl.v38 run_last.sl.H6_1; rw [View.readCov_full]; exact pay5_congr (rd hS0 _ _) (rd harg5 _ _) (rd harg6 _ _) (rd hS1 _ _) (rd harg7 _ _)
  isplitl [H5]
  · iexists _; isplitr; swap
    · iexact H5
    · ipureintro; exact hS0.read_unread _
  iexists _; isplitr; swap
  · iexact H6
  · ipureintro; unfold run_last.sl.H6_1; rw [View.read_writes_full]; exact pay5_congr (rd hS0 _ _) (rd harg5 _ _) (rd harg6 _ _) (rd hS1 _ _) (rd harg7 _ _)

set_option maxHeartbeats 8000000 in
/-- A point of an unused row tile does nothing. -/
theorem run_unused (h1 : ¬k0_cond1 i (View.readAt (Elt F) (naM).view (Rect.unit (s := S1) ![0] S1.size inb_S1_S1_0).toLoadRect T1 (Shape.Idx.first (numel1_S1.symm ▸ Nat.one_pos))) = 1#1)
    (o xb : S512x2048.Idx → F .bf16) (ac : S512x2048.Idx → F .f32) (K : PUnit → sProp 𝕄) :
    iprop(holds c arg4 arg5 arg6 arg7 arg8 T0 T1 x wg wu wd o xb ac ∗ (holds c arg4 arg5 arg6 arg7 arg8 T0 T1 x wg wu wd o xb ac -∗ K ⟨⟩))
      ⊢ wp frame (wpE (defs₀ (F := F)) Variants.none c none) Set.univ (cc0_moe_experts i teM (Memref.isWhole_whole _) naM (Memref.isWhole_whole _) arg4 harg4 arg5 harg5 arg6 harg6 arg7 harg7 arg8 harg8 xbM (Memref.isWhole_whole _) acM (Memref.isWhole_whole _)) K := by
  unfold holds owns
  rw [cc0_moe_experts_eq_skeleton]; unfold cc0_moe_experts_skel
  iintro ⟨⟨⟨%f0, %hf0, H0⟩, ⟨%f1, %hf1, H1⟩, ⟨%f2, %hf2, H2⟩, ⟨%f3, %hf3, H3⟩, HT0, HT1, ⟨%f4, %hf4, H4⟩, ⟨%f5, %hf5, H5⟩, ⟨%f6, %hf6, H6⟩⟩, Hk⟩
  have hS0 : (xbM).IsWhole := Memref.isWhole_whole _
  have hS1 : (acM).IsWhole := Memref.isWhole_whole _
  have hT0 : (teM).IsWhole := Memref.isWhole_whole _
  have hT1 : (naM).IsWhole := Memref.isWhole_whole _
  obtain rfl := harg4.eq_unread hf0
  obtain rfl := harg5.eq_unread hf1
  obtain rfl := harg6.eq_unread hf2
  obtain rfl := harg7.eq_unread hf3
  obtain rfl := harg8.eq_unread hf4
  obtain rfl := hS0.eq_unread hf5
  obtain rfl := hS1.eq_unread hf6
  sl_exec! (disch := first | (guard_target = ¬(k0_cond1 _ _ = _); exact h1))
  sl_step
  iapply Hk
  isplitl [H0]
  · iexists _; isplitr; swap
    · iexact H0
    · ipureintro; exact harg4.read_unread _
  isplitl [H1]
  · iexists _; isplitr; swap
    · iexact H1
    · ipureintro; exact harg5.read_unread _
  isplitl [H2]
  · iexists _; isplitr; swap
    · iexact H2
    · ipureintro; exact harg6.read_unread _
  isplitl [H3]
  · iexists _; isplitr; swap
    · iexact H3
    · ipureintro; exact harg7.read_unread _
  isplitl [HT0]; · iexact HT0
  isplitl [HT1]; · iexact HT1
  isplitl [H4]
  · iexists _; isplitr; swap
    · iexact H4
    · ipureintro; exact harg8.read_unread _
  isplitl [H5]
  · iexists _; isplitr; swap
    · iexact H5
    · ipureintro; exact hS0.read_unread _
  iexists _; isplitr; swap
  · iexact H6
  · ipureintro; exact hS1.read_unread _

end

end Cert.Proof.Experts
-- ==== Proof.ExpRun.lean ====
/-
  THE EXPERTS CALL'S RUN. What the scratch buffers and the output's block hold point by point, the obligation of the
  body at every point by its path, the launch, and what every final state holds: every argument as it was, every counter at
  zero, the output's rows of every used tile at the finished sums.
-/
module

public import proofs.«01_k».proof.Proof.ExpTables
public import proofs.«01_k».proof.Proof.ExpBody

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

noncomputable abbrev EP : Emb (UR sig nD τ) 𝕄 := emb₁

/-- The two tables as the launch memory holds them. -/
noncomputable abbrev tab0 (m : (ℓ : Loc nD τ sig) → Buf (Elt F) ℓ) : S76.Idx → BitVec 32 := m (((0 : Dev nD) : Thread nD τ).loc main_arg0)
noncomputable abbrev tab1 (m : (ℓ : Loc nD τ sig) → Buf (Elt F) ℓ) : S1.Idx → BitVec 32 := m (((0 : Dev nD) : Thread nD τ).loc main_arg1)

variable (m : (ℓ : Loc nD τ sig) → Buf (Elt F) ℓ) (ρ : Dev nD → PrngReg) (hg : Good (tab0 m) (tab1 m))

noncomputable abbrev cf : Cfg sig Λ₀ := cfgE (F := F) hg
noncomputable abbrev crd (t : Fin (cf m hg).N) : grid0.Coords := (cf m hg).grid.coords t

/-- The block of input `w` at point `t`. -/
noncomputable def blk (c : Dev nD) (w : Fin 5) (t : Fin (cf m hg).N) : (((cf m hg).win w).xblock (crd m hg t)).Idx → Elt F ((cf m hg).win w).elt :=
  (((cf m hg).win w).blk t).view.read (Elt F) (m (((cf m hg).win w).arr.view.loc (c : Thread nD τ)))

/-- The scratch buffers after the first point of a row tile. -/
noncomputable def first (c : Dev nD) (t : Fin (cf m hg).N) : (S512x2048.Idx → F .bf16) × (S512x2048.Idx → F .f32) :=
  (unpacked (blk m hg c 0 t), k0_pay5 (unpacked (blk m hg c 0 t)) (blk m hg c 1 t) (blk m hg c 2 t) (k0_pay4 (F := F)) (blk m hg c 3 t))

/-- The scratch buffers after another point, from those before it. -/
noncomputable def next (c : Dev nD) (t : Fin (cf m hg).N) (p : (S512x2048.Idx → F .bf16) × (S512x2048.Idx → F .f32)) : (S512x2048.Idx → F .bf16) × (S512x2048.Idx → F .f32) :=
  (p.1, k0_pay5 p.1 (blk m hg c 1 t) (blk m hg c 2 t) p.2 (blk m hg c 3 t))

/-- The scratch buffers after point `n`. -/
noncomputable def upto (c : Dev nD) : (n : ℕ) → n < (cf m hg).N → (S512x2048.Idx → F .bf16) × (S512x2048.Idx → F .f32)
  | 0, h => first m hg c ⟨0, h⟩
  | n + 1, h => if (n + 1) % 11 = 0 then first m hg c ⟨n + 1, h⟩ else next m hg c ⟨n + 1, h⟩ (upto c n (Nat.lt_of_succ_lt h))

theorem upto_first (c : Dev nD) (n : ℕ) (h : n < (cf m hg).N) (h0 : n % 11 = 0) : upto m hg c n h = first m hg c ⟨n, h⟩ := by
  cases n with
  | zero => rfl
  | succ n => rw [upto, if_pos h0]

theorem upto_next (c : Dev nD) (n : ℕ) (h : n < (cf m hg).N) (h0 : n % 11 ≠ 0) : upto m hg c n h = next m hg c ⟨n, h⟩ (upto m hg c (n - 1) (by omega)) := by
  cases n with
  | zero => exact absurd rfl h0
  | succ n => rw [upto, if_neg h0]; rfl

theorem upto_step (c : Dev nD) (t : Fin (cf m hg).N) (h0 : t.val % 11 ≠ 0) {a : S512x2048.Idx → F .bf16} {b : S512x2048.Idx → F .f32} {h : t.val - 1 < (cf m hg).N}
    (e : (a, b) = upto m hg c (t.val - 1) h) : (a, k0_pay5 a (blk m hg c 1 t) (blk m hg c 2 t) b (blk m hg c 3 t)) = upto m hg c t.val t.isLt := by
  rw [upto_next m hg c t.val t.isLt h0, ← e]
  rfl

theorem last_lt (j : ℕ) (hj : j < 76) : 11 * j + 10 < (cf m hg).N := lt_of_lt_of_eq (by omega) (N_E hg).symm

/-- The finished block of row tile `j`. -/
noncomputable def tileOut (c : Dev nD) (j : ℕ) (hj : j < 76) : S512x2048.Idx → F .bf16 := k0_pay1 (upto m hg c (11 * j + 10) (last_lt m hg j hj)).2

theorem tileOut_congr (c : Dev nD) {j j' : ℕ} (hj : j < 76) (hj' : j' < 76) (e : j = j') : tileOut m hg c j hj = tileOut m hg c j' hj' := by subst e; rfl

theorem tileOut_at (c : Dev nD) (t : Fin (cf m hg).N) {j : ℕ} (hj : j < 76) (e : t.val = 11 * j + 10) : tileOut m hg c j hj = k0_pay1 (upto m hg c t.val t.isLt).2 := by
  have key : ∀ n (hn : n < (cf m hg).N), n = t.val → upto m hg c n hn = upto m hg c t.val t.isLt := fun n hn e => by subst e; rfl
  unfold tileOut
  rw [key _ (last_lt m hg j hj) e.symm]

theorem tileOut_last (c : Dev nD) (t : Fin (cf m hg).N) (hu : t.val / 11 < na (tab1 m)) (h10 : t.val % 11 = 10) :
    tileOut m hg c (rowBlk (tab1 m) (t.val / 11)) (rowBlk_lt hg _) = k0_pay1 (upto m hg c t.val t.isLt).2 :=
  tileOut_at m hg c t _ (by unfold rowBlk; omega)

/-- Between the points: the scratch buffers, at what the points so far left inside a used tile; the body's halves of the tables. -/
noncomputable def Phi (c : Dev nD) (n : ℕ) (hn : n < (cf m hg).N + 1) : sProp 𝕄 :=
  iprop((∃ a b, ⌜∀ h0 : n % 11 ≠ 0, n / 11 < na (tab1 m) → (a, b) = upto m hg c (n - 1) (by omega)⌝ ∗ owns (c : Thread nD τ) xbM fullShare a ∗ owns (c : Thread nD τ) acM fullShare b)
    ∗ ((teM).view.loc (c : Thread nD τ) ↦{fullShare.right} tab0 m) ∗ ((naM).view.loc (c : Thread nD τ) ↦{fullShare.right} tab1 m))

/-- The pipeline's proof data. -/
noncomputable def dats (_ : Fin 1) (c : Dev nD) : Dat τ (Elt F) Unit ℕ (UR sig nD τ) ℕ (cf m hg) c where
  A w := m (((cf m hg).win w).arr.view.loc (c : Thread nD τ))
  after w t := match w with
    | ⟨0, _⟩ => blk m hg c (0 : Fin 5) t
    | ⟨1, _⟩ => blk m hg c (1 : Fin 5) t
    | ⟨2, _⟩ => blk m hg c (2 : Fin 5) t
    | ⟨3, _⟩ => blk m hg c (3 : Fin 5) t
    | ⟨4, _⟩ => tileOut m hg c (rowBlk (tab1 m) (t.val / 11)) (rowBlk_lt hg _)
  Φ t := Phi m hg c t.val t.isLt
  q _ := fullShare
  owed _ := 0

theorem after0 (c : Dev nD) (t : Fin (cf m hg).N) : (dats m hg 0 c).after (0 : Fin 5) t = blk m hg c 0 t := rfl
theorem after1 (c : Dev nD) (t : Fin (cf m hg).N) : (dats m hg 0 c).after (1 : Fin 5) t = blk m hg c 1 t := rfl
theorem after2 (c : Dev nD) (t : Fin (cf m hg).N) : (dats m hg 0 c).after (2 : Fin 5) t = blk m hg c 2 t := rfl
theorem after3 (c : Dev nD) (t : Fin (cf m hg).N) : (dats m hg 0 c).after (3 : Fin 5) t = blk m hg c 3 t := rfl
theorem after4 (c : Dev nD) (t : Fin (cf m hg).N) : (dats m hg 0 c).after (4 : Fin 5) t = tileOut m hg c (rowBlk (tab1 m) (t.val / 11)) (rowBlk_lt hg _) := rfl

theorem before0 (c : Dev nD) (t : Fin (cf m hg).N) (d) : (dats m hg 0 c).before (0 : Fin 5) t d = blk m hg c 0 t :=
  ((dats m hg 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (cf m hg).N) (d) : (dats m hg 0 c).before (1 : Fin 5) t d = blk m hg c 1 t :=
  ((dats m hg 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (cf m hg).N) (d) : (dats m hg 0 c).before (2 : Fin 5) t d = blk m hg c 2 t :=
  ((dats m hg 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (cf m hg).N) (d) : (dats m hg 0 c).before (3 : Fin 5) t d = blk m hg c 3 t :=
  ((dats m hg 0 c).before_in_eq_fetched (3 : Fin 5) rfl (fun _ => rfl) (fun _ _ _ => rfl) (fun t => by rw [after3]; unfold Dat.blockOf blk; rfl) t d).trans
    (by unfold Dat.fetched Dat.blockOf blk; rfl)

/-- Past the used tiles the output's block stays what the last used tile left. -/
theorem carry4 (c : Dev nD) (t : Fin (cf m hg).N) (ht : t.val ≠ 0) (hf : (cf m hg).fresh (4 : Fin 5) t.val = false) :
    (dats m hg 0 c).after (4 : Fin 5) t = (dats m hg 0 c).after (4 : Fin 5) ⟨t.val - 1, by omega⟩ := by
  have h836 : t.val < 836 := lt_of_lt_of_eq t.isLt (N_E hg)
  rw [fresh4 hg t.val (by omega)] at hf
  simp only [Bool.or_eq_false_iff, decide_eq_false_iff_not] at hf
  rw [after4, after4]
  refine tileOut_congr m hg c _ _ ?_
  show rowBlk _ (t.val / 11) = rowBlk _ ((t.val - 1) / 11)
  unfold rowBlk
  have := hg.lo
  omega

theorem before4 (c : Dev nD) (t : Fin (cf m hg).N) (d) (hf : (cf m hg).fresh (4 : Fin 5) t.val = false) :
    (dats m hg 0 c).before (4 : Fin 5) t d = (dats m hg 0 c).after (4 : Fin 5) t := by
  have h0 : t.val ≠ 0 := fun h0 => by rw [h0, Pipeline.Cfg.fresh_zero] at hf; exact Bool.noConfusion hf
  rw [(dats m hg 0 c).before_out_traj (4 : Fin 5) rfl (fun _ _ => rfl) (fun t ht _ hf => carry4 m hg c t ht hf) t.val t rfl d, hf, carry4 m hg c t h0 hf]
  rfl

noncomputable abbrev ms0 (t : Fin (cf m hg).N) : Memref sig .tc .vmem S512x1024 .i32 := spec0_0.stage ((cf m hg).slots t (0 : Fin 5))
noncomputable abbrev ms1 (t : Fin (cf m hg).N) : Memref sig .tc .vmem S1x1024x512 .i32 := spec0_1.stage ((cf m hg).slots t (1 : Fin 5))
noncomputable abbrev ms2 (t : Fin (cf m hg).N) : Memref sig .tc .vmem S1x1024x512 .i32 := spec0_2.stage ((cf m hg).slots t (2 : Fin 5))
noncomputable abbrev ms3 (t : Fin (cf m hg).N) : Memref sig .tc .vmem S1x256x2048 .i32 := spec0_3.stage ((cf m hg).slots t (3 : Fin 5))
noncomputable abbrev ms4 (t : Fin (cf m hg).N) : Memref sig .tc .vmem S512x2048 .bf16 := spec0_4.stage ((cf m hg).slots t (4 : Fin 5))
theorem hs0 (t : Fin (cf m hg).N) : (ms0 m hg t).IsWhole := hstage0_0 (((cf m hg).slots t (0 : Fin 5)).cast nbuf0_0)
theorem hs1 (t : Fin (cf m hg).N) : (ms1 m hg t).IsWhole := hstage0_1 (((cf m hg).slots t (1 : Fin 5)).cast nbuf0_1)
theorem hs2 (t : Fin (cf m hg).N) : (ms2 m hg t).IsWhole := hstage0_2 (((cf m hg).slots t (2 : Fin 5)).cast nbuf0_2)
theorem hs3 (t : Fin (cf m hg).N) : (ms3 m hg t).IsWhole := hstage0_3 (((cf m hg).slots t (3 : Fin 5)).cast nbuf0_3)
theorem hs4 (t : Fin (cf m hg).N) : (ms4 m hg t).IsWhole := hstage0_4 (((cf m hg).slots t (4 : Fin 5)).cast nbuf0_4)

/-- The body at point `t`, as the pipeline calls it. -/
noncomputable abbrev bodyAt (t : Fin (cf m hg).N) : Prog (TpuEff nD τ sig (Elt F) Λ₀ .tc) PUnit :=
  cc0_moe_experts (crd m hg t) teM (Memref.isWhole_whole _) naM (Memref.isWhole_whole _) (ms0 m hg t) (hs0 m hg t) (ms1 m hg t) (hs1 m hg t) (ms2 m hg t) (hs2 m hg t) (ms3 m hg t) (hs3 m hg t) (ms4 m hg t) (hs4 m hg t) xbM (Memref.isWhole_whole _) acM (Memref.isWhole_whole _)

/-- What the body is handed at point `t`. -/
noncomputable def given (c : Dev nD) (t : Fin (cf m hg).N) : sProp 𝕄 :=
  iprop((dats m hg 0 c).Φ t.castSucc ∗ (dats m hg 0 c).owesAt () t.castSucc
        ∗ (∃ d, owns (c : Thread nD τ) (ms0 m hg t) fullShare ((dats m hg 0 c).before (0 : Fin 5) t d))
        ∗ (∃ d, owns (c : Thread nD τ) (ms1 m hg t) fullShare ((dats m hg 0 c).before (1 : Fin 5) t d))
        ∗ (∃ d, owns (c : Thread nD τ) (ms2 m hg t) fullShare ((dats m hg 0 c).before (2 : Fin 5) t d))
        ∗ (∃ d, owns (c : Thread nD τ) (ms3 m hg t) fullShare ((dats m hg 0 c).before (3 : Fin 5) t d))
        ∗ (∃ d, owns (c : Thread nD τ) (ms4 m hg t) fullShare ((dats m hg 0 c).before (4 : Fin 5) t d)))

/-- What it hands back. -/
noncomputable def back (c : Dev nD) (t : Fin (cf m hg).N) : sProp 𝕄 :=
  iprop((dats m hg 0 c).Φ t.succ ∗ (dats m hg 0 c).owesAt () t.succ
            ∗ bigSep Finset.univ fun w : Fin (cf m hg).W =>
                match (cf m hg).idle w ((cf m hg).grid.coords t) with
                | true =>
                  match ((cf m hg).win w).flush t with
                  | false => iprop(∃ d, owns (c : Thread nD τ) (((cf m hg).win w).stage ((cf m hg).slots t w)) fullShare ((dats m hg 0 c).before w t d))
                  | true => owns (c : Thread nD τ) (((cf m hg).win w).stage ((cf m hg).slots t w)) fullShare ((dats m hg 0 c).after w t)
                | false => owns (c : Thread nD τ) (((cf m hg).win w).stage ((cf m hg).slots t w)) fullShare ((dats m hg 0 c).after w t))

theorem word_na (T : S1.Idx → Elt F .i32) : View.readAt (Elt F) (naM).view (Rect.unit (s := S1) ![0] S1.size inb_S1_S1_0).toLoadRect T (Shape.Idx.first (numel1_S1.symm ▸ Nat.one_pos)) = T z1 := by
  show T _ = T z1
  exact congrArg T (idx1 _)

theorem phi_eq (c : Dev nD) (t : Fin ((cf m hg).N + 1)) : (dats m hg 0 c).Φ t = Phi m hg c t.val t.isLt := rfl

set_option maxHeartbeats 4000000 in
theorem body_first (c : Dev nD) (t : Fin (cf m hg).N) (hu : t.val / 11 < na (tab1 m)) (h0 : t.val % 11 = 0) :
    given m hg c t ⊢ wp frame (wpE (defs₀ (F := F)) Variants.none c none) Set.univ (bodyAt m hg t) fun _ => back m hg c t := by
  have h836 : t.val < 836 := lt_of_lt_of_eq t.isLt (N_E hg)
  have i4 : (cf m hg).idle (4 : Fin 5) ((cf m hg).grid.coords t) = true := by rw [idle4]; simp; omega
  have f4 : ((cf m hg).win (4 : Fin 5)).flush t = false := by rw [flush4]; simp; omega
  have h1 := (cond1_iff hg (crd m hg t) _ (word_na (F := F) (tab1 m))).mpr (by rw [crd0]; exact hu)
  have h2 := (first_iff (crd m hg t)).mpr (by rw [crd1]; exact h0)
  have h3 : ¬k0_cond3 (crd m hg t) = 1#1 := fun h => by have := (cond3_iff _).mp h; rw [crd1] at this; omega
  unfold given back
  rw [bigSep_W0]
  rewrite [i4, f4, show (dats m hg 0 c).owesAt () t.succ = (dats m hg 0 c).owesAt () t.castSucc from rfl, phi_eq, phi_eq]
  simp only [before0, before1, before2, before3, after0, after1, after2, after3]
  unfold Phi
  iintro ⟨⟨⟨%a, %b, %hab, H5, H6⟩, HT0, HT1⟩, Ho, ⟨%d0, H0⟩, ⟨%d1, H1⟩, ⟨%d2, H2⟩, ⟨%d3, H3⟩, ⟨%d4, H4⟩⟩
  iapply (run_first c (crd m hg t) (ms0 m hg t) (hs0 m hg t) (ms1 m hg t) (hs1 m hg t) (ms2 m hg t) (hs2 m hg t) (ms3 m hg t) (hs3 m hg t) (ms4 m hg t) (hs4 m hg t)
    (tab0 m) (tab1 m) (blk m hg c 0 t) (blk m hg c 1 t) (blk m hg c 2 t) (blk m hg c 3 t) h1 h2 h3 _ a b _)
  unfold holds
  isplitl [H0 H1 H2 H3 H4 H5 H6 HT0 HT1]
  · isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [H5]; · iexact H5
    iexact H6
  iintro ⟨H0, H1, H2, H3, HT0, HT1, H4, H5, H6⟩
  isplitl [H5 H6 HT0 HT1]
  · isplitl [H5 H6]
    · iexists _; iexists _; isplitr; swap
      · isplitl [H5]; · iexact H5
        iexact H6
      · ipureintro; intro _ _
        exact (upto_first m hg c t.val t.isLt h0).symm
    isplitl [HT0]; · iexact HT0
    iexact HT1
  isplitl [Ho]; · iexact Ho
  isplitl [H0]; · iexact H0
  isplitl [H1]; · iexact H1
  isplitl [H2]; · iexact H2
  isplitl [H3]; · iexact H3
  iexists d4; iexact H4

set_option maxHeartbeats 4000000 in
theorem body_middle (c : Dev nD) (t : Fin (cf m hg).N) (hu : t.val / 11 < na (tab1 m)) (h0 : t.val % 11 ≠ 0) (h10 : t.val % 11 ≠ 10) :
    given m hg c t ⊢ wp frame (wpE (defs₀ (F := F)) Variants.none c none) Set.univ (bodyAt m hg t) fun _ => back m hg c t := by
  have h836 : t.val < 836 := lt_of_lt_of_eq t.isLt (N_E hg)
  have i4 : (cf m hg).idle (4 : Fin 5) ((cf m hg).grid.coords t) = true := by rw [idle4]; simp; omega
  have f4 : ((cf m hg).win (4 : Fin 5)).flush t = false := by rw [flush4]; simp; omega
  have h1 := (cond1_iff hg (crd m hg t) _ (word_na (F := F) (tab1 m))).mpr (by rw [crd0]; exact hu)
  have h2 : ¬firstCol (crd m hg t) = 1#1 := fun h => by have := (first_iff _).mp h; rw [crd1] at this; omega
  have h3 : ¬k0_cond3 (crd m hg t) = 1#1 := fun h => by have := (cond3_iff _).mp h; rw [crd1] at this; omega
  unfold given back
  rw [bigSep_W0]
  rewrite [i4, f4, show (dats m hg 0 c).owesAt () t.succ = (dats m hg 0 c).owesAt () t.castSucc from rfl, phi_eq, phi_eq]
  simp only [before0, before1, before2, before3, after0, after1, after2, after3]
  unfold Phi
  iintro ⟨⟨⟨%a, %b, %hab, H5, H6⟩, HT0, HT1⟩, Ho, ⟨%d0, H0⟩, ⟨%d1, H1⟩, ⟨%d2, H2⟩, ⟨%d3, H3⟩, ⟨%d4, H4⟩⟩
  iapply (run_middle c (crd m hg t) (ms0 m hg t) (hs0 m hg t) (ms1 m hg t) (hs1 m hg t) (ms2 m hg t) (hs2 m hg t) (ms3 m hg t) (hs3 m hg t) (ms4 m hg t) (hs4 m hg t)
    (tab0 m) (tab1 m) (blk m hg c 0 t) (blk m hg c 1 t) (blk m hg c 2 t) (blk m hg c 3 t) h1 h2 h3 _ a b _)
  unfold holds
  isplitl [H0 H1 H2 H3 H4 H5 H6 HT0 HT1]
  · isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [H5]; · iexact H5
    iexact H6
  iintro ⟨H0, H1, H2, H3, HT0, HT1, H4, H5, H6⟩
  isplitl [H5 H6 HT0 HT1]
  · isplitl [H5 H6]
    · iexists _; iexists _; isplitr; swap
      · isplitl [H5]; · iexact H5
        iexact H6
      · ipureintro; intro hn hu'
        exact upto_step m hg c t h0 (hab h0 hu)
    isplitl [HT0]; · iexact HT0
    iexact HT1
  isplitl [Ho]; · iexact Ho
  isplitl [H0]; · iexact H0
  isplitl [H1]; · iexact H1
  isplitl [H2]; · iexact H2
  isplitl [H3]; · iexact H3
  iexists d4; iexact H4

set_option maxHeartbeats 4000000 in
theorem body_last (c : Dev nD) (t : Fin (cf m hg).N) (hu : t.val / 11 < na (tab1 m)) (h10 : t.val % 11 = 10) :
    given m hg c t ⊢ wp frame (wpE (defs₀ (F := F)) Variants.none c none) Set.univ (bodyAt m hg t) fun _ => back m hg c t := by
  have h836 : t.val < 836 := lt_of_lt_of_eq t.isLt (N_E hg)
  have h0 : t.val % 11 ≠ 0 := by omega
  have i4 : (cf m hg).idle (4 : Fin 5) ((cf m hg).grid.coords t) = false := by rw [idle4]; simp; omega
  have h1 := (cond1_iff hg (crd m hg t) _ (word_na (F := F) (tab1 m))).mpr (by rw [crd0]; exact hu)
  have h2 : ¬firstCol (crd m hg t) = 1#1 := fun h => by have := (first_iff _).mp h; rw [crd1] at this; omega
  have h3 := (cond3_iff (crd m hg t)).mpr (by rw [crd1]; exact h10)
  unfold given back
  rw [bigSep_W0]
  rewrite [i4, show (dats m hg 0 c).owesAt () t.succ = (dats m hg 0 c).owesAt () t.castSucc from rfl, phi_eq, phi_eq]
  simp only [before0, before1, before2, before3, after0, after1, after2, after3]
  unfold Phi
  iintro ⟨⟨⟨%a, %b, %hab, H5, H6⟩, HT0, HT1⟩, Ho, ⟨%d0, H0⟩, ⟨%d1, H1⟩, ⟨%d2, H2⟩, ⟨%d3, H3⟩, ⟨%d4, H4⟩⟩
  have hout : k0_pay1 (k0_pay5 a (blk m hg c 1 t) (blk m hg c 2 t) b (blk m hg c 3 t)) = (dats m hg 0 c).after (4 : Fin 5) t := by
    rw [after4, tileOut_last m hg c t hu h10, ← upto_step m hg c t h0 (hab h0 hu)]
  iapply (run_last c (crd m hg t) (ms0 m hg t) (hs0 m hg t) (ms1 m hg t) (hs1 m hg t) (ms2 m hg t) (hs2 m hg t) (ms3 m hg t) (hs3 m hg t) (ms4 m hg t) (hs4 m hg t)
    (tab0 m) (tab1 m) (blk m hg c 0 t) (blk m hg c 1 t) (blk m hg c 2 t) (blk m hg c 3 t) h1 h2 h3 _ a b _)
  unfold holds
  isplitl [H0 H1 H2 H3 H4 H5 H6 HT0 HT1]
  · isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [H5]; · iexact H5
    iexact H6
  iintro ⟨H0, H1, H2, H3, HT0, HT1, H4, H5, H6⟩
  isplitl [H5 H6 HT0 HT1]
  · isplitl [H5 H6]
    · iexists _; iexists _; isplitr; swap
      · isplitl [H5]; · iexact H5
        iexact H6
      · ipureintro; intro hn hu'
        exact upto_step m hg c t h0 (hab h0 hu)
    isplitl [HT0]; · iexact HT0
    iexact HT1
  isplitl [Ho]; · iexact Ho
  isplitl [H0]; · iexact H0
  isplitl [H1]; · iexact H1
  isplitl [H2]; · iexact H2
  isplitl [H3]; · iexact H3
  rw [← hout]; iexact H4

set_option maxHeartbeats 4000000 in
theorem body_unused (c : Dev nD) (t : Fin (cf m hg).N) (hu : ¬t.val / 11 < na (tab1 m)) :
    given m hg c t ⊢ wp frame (wpE (defs₀ (F := F)) Variants.none c none) Set.univ (bodyAt m hg t) fun _ => back m hg c t := by
  have h836 : t.val < 836 := lt_of_lt_of_eq t.isLt (N_E hg)
  have i4 : (cf m hg).idle (4 : Fin 5) ((cf m hg).grid.coords t) = true := by rw [idle4]; simp; omega
  have h1 : ¬_ := fun h => hu (by have := (cond1_iff hg (crd m hg t) _ (word_na (F := F) (tab1 m))).mp h; rwa [crd0] at this)
  have nf : (cf m hg).fresh (4 : Fin 5) t.val = false := by
    rw [fresh4 hg t.val (by omega)]; simp; omega
  unfold given back
  rw [bigSep_W0]
  rewrite [i4, show (dats m hg 0 c).owesAt () t.succ = (dats m hg 0 c).owesAt () t.castSucc from rfl, phi_eq, phi_eq]
  simp only [before0, before1, before2, before3, after0, after1, after2, after3]
  unfold Phi
  iintro ⟨⟨⟨%a, %b, %hab, H5, H6⟩, HT0, HT1⟩, Ho, ⟨%d0, H0⟩, ⟨%d1, H1⟩, ⟨%d2, H2⟩, ⟨%d3, H3⟩, ⟨%d4, H4⟩⟩
  iapply (run_unused c (crd m hg t) (ms0 m hg t) (hs0 m hg t) (ms1 m hg t) (hs1 m hg t) (ms2 m hg t) (hs2 m hg t) (ms3 m hg t) (hs3 m hg t) (ms4 m hg t) (hs4 m hg t)
    (tab0 m) (tab1 m) (blk m hg c 0 t) (blk m hg c 1 t) (blk m hg c 2 t) (blk m hg c 3 t) h1 _ a b _)
  unfold holds
  isplitl [H0 H1 H2 H3 H4 H5 H6 HT0 HT1]
  · isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [H5]; · iexact H5
    iexact H6
  iintro ⟨H0, H1, H2, H3, HT0, HT1, H4, H5, H6⟩
  isplitl [H5 H6 HT0 HT1]
  · isplitl [H5 H6]
    · iexists _; iexists _; isplitr; swap
      · isplitl [H5]; · iexact H5
        iexact H6
      · ipureintro; intro hn hu'
        have : (t.val + 1) / 11 < na (tab1 m) := hu'
        omega
    isplitl [HT0]; · iexact HT0
    iexact HT1
  isplitl [Ho]; · iexact Ho
  isplitl [H0]; · iexact H0
  isplitl [H1]; · iexact H1
  isplitl [H2]; · iexact H2
  isplitl [H3]; · iexact H3
  cases hf : ((cf m hg).win (4 : Fin 5)).flush t with
  | false => iexists d4; iexact H4
  | true => rw [← before4 m hg c t d4 nf]; iexact H4

theorem body_at (c : Dev nD) (t : Fin (cf m hg).N) :
    given m hg c t ⊢ wp frame (wpE (defs₀ (F := F)) Variants.none c none) Set.univ (bodyAt m hg t) fun _ => back m hg c t := by
  by_cases hu : t.val / 11 < na (tab1 m)
  · by_cases h0 : t.val % 11 = 0
    · exact body_first m hg c t hu h0
    by_cases h10 : t.val % 11 = 10
    · exact body_last m hg c t hu h10
    exact body_middle m hg c t hu h0 h10
  exact body_unused m hg c t hu

/-- The body meets its obligation at every point. -/
theorem obligation (c : Dev nD) : BodyObligation (dats m hg 0 c) (defs₀ (F := F)) Variants.none () Set.univ := fun t => by
  rw [bigSep_W0]
  exact body_at m hg c t

/-! ## The launch -/

noncomputable abbrev pcsE := Pipeline.pin (pcfgs (F := F)) fun _ => adm (F := F) hg

noncomputable def u₀ : UR sig nD τ :=
  initOf (Pipeline.cells (pcsE m hg) ((launch0 (F := F)).cellOf_inj fun _ => adm hg))
    (Pipeline.launchToks (pcsE m hg) ((launch0 (F := F)).cellOf_inj fun _ => adm hg))

theorem share_eq (c : Dev nD) (w : Fin 5) : (dats m hg 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem own_xb (c : Dev nD) (a : S512x2048.Idx → F .bf16) : (owns (c : Thread nD τ) xbM fullShare a : sProp 𝕄) = (((c : Thread nD τ).loc cc0_scratch0) ↦{fullShare} a) :=
  by rw [owns_whole]
theorem own_ac (c : Dev nD) (a : S512x2048.Idx → F .f32) : (owns (c : Thread nD τ) acM fullShare a : sProp 𝕄) = (((c : Thread nD τ).loc cc0_scratch1) ↦{fullShare} a) :=
  by rw [owns_whole]

theorem phi_intro (c : Dev nD) : iprop(BI.emp ∗ Pipeline.prefHeld pre0 c (fun _ => fullShare.right) (adm (F := F) hg).1 ∗ Pipeline.scopedRest spec0 c) ⊢ (dats m hg 0 c).Φ 0 := by
  rw [prefHeld_eq, scopedRest0_eq, phi_eq]
  unfold Phi
  simp only [own_xb, own_ac]
  iintro ⟨-, ⟨HT0, HT1⟩, ⟨%a, Ha⟩, ⟨%b, Hb⟩⟩
  isplitl [Ha Hb]
  · iexists a; iexists b; isplitr
    · ipureintro; intro h0; exact absurd rfl h0
    isplitl [Ha]; · iexact Ha
    iexact Hb
  isplitl [HT0]; · iexact HT0
  iexact HT1

theorem phi_exit (c : Dev nD) : (dats m hg 0 c).Φ (Fin.last (cf m hg).N) ⊢ iprop(BI.emp ∗ Pipeline.scopedRest spec0 c) := by
  rw [scopedRest0_eq, phi_eq]
  unfold Phi
  simp only [own_xb, own_ac]
  iintro ⟨⟨%a, %b, -, Ha, Hb⟩, -, -⟩
  isplitr
  · iempintro
  isplitl [Ha]
  · iexists a; iexact Ha
  iexists b; iexact Hb

theorem tables (c : Dev nD) (j : Fin 2) : m ((c : Thread nD τ).loc (pre0.ref j)) = (adm (F := F) hg).1 j := by
  obtain rfl : c = 0 := Subsingleton.elim _ _
  fin_cases j <;> rfl

/-- What every final state holds. -/
def Ends (r : PUnit × MemSt nD τ sig (Elt F)) : Prop :=
  ∀ c : Dev nD, (∀ w : Fin 5, r.2.mem (((cf m hg).win w).arr.view.loc (c : Thread nD τ)) = (dats m hg 0 c).arrAt w (cf m hg).N)
    ∧ ∀ j : Fin 2, r.2.mem ((c : Thread nD τ).loc (pre0.ref j)) = (adm (F := F) hg).1 j

set_option backward.isDefEq.respectTransparency.types false in
set_option maxHeartbeats 4000000 in
theorem run : θ_run (defs (F := F)) (onTc (τ := τ) (main (F := F))) (s₀ m ρ) (fun r => Ends m hg r ∧ r.2.sem = fun _ => 0) :=
  Pipeline.θ_run_region_noSem_pf_quiescent pcfgs (fun _ => adm hg) (dats m hg) () ((launch0 (F := F)).cellOf_inj fun _ => adm hg) (0 : Fin 1)
    (launch0 (F := F)).win.to₀ (launch0 (F := F)).pre EP defs₀ Variants.none m ρ main
    (hbody := fun c => (obligation m hg c).loose) (hne := (launch0 (F := F)).block_pos)
    (harr := (launch0 (F := F)).arr_whole) (hstage := (launch0 (F := F)).stage_whole) (howed := fun _ _ => rfl)
    (u₀ := u₀ m hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsE m hg) (dats m hg) 0 (launch0 (F := F)).win.arr_inj c (launch0 (F := F)).arr_whole
      (share_eq m hg c) _ _ fun _ => rfl)
    (hpf := tables m hg)
    (X := fun _ => iprop(emp)) (Y := fun _ => iprop(emp)) (Z := fun _ => iprop(emp))
    (hX := fun c => by rw [unscopedRestP0_eq]; iintro -; isplitr <;> iempintro)
    (hin := phi_intro m hg) (hout := phi_exit m hg)
    (QY := fun _ _ => True)
    (hY := fun c s' => by
      iintro ⟨-, -, HSI⟩; imodintro
      isplitr
      · ipureintro; trivial
      iexact HSI)
    (hQ := fun _ h hz => ⟨fun c => ⟨(h c).1, (h c).2.1⟩, hz⟩)

end Cert.Proof.Experts
-- ==== Proof.ExpEnd.lean ====
/-
  WHAT THE EXPERTS CALL LEAVES. The precondition read as numbers, the rows the mask names, the arguments unchanged, and the
  output's element at a used row: the finished block of its row tile.
-/
module

public import proofs.«01_k».proof.Proof.ExpRun
public import proofs.«01_k».proof.Proof.Gen.Pre_tiles_in_table
public import proofs.«01_k».proof.Proof.Gen.On_active_rows
public import Idealize.ShloMosaic.Lib.ReduceAll
public import Idealize.ShloMosaic.Lib.Pipeline.ValueKit.Geometry

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.Sem
open Idealize.ShloMosaic.Pipeline (Dat Cfg Window)

variable {F : FTy → Type} [FloatOps F]

/-! ## The precondition and the mask -/

instance : Subsingleton Cert.Pre_tiles_in_table.S_.Idx := ⟨fun a b => funext fun x => x.elim0⟩

theorem hand (p q : Bool) : IntOp.andi (BitVec.ofBool p) (BitVec.ofBool q) = BitVec.ofBool (p && q) := by cases p <;> cases q <;> rfl

/-- The tests on the two tables, all true: every tile's expert below 8, between 1 and 76 tiles used. -/
theorem good_of_pre (T0 : S76.Idx → BitVec 32) (T1 : S1.Idx → BitVec 32) (a2 : S38912x1024.Idx → BitVec 32) (a3 a4 : S8x1024x5632.Idx → BitVec 32) (a5 : S8x2816x2048.Idx → BitVec 32)
    (h : Cert.Pre_tiles_in_table.fn (F := F) T0 T1 a2 a3 a4 a5 = fun _ => 1#1) : Good T0 T1 := by
  have e := congrFun h finZeroElim
  unfold Cert.Pre_tiles_in_table.fn at e
  obtain ⟨e0, e1⟩ := IntOp.andi_eq_one.1 e
  have k0 := fun i => Host.reduce_andi_all _ _ _ _ _ e0 i
  have k1 := Host.reduce_andi_all _ _ _ _ _ e1 z1
  refine ⟨fun x => ?_, ?_, ?_⟩
  · have e := k0 x
    simp only [andi, cmpi, broadcastInDim, constantI] at e
    simp only [IntOp.cmpi, hand, ofBool_eq_one, Bool.and_eq_true, BitVec.sle_eq_decide, BitVec.slt_eq_decide,
      decide_eq_true_eq, BitVec.toInt_eq_toNat_cond, BitVec.toNat_ofNat, Nat.reducePow, Nat.reduceMod] at e
    omega
  all_goals
    simp only [andi, cmpi, broadcastInDim, constantI] at k1
    simp only [IntOp.cmpi, hand, ofBool_eq_one, Bool.and_eq_true, BitVec.sle_eq_decide, BitVec.slt_eq_decide,
      decide_eq_true_eq, BitVec.toInt_eq_toNat_cond, BitVec.toNat_ofNat, Nat.reducePow, Nat.reduceMod] at k1
    unfold na
    omega

/-- The mask names the rows of the used tiles. -/
theorem active_lt {T0 : S76.Idx → BitVec 32} {T1 : S1.Idx → BitVec 32} (hg : Good T0 T1) (a2 : S38912x1024.Idx → BitVec 32) (a3 a4 : S8x1024x5632.Idx → BitVec 32) (a5 : S8x2816x2048.Idx → BitVec 32)
    (i : S38912x2048.Idx) (h : Cert.On_active_rows.fn (F := F) T0 T1 a2 a3 a4 a5 i = 1#1) : (i 0).val / 512 < na T1 := by
  have hi : (i 0).val < 38912 := (i 0).isLt
  unfold Cert.On_active_rows.fn at h
  have hw : ∃ x : S1.Idx, (BitVec.ofNat 32 (i 0).val).slt (T1 x * 512#32) = true := ⟨_, (ofBool_eq_one _).1 h⟩
  obtain ⟨x, hx⟩ := hw
  rw [idx1 x] at hx
  have h1 := hg.hi
  unfold na at h1 ⊢
  have hm : (T1 z1 * 512#32).toNat = (T1 z1).toNat * 512 := by rw [BitVec.toNat_mul]; simp; omega
  have hn : (BitVec.ofNat 32 (i 0).val).toNat = (i 0).val := by rw [BitVec.toNat_ofNat]; omega
  rw [slt_nat (by rw [hn]; omega) (by rw [hm]; omega), decide_eq_true_eq, hm, hn] at hx
  omega

/-! ## The final memory -/

variable (m : (ℓ : Loc nD τ sig) → Buf (Elt F) ℓ) (ρ : Dev nD → PrngReg) (hg : Good (tab0 m) (tab1 m))

/-- The arguments end as they were, every counter at zero. -/
theorem kept (r : PUnit × MemSt nD τ sig (Elt F)) (h : Ends m hg r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tables m hg c 0).symm, ((h c).2 1).trans (tables m hg c 1).symm,
    ((h c).1 0).trans ((dats m hg 0 c).arrAt_in (0 : Fin 5) rfl _), ((h c).1 1).trans ((dats m hg 0 c).arrAt_in (1 : Fin 5) rfl _),
    ((h c).1 2).trans ((dats m hg 0 c).arrAt_in (2 : Fin 5) rfl _), ((h c).1 3).trans ((dats m hg 0 c).arrAt_in (3 : Fin 5) rfl _)⟩

/-- A place in a block of the output from a place in the output. -/
def inTile (i : S38912x2048.Idx) : S512x2048.Idx := Fin.cons ⟨(i 0).val % 512, Nat.mod_lt _ (by decide)⟩ (Fin.cons ⟨(i 1).val, (i 1).isLt⟩ finZeroElim)

theorem tile_lt (i : S38912x2048.Idx) : (i 0).val / 512 < 76 := by
  have hi : (i 0).val < 38912 := (i 0).isLt
  omega

/-- The finished blocks, one below the other. -/
def whole (c : Dev nD) (i : S38912x2048.Idx) : F .bf16 := tileOut m hg c ((i 0).val / 512) (tile_lt i) (inTile i)

theorem flushed4 (c : Dev nD) (t : Fin (cf m hg).N) :
    (dats m hg 0 c).flushed (4 : Fin 5) t = (((cf m hg).win (4 : Fin 5)).blk t).view.read (Elt F) (whole m hg c) := by
  funext y
  show tileOut m hg c (rowBlk (tab1 m) (t.val / 11)) (rowBlk_lt hg _) y = whole m hg c ((((cf m hg).win (4 : Fin 5)).rect t).emb y)
  have e0 : (((((cf m hg).win (4 : Fin 5)).rect t).emb y) (0 : Fin 2) : Nat) = rowBlk (tab1 m) (t.val / 11) * 512 + (y (0 : Fin 2)).val := by
    have := Pipeline.Window.rect_emb_val ((cf m hg).win (4 : Fin 5)) t y (0 : Fin 2)
    rw [index4 hg t] at this
    exact this
  have e1 : (((((cf m hg).win (4 : Fin 5)).rect t).emb y) (1 : Fin 2) : Nat) = (y (1 : Fin 2)).val := by
    have := Pipeline.Window.rect_emb_val ((cf m hg).win (4 : Fin 5)) t y (1 : Fin 2)
    rw [index4 hg t] at this
    exact this.trans (by simp)
  have hy : (y (0 : Fin 2)).val < 512 := (y (0 : Fin 2)).isLt
  unfold whole
  rw [tileOut_congr m hg c (tile_lt _) (rowBlk_lt hg (t.val / 11)) (by rw [e0]; omega)]
  congr 1
  funext a
  match a with
  | ⟨0, _⟩ => exact Fin.ext (show (y (0 : Fin 2)).val = _ % 512 by rw [e0]; omega)
  | ⟨1, _⟩ => exact Fin.ext (show (y (1 : Fin 2)).val = _ from e1.symm)

/-- A used row ends with its tile's finished block. -/
theorem final (c : Dev nD) (i : S38912x2048.Idx) (h : (i 0).val / 512 < na (tab1 m)) : (dats m hg 0 c).arrAt (4 : Fin 5) (cf m hg).N i = whole m hg c i := by
  have hhi := hg.hi
  set j := (i 0).val / 512 with hj
  have key : ∀ n (hn : n < (cf m hg).N), n / 11 = min (n / 11) 75 → rowBlk (tab1 m) (n / 11) = j → ((cf m hg).win (4 : Fin 5)).flush ⟨n, hn⟩ = true →
      (dats m hg 0 c).arrAt (4 : Fin 5) (cf m hg).N i = whole m hg c i := fun n hn _ hr hf =>
    (dats m hg 0 c).arrAt_apply_of_mem (4 : Fin 5) (whole m hg c) (fun t _ => flushed4 m hg c t) _ ⟨n, hn⟩ i hn hf
      ((Pipeline.Window.emb_mem_blk_iff ((cf m hg).win (4 : Fin 5)) ⟨n, hn⟩ i).mpr fun a => by
        rw [index4 hg ⟨n, hn⟩]
        match a with
        | ⟨0, _⟩ =>
          show rowBlk (tab1 m) (n / 11) * 512 ≤ (i 0).val ∧ (i 0).val < rowBlk (tab1 m) (n / 11) * 512 + 512
          rw [hr]; omega
        | ⟨1, _⟩ =>
          show 0 * 2048 ≤ (i 1).val ∧ (i 1).val < 0 * 2048 + 2048
          have : (i 1).val < 2048 := (i 1).isLt
          omega)
  by_cases hl : j + 1 < na (tab1 m)
  · refine key (11 * j + 10) (lt_of_lt_of_eq (by omega) (N_E hg).symm) (by omega) (by unfold rowBlk; omega) ?_
    rw [flush4]; simp; omega
  · refine key 835 (lt_of_lt_of_eq (by omega) (N_E hg).symm) (by omega) (by unfold rowBlk; omega) ?_
    rw [flush4]; simp

/-- The whole run: used rows at the finished blocks, arguments as they were, counters at zero. -/
theorem run_end : θ_run (defs (F := F)) (onTc (τ := τ) (main (F := F))) ⟨m, fun _ => 0, ρ⟩ (fun r =>
    (∀ c : Dev nD, (∀ i : S38912x2048.Idx, (i 0).val / 512 < na (tab1 m) → r.2.mem ((c.tc : Thread nD τ).loc main_v0) i = whole m hg c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨fun i hi => (congrFun ((h.1 c).1 4) i).trans (final m hg c i hi), kept m hg r h.1 c⟩, h.2⟩) (run m ρ hg)

end Cert.Proof.Experts

end
-- ==== Proof.ExpSum.lean ====
/-
  THE EXPERTS CALL'S RUNNING SUM. The blocks of the inputs at a point as the arrays' words, and by induction along a used
  row tile the scratch buffer as the sum over the hidden units so far; the tile's finished block is the sum over all of them.
-/
module

public import proofs.«01_k».proof.Proof.ExpMath
public import proofs.«01_k».proof.Proof.ExpEnd

@[expose] public section

noncomputable section

namespace Cert.Proof.Experts

open Cert.Kernel2Ideal Cert.Kernel2Ideal.Gen
open Idealize.ShloMosaic Idealize.ShloMosaic.ValueIdx
open Idealize.ShloMosaic.TcCoe
open scoped BigOperators

variable (m : (ℓ : Loc nD τ sig) → Buf (Elt Ideal) ℓ) (hg : Good (tab0 m) (tab1 m)) (c : Dev nD)

/-- The four arrays on device `c`, by natural coordinates. -/
def wX : ℕ → ℕ → BitVec 32 := at2 (a := 38912) (b := 1024) (m ((c.tc : Thread nD τ).loc main_arg2))
def wG : ℕ → ℕ → ℕ → BitVec 32 := at3 (a := 8) (b := 1024) (c := 5632) (m ((c.tc : Thread nD τ).loc main_arg3))
def wU : ℕ → ℕ → ℕ → BitVec 32 := at3 (a := 8) (b := 1024) (c := 5632) (m ((c.tc : Thread nD τ).loc main_arg4))
def wD : ℕ → ℕ → ℕ → BitVec 32 := at3 (a := 8) (b := 2816) (c := 2048) (m ((c.tc : Thread nD τ).loc main_arg5))

/-- What hidden unit `n` adds to entry `(r, q)` of the result under expert `e`. -/
def part (e r q n : ℕ) : EReal :=
  hid (tok (wX m c) r) (fun k => half (wG m c e) k n) (fun k => half (wU m c e) k n) * half (wD m c e) n q

/-! ## The blocks -/

theorem idx0 (t : Fin (cf m hg).N) : ((cf m hg).win (0 : Fin 5)).index t = ![rowBlk (tab1 m) (t.val / 11), 0] := by
  rw [← crd0 hg t]; exact tr0 hg _
theorem idx1' (t : Fin (cf m hg).N) : ((cf m hg).win (1 : Fin 5)).index t = ![te (tab0 m) (t.val / 11), 0, colBlk (tab1 m) (t.val / 11) (t.val % 11)] := by
  rw [← crd0 hg t, ← crd1 hg t]; exact tr1 hg _
theorem idx2 (t : Fin (cf m hg).N) : ((cf m hg).win (2 : Fin 5)).index t = ![te (tab0 m) (t.val / 11), 0, colBlk (tab1 m) (t.val / 11) (t.val % 11)] := by
  rw [← crd0 hg t, ← crd1 hg t]; exact tr2 hg _
theorem idx3 (t : Fin (cf m hg).N) : ((cf m hg).win (3 : Fin 5)).index t = ![te (tab0 m) (t.val / 11), colBlk (tab1 m) (t.val / 11) (t.val % 11), 0] := by
  rw [← crd0 hg t, ← crd1 hg t]; exact tr3 hg _

variable (t : Fin (cf m hg).N) (j f : ℕ) (hj : t.val / 11 = j) (hf : t.val % 11 = f) (hu : j < na (tab1 m))

include hj hu in
theorem blk0 (y : S512x1024.Idx) : blk m hg c 0 t y = wX m c (512 * j + (y 0).val) (y 1).val := by
  have er : rowBlk (tab1 m) j = j := by unfold rowBlk; omega
  have h0 := Pipeline.Window.rect_emb_val ((cf m hg).win (0 : Fin 5)) t y (0 : Fin 2)
  have h1 := Pipeline.Window.rect_emb_val ((cf m hg).win (0 : Fin 5)) t y (1 : Fin 2)
  rw [idx0, hj, er] at h0 h1
  exact at2_eq (a := 38912) (b := 1024) _ _ (h0.trans (show j * 512 + (y 0).val = _ by omega)) (h1.trans (show 0 * 1024 + (y 1).val = _ by omega))

include hj hf hu in
theorem blk1 (y : S1x1024x512.Idx) : blk m hg c 1 t y = wG m c (te (tab0 m) j) (y 1).val (512 * f + (y 2).val) := by
  have ec : colBlk (tab1 m) j f = f := by unfold colBlk; rw [if_pos hu]
  have hy : (y 0).val < 1 := (y 0).isLt
  have h0 := Pipeline.Window.rect_emb_val ((cf m hg).win (1 : Fin 5)) t y (0 : Fin 3)
  have h1 := Pipeline.Window.rect_emb_val ((cf m hg).win (1 : Fin 5)) t y (1 : Fin 3)
  have h2 := Pipeline.Window.rect_emb_val ((cf m hg).win (1 : Fin 5)) t y (2 : Fin 3)
  rw [idx1', hj, hf, ec] at h0 h1 h2
  exact at3_eq (a := 8) (b := 1024) (c := 5632) _ _ (h0.trans (show te (tab0 m) j * 1 + (y 0).val = _ by omega)) (h1.trans (show 0 * 1024 + (y 1).val = _ by omega))
    (h2.trans (show f * 512 + (y 2).val = _ by omega))

include hj hf hu in
theorem blk2 (y : S1x1024x512.Idx) : blk m hg c 2 t y = wU m c (te (tab0 m) j) (y 1).val (512 * f + (y 2).val) := by
  have ec : colBlk (tab1 m) j f = f := by unfold colBlk; rw [if_pos hu]
  have hy : (y 0).val < 1 := (y 0).isLt
  have h0 := Pipeline.Window.rect_emb_val ((cf m hg).win (2 : Fin 5)) t y (0 : Fin 3)
  have h1 := Pipeline.Window.rect_emb_val ((cf m hg).win (2 : Fin 5)) t y (1 : Fin 3)
  have h2 := Pipeline.Window.rect_emb_val ((cf m hg).win (2 : Fin 5)) t y (2 : Fin 3)
  rw [idx2, hj, hf, ec] at h0 h1 h2
  exact at3_eq (a := 8) (b := 1024) (c := 5632) _ _ (h0.trans (show te (tab0 m) j * 1 + (y 0).val = _ by omega)) (h1.trans (show 0 * 1024 + (y 1).val = _ by omega))
    (h2.trans (show f * 512 + (y 2).val = _ by omega))

include hj hf hu in
theorem blk3 (y : S1x256x2048.Idx) : blk m hg c 3 t y = wD m c (te (tab0 m) j) (256 * f + (y 1).val) (y 2).val := by
  have ec : colBlk (tab1 m) j f = f := by unfold colBlk; rw [if_pos hu]
  have hy : (y 0).val < 1 := (y 0).isLt
  have h0 := Pipeline.Window.rect_emb_val ((cf m hg).win (3 : Fin 5)) t y (0 : Fin 3)
  have h1 := Pipeline.Window.rect_emb_val ((cf m hg).win (3 : Fin 5)) t y (1 : Fin 3)
  have h2 := Pipeline.Window.rect_emb_val ((cf m hg).win (3 : Fin 5)) t y (2 : Fin 3)
  rw [idx3, hj, hf, ec] at h0 h1 h2
  exact at3_eq (a := 8) (b := 2816) (c := 2048) _ _ (h0.trans (show te (tab0 m) j * 1 + (y 0).val = _ by omega)) (h1.trans (show f * 256 + (y 1).val = _ by omega))
    (h2.trans (show 0 * 2048 + (y 2).val = _ by omega))

/-- An unpacked block of tokens, read at an index. -/
theorem unpacked_val (x : S512x1024.Idx → BitVec 32) (X : ℕ → ℕ → BitVec 32) (o : ℕ) (hx : ∀ y : S512x1024.Idx, x y = X (o + (y 0).val) (y 1).val) (y : S512x2048.Idx) :
    unpacked (F := Ideal) x y = tok X (o + (y 0).val) (y 1).val := by
  unfold unpacked tok
  split
  · unfold k0_pay2
    simp only [shapeCast_self]
    exact congrArg (fun w : BitVec 32 => Ideal.ofBits .f32 (w <<< 16)) (hx _)
  · unfold k0_pay3
    simp only [shapeCast_self]
    exact congrArg (fun w : BitVec 32 => Ideal.ofBits .f32 (w &&& 4294901760#32)) (hx _)

include hj hf hu in
/-- One point adds its tile of hidden units. -/
theorem point (xb : S512x2048.Idx → Ideal .bf16) (acc : S512x2048.Idx → Ideal .f32) (hx : ∀ y : S512x2048.Idx, xb y = tok (wX m c) (512 * j + (y 0).val) (y 1).val)
    (p : Fin 512) (q : Fin 2048) :
    k0_pay5 (F := Ideal) xb (blk m hg c 1 t) (blk m hg c 2 t) acc (blk m hg c 3 t) (ix2 p q)
      = acc (ix2 p q) + ∑ n ∈ Finset.range 512, part m c (te (tab0 m) j) (512 * j + p.val) q.val (512 * f + n) := by
  refine (step xb (blk m hg c 1 t) (blk m hg c 2 t) acc (blk m hg c 3 t) (fun r k => tok (wX m c) (512 * j + r) k)
    (fun k n => wG m c (te (tab0 m) j) k (512 * f + n)) (fun k n => wU m c (te (tab0 m) j) k (512 * f + n)) (fun r n => wD m c (te (tab0 m) j) (256 * f + r) n)
    hx (blk1 m hg c t j f hj hf hu) (blk2 m hg c t j f hj hf hu) (blk3 m hg c t j f hj hf hu) p q).trans ?_
  refine congrArg (acc (ix2 p q) + ·) (Finset.sum_congr rfl fun n _ => ?_)
  unfold part
  have e : half (fun r n => wD m c (te (tab0 m) j) (256 * f + r) n) n q.val = half (wD m c (te (tab0 m) j)) (512 * f + n) q.val := by
    unfold half
    rw [show (512 * f + n) / 2 = 256 * f + n / 2 by omega, show (512 * f + n) % 2 = n % 2 by omega]
  rw [e]
  rfl

/-- The scratch buffers along a used row tile. -/
theorem along (j : ℕ) (hu : j < na (tab1 m)) : ∀ (f : ℕ) (hf : f < 11) (h : 11 * j + f < (cf m hg).N),
    (∀ y : S512x2048.Idx, (upto m hg c (11 * j + f) h).1 y = tok (wX m c) (512 * j + (y 0).val) (y 1).val)
      ∧ ∀ (p : Fin 512) (q : Fin 2048), (upto m hg c (11 * j + f) h).2 (ix2 p q)
          = ∑ n ∈ Finset.range (512 * (f + 1)), part m c (te (tab0 m) j) (512 * j + p.val) q.val n := by
  intro f
  induction f with
  | zero =>
    intro hf h
    have e := upto_first m hg c (11 * j + 0) h (by omega)
    have hx : ∀ y : S512x2048.Idx, unpacked (F := Ideal) (blk m hg c 0 ⟨11 * j + 0, h⟩) y = tok (wX m c) (512 * j + (y 0).val) (y 1).val :=
      unpacked_val _ (wX m c) (512 * j) (blk0 m hg c ⟨11 * j + 0, h⟩ j (by show (11 * j + 0) / 11 = j; omega) hu)
    rw [e]
    refine ⟨hx, fun p q => ?_⟩
    refine (point m hg c ⟨11 * j + 0, h⟩ j 0 (by show (11 * j + 0) / 11 = j; omega) (by show (11 * j + 0) % 11 = 0; omega) hu _ _ hx p q).trans ?_
    have hz : k0_pay4 (F := Ideal) (ix2 p q) = (0 : EReal) := by
      unfold k0_pay4
      simp only [shapeCast_self]
      exact Ideal.ofBits_zero_f32
    rw [hz, zero_add]
    refine Finset.sum_congr rfl fun n _ => ?_
    rw [Nat.mul_zero, Nat.zero_add]
  | succ f ih =>
    intro hf h
    obtain ⟨ih1, ih2⟩ := ih (by omega) (by omega)
    have e := upto_next m hg c (11 * j + (f + 1)) h (by omega)
    have e' : next m hg c ⟨11 * j + (f + 1), h⟩ (upto m hg c (11 * j + (f + 1) - 1) (by omega)) = next m hg c ⟨11 * j + (f + 1), h⟩ (upto m hg c (11 * j + f) (by omega)) := rfl
    rw [e, e']
    refine ⟨ih1, fun p q => ?_⟩
    refine (point m hg c ⟨11 * j + (f + 1), h⟩ j (f + 1) (by show (11 * j + (f + 1)) / 11 = j; omega) (by show (11 * j + (f + 1)) % 11 = f + 1; omega) hu _ _ ih1 p q).trans ?_
    rw [ih2, show 512 * (f + 1 + 1) = 512 * (f + 1) + 512 by omega, Finset.sum_range_add]

/-- A used row of the result: every hidden unit's part. -/
theorem whole_val (i : S38912x2048.Idx) (hu : (i 0).val / 512 < na (tab1 m)) :
    whole m hg c i = ∑ n ∈ Finset.range 5632, part m c (te (tab0 m) ((i 0).val / 512)) (i 0).val (i 1).val n := by
  have h := (along m hg c ((i 0).val / 512) hu 10 (by omega) (last_lt m hg _ (tile_lt i))).2 ⟨(i 0).val % 512, Nat.mod_lt _ (by decide)⟩ ⟨(i 1).val, (i 1).isLt⟩
  have ei : inTile i = ix2 ⟨(i 0).val % 512, Nat.mod_lt _ (by decide)⟩ ⟨(i 1).val, (i 1).isLt⟩ := by
    funext a
    match a with
    | ⟨0, _⟩ => rfl
    | ⟨1, _⟩ => rfl
  show (upto m hg c (11 * ((i 0).val / 512) + 10) _).2 (inTile i) = _
  rw [ei]
  refine h.trans ?_
  rw [show 512 * ((i 0).val / 512) + (i 0).val % 512 = (i 0).val from Nat.div_add_mod _ _]

end Cert.Proof.Experts

end
-- ==== Proof.ExpRef.lean ====
/-
  THE EXPERTS' REFERENCE, READ AT AN INDEX. Its gather of every tile's expert matrix, its unpacking of the words and its batched
  products, each at one index; its result is, at every row, the same sum over the hidden units as the kernel's.
-/
module

public import proofs.«01_k».proof.Proof.ExpSum
public import proofs.«01_k».proof.Proof.Gen.Reference2Ideal.Run
public import Idealize.ShloMosaic.Lib.StableHlo.Predicate
public import Idealize.ShloMosaic.Lib.BitcastConvert
public import Idealize.ShloMosaic.Lib.Pointwise.SelectCore

@[expose] public section

set_option maxRecDepth 16384

noncomputable section

namespace Cert.Proof.Experts

open Idealize.ShloMosaic hiding ix2 ix3 ix4
open Idealize.ShloMosaic.ValueIdx
open scoped BigOperators

/-! ## The gather -/

/-- A word below 8 read signed and clamped into eight matrices is its own value. -/
theorem clamp_eight (w : BitVec 32) (h : w.toNat < 8) : min w.toInt.toNat (8 - 1) = w.toNat := by
  rw [BitVec.toInt_eq_toNat_cond]
  split <;> omega

theorem axis_facts : ∀ b : Fin 3, b = 1 ∨ b = 2 → b ∈ ([1, 2] : List (Fin 3)) ∧ b ∉ ([0] : List (Fin 3)) ∧ ([1, 2] : List (Fin 3)).idxOf b < ([1, 2] : List (Fin 3)).length := by
  decide

/-- Taking whole matrices of a stack of eight: result element `(r, k, n)` is the stack's element `(start r, k, n)`. -/
theorem gather_mats {α : Type} {B C : ℕ} (d : GatherDims ⟨3, ![8, B, C]⟩ ⟨2, ![76, 1]⟩ ⟨3, ![76, B, C]⟩)
    (hoff : d.offsetDims = [1, 2]) (hcoll : d.collapsedSliceDims = [0]) (hob : d.operandBatchingDims = [])
    (hsim : d.startIndexMap = [0]) (hivd : d.indexVectorDim = 1)
    (x : (⟨3, ![8, B, C]⟩ : Shape).Idx → α) (idx : IVec ⟨2, ![76, 1]⟩ 32) (j : (⟨3, ![76, B, C]⟩ : Shape).Idx)
    (hin : (idx (StableHlo.Predicate.ixP (j 0))).toNat < 8) :
    Host.gather d x idx j = x (ix3 ⟨(idx (StableHlo.Predicate.ixP (j 0))).toNat, hin⟩ (j 1) (j 2)) := by
  unfold Host.gather
  congr 1
  have hnb : ∀ a, a ∉ d.operandBatchingDims := fun a => by rw [hob]; exact List.not_mem_nil
  have hkept : d.sKept = [1, 2] := by
    unfold GatherDims.sKept
    rw [hcoll, hob]; rfl
  have key : ∀ (l l' : List (Fin 3)) (hl : l = [1, 2]) (hl' : l' = [1, 2]) (a : Fin 3) (h : l'.idxOf a < l.length), a = 1 ∨ a = 2 → l[l'.idxOf a] = a := by
    intro l l' hl hl' a h ha
    subst hl; subst hl'
    rcases ha with rfl | rfl <;> rfl
  funext a
  apply Fin.ext
  simp only [GatherDims.operandIdx, GatherDims.batchCoord_eq_zero _ _ _ (hnb a), Nat.add_zero]
  have hrest : ∀ b : Fin 3, (b = 1 ∨ b = 2) → d.start j idx b + d.offCoord j b = (j b).val := fun b hb => by
    have hk : b ∈ d.sKept := by rw [hkept]; exact (axis_facts b hb).1
    have hm : b ∉ d.startIndexMap := by rw [hsim]; exact (axis_facts b hb).2.1
    simp only [GatherDims.start, dif_neg hm, Nat.zero_add, GatherDims.offCoord, dif_pos hk]
    have hl : d.sKept.idxOf b < d.offsetDims.length := by
      rw [hkept, hoff]; exact (axis_facts b hb).2.2
    exact congrArg (fun a : Fin 3 => (j a).val) (key d.offsetDims d.sKept hoff hkept b hl hb)
  match a with
  | ⟨0, _⟩ =>
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    have hoc := GatherDims.offCoord_eq_zero d j (0 : Fin 3) hk
    show d.start j idx (0 : Fin 3) + d.offCoord j (0 : Fin 3) = (idx (StableHlo.Predicate.ixP (j 0))).toNat
    rw [hoc, Nat.add_zero]
    simp only [GatherDims.start, dif_pos hm]
    show min (idx _).toInt.toNat (8 - d.sliceSizes 0) = (idx (StableHlo.Predicate.ixP (j 0))).toNat
    rw [hsl, ← clamp_eight _ hin]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        unfold GatherDims.batchDims; rw [hoff]; rfl
      have e : ∀ X : Fin 3, X ∈ d.batchDims → (j X).val = (j 0).val := fun X hX => by
        rw [hbd, List.mem_singleton] at hX; subst hX; rfl
      exact e _ (List.getElem_mem _)
    | ⟨1, _⟩ =>
      unfold GatherDims.siIdx
      rw [dif_pos (by rw [hivd])]
      apply Fin.ext
      show List.idxOf (0 : Fin 3) d.startIndexMap = 0
      rw [hsim]; simp
  | ⟨1, _⟩ => exact hrest 1 (Or.inl rfl)
  | ⟨2, _⟩ => exact hrest 2 (Or.inr rfl)

/-! ## The unpacking -/

/-- A stack of packed matrices unpacked, read at an index. -/
theorem unpack_at {A C K : ℕ} (hK : K = 2 * A) (W : (⟨3, ![8, A, C]⟩ : Shape).Idx → BitVec 32)
    (h1 : (⟨3, ![8, A, C]⟩ : Shape).SplitsWords 32 ⟨4, ![8, A, C, 2]⟩ 16) (hb : FTy.bf16.bits < FTy.f32.bits)
    (h2 : (⟨4, ![8, A, C, 2]⟩ : Shape).Transposes [0, 1, 3, 2] ⟨4, ![8, A, 2, C]⟩) (h3 : (⟨4, ![8, A, 2, C]⟩ : Shape).ShapeCasts ⟨3, ![8, K, C]⟩)
    (y : (⟨3, ![8, K, C]⟩ : Shape).Idx) :
    shapeCast ⟨3, ![8, K, C]⟩ (transpose ⟨4, ![8, A, 2, C]⟩ [0, 1, 3, 2] (extf (F := Ideal) .f32 (bitcastToFloat .bf16 (Host.bitcastConvertNarrow ⟨4, ![8, A, C, 2]⟩ 16 W h1)) hb) h2) h3 y
      = half (at3 W (y 0).val) (y 1).val (y 2).val := by
  have hy1 : (y 1).val < K := (y 1).isLt
  have hk : (y 1).val / 2 < A := by omega
  have hr : (y 1).val % 2 < 2 := Nat.mod_lt _ (by decide)
  refine (shapeCast_apply _ h3 y (ix4 (y 0) ⟨(y 1).val / 2, hk⟩ ⟨(y 1).val % 2, hr⟩ (y 2)) ?_).trans ?_
  · rw [Shape.rowMajor_val_three, Shape.rowMajor_val_four]
    show (((y 0).val * A + (y 1).val / 2) * 2 + (y 1).val % 2) * C + (y 2).val = ((y 0).val * K + (y 1).val) * C + (y 2).val
    have e : ((y 0).val * A + (y 1).val / 2) * 2 + (y 1).val % 2 = (y 0).val * K + (y 1).val := by
      have e' : (y 0).val * K = (y 0).val * A * 2 := (congrArg ((y 0).val * ·) hK).trans (by ring)
      rw [e']; omega
    rw [e]
  refine (transpose_apply _ _ h2 _ (ix4 (y 0) ⟨(y 1).val / 2, hk⟩ (y 2) ⟨(y 1).val % 2, hr⟩) (fun b => match b with
    | ⟨0, _⟩ => rfl
    | ⟨1, _⟩ => rfl
    | ⟨2, _⟩ => rfl
    | ⟨3, _⟩ => rfl)).trans ?_
  show Ideal.ofBits .bf16 ((W _).extractLsb' ((y 1).val % 2 * 16) 16) = _
  rw [at3_eq W (h1.drop (ix4 (y 0) ⟨(y 1).val / 2, hk⟩ (y 2) ⟨(y 1).val % 2, hr⟩)) (e := (y 0).val) (i := (y 1).val / 2) (j := (y 2).val) rfl rfl rfl,
    Nat.mul_comm ((y 1).val % 2) 16]
  rfl

/-! ## The products -/

/-- Tile by tile, a matrix times its own matrix, read at an index. -/
theorem tiles_dot {M K N : ℕ} (D : DotDims ⟨3, ![76, M, K]⟩ ⟨3, ![76, K, N]⟩ ⟨3, ![76, M, N]⟩)
    (hD : D.lhsContracting = [2] ∧ D.rhsContracting = [1] ∧ D.lhsNonContracting = [1] ∧ D.rhsNonContracting = [2] ∧ D.lhsBatch = [0] ∧ D.rhsBatch = [0])
    (L : FVec Ideal ⟨3, ![76, M, K]⟩ .f32) (R : FVec Ideal ⟨3, ![76, K, N]⟩ .f32) (t : Fin 76) (p : Fin M) (n : Fin N) :
    Host.dotGeneral D none L R (ix3 t p n) = ∑ k : Fin K, L (ix3 t p k) * R (ix3 t k n) := by
  obtain ⟨lc, rc, ln, rn, lb, rb, wf⟩ := D
  obtain ⟨h1, h2, h3, h4, h5, h6⟩ := hD
  dsimp only at h1 h2 h3 h4 h5 h6
  subst h1; subst h2; subst h3; subst h4; subst h5; subst h6
  unfold Host.dotGeneral
  rw [Ideal.dotGeneral_apply]
  rw [← Equiv.sum_comp (contrEquiv1 _ K rfl rfl).symm]
  refine Finset.sum_congr rfl fun k _ => ?_
  have hk := contrEquiv1_symm_val (DotDims.mk (sl := ⟨3, ![76, M, K]⟩) (sr := ⟨3, ![76, K, N]⟩) (so := ⟨3, ![76, M, N]⟩) [2] [1] [1] [2] [0] [0] wf) K rfl rfl k
  refine congrArg₂ (· * ·) (congrArg L ?_) (congrArg R ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

/-! ## The reference -/

section Reference

open Cert.Reference2Ideal Cert.Reference2Ideal.Gen

/-- The tokens unpacked into tiles, read at an index. -/
theorem tokens_at (x : S38912x1024.Idx → BitVec 32) (t : Fin 76) (p : Fin 512) (k : Fin 2048) :
    (shapeCast S76x512x2048 (concatenate S38912x2048 1 [⟨S38912x1024, (bitcastToFloat (F := Ideal) .f32 (Host.shli (id x) (broadcastInDim S38912x1024 ![] bcast_S_S38912x1024 (constantI S_ 32 16#32))))⟩,
        ⟨S38912x1024, (bitcastToFloat (F := Ideal) .f32 (andi (id x) (broadcastInDim S38912x1024 ![] bcast_S_S38912x1024 (constantI S_ 32 4294901760#32))))⟩]
        concatenates_S38912x1024_S38912x1024_S38912x2048_d1) shapeCasts_S38912x2048_S76x512x2048 : FVec Ideal S76x512x2048 .f32) (ix3 t p k)
      = tok (at2 (a := 38912) (b := 1024) x) (512 * t.val + p.val) k.val := by
  have hr : 512 * t.val + p.val < 38912 := by omega
  refine (shapeCast_apply _ shapeCasts_S38912x2048_S76x512x2048 (ix3 t p k) (ix2 ⟨512 * t.val + p.val, hr⟩ k) ?_).trans ?_
  · rw [Shape.rowMajor_val_three, Shape.rowMajor_val_two]
    show (512 * t.val + p.val) * 2048 + k.val = (t.val * 512 + p.val) * 2048 + k.val
    omega
  refine (concatenate_pair_apply _ _ _ concatenates_S38912x1024_S38912x1024_S38912x2048_d1 _).trans ?_
  unfold tok
  by_cases hk : k.val < 1024
  · rw [if_pos hk]
    refine (dif_pos hk).trans ?_
    refine Eq.trans (b := Ideal.ofBits .f32 (IntOp.shli .host (x _) 16#32)) rfl ?_
    rw [ValueIdx.shli_host]
    exact congrArg (fun w : BitVec 32 => Ideal.ofBits .f32 (w <<< 16)) (at2_eq (a := 38912) (b := 1024) x _ rfl rfl)
  · rw [if_neg hk]
    refine (dif_neg hk).trans ?_
    exact congrArg (fun w : BitVec 32 => Ideal.ofBits .f32 (w &&& 4294901760#32)) (at2_eq (a := 38912) (b := 1024) x _ rfl rfl)

variable (T0 : S76.Idx → BitVec 32) (hT : ∀ j, (T0 j).toNat < 8)

include hT in
theorem te_small (t : Fin 76) : te T0 t.val < 8 := by
  unfold te
  rw [dif_pos t.isLt]
  exact hT _

/-- The expert of a tile, from the column of start indices. -/
theorem start_at (t : Fin 76) : (broadcastInDim S76x1 ![0] bcast_S76_S76x1_0 T0 (StableHlo.Predicate.ixP t)).toNat = te T0 t.val := by
  rw [StableHlo.Predicate.bcast_col1 bcast_S76_S76x1_0 T0 t]
  unfold te
  rw [dif_pos t.isLt]
  refine congrArg (fun y : S76.Idx => (T0 y).toNat) ?_
  funext a
  rw [Subsingleton.elim a 0]; rfl

include hT in
/-- A first-layer weight of a tile's expert. -/
theorem first_at (W : S8x1024x5632.Idx → BitVec 32) (t : Fin 76) (k : Fin 2048) (n : Fin 5632) :
    (Host.gather gather_S8x2048x5632_S76x1_S76x2048x5632_12_0_n_n_0_1_120485632
      (shapeCast S8x2048x5632 (transpose S8x1024x2x5632 [0, 1, 3, 2] (extf .f32 (bitcastToFloat (F := Ideal) .bf16 (Host.bitcastConvertNarrow S8x1024x5632x2 16 W splits_S8x1024x5632_w32_S8x1024x5632x2_w16)) bitsLt_bf16_f32)
        transposes_S8x1024x5632x2_S8x1024x2x5632_0_1_3_2) shapeCasts_S8x1024x2x5632_S8x2048x5632) (broadcastInDim S76x1 ![0] bcast_S76_S76x1_0 T0) : FVec Ideal S76x2048x5632 .f32) (ix3 t k n)
      = half (at3 (a := 8) (b := 1024) (c := 5632) W (te T0 t.val)) k.val n.val := by
  have hs := start_at T0 t
  refine (gather_mats (B := 2048) (C := 5632) gather_S8x2048x5632_S76x1_S76x2048x5632_12_0_n_n_0_1_120485632 rfl rfl rfl rfl rfl _ _ (ix3 t k n)
    (lt_of_eq_of_lt hs (te_small T0 hT t))).trans ?_
  refine (unpack_at (A := 1024) (C := 5632) (K := 2048) rfl W splits_S8x1024x5632_w32_S8x1024x5632x2_w16 bitsLt_bf16_f32 transposes_S8x1024x5632x2_S8x1024x2x5632_0_1_3_2
    shapeCasts_S8x1024x2x5632_S8x2048x5632 _).trans ?_
  exact congrArg (fun e => half (at3 (a := 8) (b := 1024) (c := 5632) W e) k.val n.val) hs

include hT in
/-- A second-layer weight of a tile's expert. -/
theorem second_at (W : S8x2816x2048.Idx → BitVec 32) (t : Fin 76) (n : Fin 5632) (q : Fin 2048) :
    (Host.gather gather_S8x5632x2048_S76x1_S76x5632x2048_12_0_n_n_0_1_156322048
      (shapeCast S8x5632x2048 (transpose S8x2816x2x2048 [0, 1, 3, 2] (extf .f32 (bitcastToFloat (F := Ideal) .bf16 (Host.bitcastConvertNarrow S8x2816x2048x2 16 W splits_S8x2816x2048_w32_S8x2816x2048x2_w16)) bitsLt_bf16_f32)
        transposes_S8x2816x2048x2_S8x2816x2x2048_0_1_3_2) shapeCasts_S8x2816x2x2048_S8x5632x2048) (broadcastInDim S76x1 ![0] bcast_S76_S76x1_0 T0) : FVec Ideal S76x5632x2048 .f32) (ix3 t n q)
      = half (at3 (a := 8) (b := 2816) (c := 2048) W (te T0 t.val)) n.val q.val := by
  have hs := start_at T0 t
  refine (gather_mats (B := 5632) (C := 2048) gather_S8x5632x2048_S76x1_S76x5632x2048_12_0_n_n_0_1_156322048 rfl rfl rfl rfl rfl _ _ (ix3 t n q)
    (lt_of_eq_of_lt hs (te_small T0 hT t))).trans ?_
  refine (unpack_at (A := 2816) (C := 2048) (K := 5632) rfl W splits_S8x2816x2048_w32_S8x2816x2048x2_w16 bitsLt_bf16_f32 transposes_S8x2816x2048x2_S8x2816x2x2048_0_1_3_2
    shapeCasts_S8x2816x2x2048_S8x5632x2048 _).trans ?_
  exact congrArg (fun e => half (at3 (a := 8) (b := 2816) (c := 2048) W e) n.val q.val) hs

include hT in
/-- A tile's tokens times a column of its expert's weights. -/
theorem layer_at (x : S38912x1024.Idx → BitVec 32) (W : S8x1024x5632.Idx → BitVec 32) (t : Fin 76) (p : Fin 512) (n : Fin 5632) :
    (Host.dotGeneral dot_S76x512x2048_S76x2048x5632_S76x512x5632_2_1_1_2_0_0 none
      (shapeCast S76x512x2048 (concatenate S38912x2048 1 [⟨S38912x1024, (bitcastToFloat (F := Ideal) .f32 (Host.shli (id x) (broadcastInDim S38912x1024 ![] bcast_S_S38912x1024 (constantI S_ 32 16#32))))⟩,
        ⟨S38912x1024, (bitcastToFloat (F := Ideal) .f32 (andi (id x) (broadcastInDim S38912x1024 ![] bcast_S_S38912x1024 (constantI S_ 32 4294901760#32))))⟩]
        concatenates_S38912x1024_S38912x1024_S38912x2048_d1) shapeCasts_S38912x2048_S76x512x2048)
      (Host.gather gather_S8x2048x5632_S76x1_S76x2048x5632_12_0_n_n_0_1_120485632
        (shapeCast S8x2048x5632 (transpose S8x1024x2x5632 [0, 1, 3, 2] (extf .f32 (bitcastToFloat (F := Ideal) .bf16 (Host.bitcastConvertNarrow S8x1024x5632x2 16 W splits_S8x1024x5632_w32_S8x1024x5632x2_w16)) bitsLt_bf16_f32)
          transposes_S8x1024x5632x2_S8x1024x2x5632_0_1_3_2) shapeCasts_S8x1024x2x5632_S8x2048x5632) (broadcastInDim S76x1 ![0] bcast_S76_S76x1_0 T0)) : FVec Ideal S76x512x5632 .f32) (ix3 t p n)
      = dotp (tok (at2 (a := 38912) (b := 1024) x) (512 * t.val + p.val)) (fun k => half (at3 (a := 8) (b := 1024) (c := 5632) W (te T0 t.val)) k n.val) := by
  refine (tiles_dot (M := 512) (K := 2048) (N := 5632) dot_S76x512x2048_S76x2048x5632_S76x512x5632_2_1_1_2_0_0 ⟨rfl, rfl, rfl, rfl, rfl, rfl⟩ _ _ t p n).trans ?_
  unfold dotp
  rw [Finset.sum_range]
  exact Finset.sum_congr rfl fun k _ => congrArg₂ (· * ·) (tokens_at x t p k) (first_at T0 hT W t k n)

end Reference

/-- A rounding to the narrower type is nothing over the extended reals. -/
theorem truncf_at {s : Shape} (x : FVec Ideal s .f32) (h : FTy.bf16.bits < FTy.f32.bits) (i : s.Idx) : truncf (F := Ideal) .bf16 x h i = x i := rfl

/-- The reference's result at a row: every hidden unit's part under the tile's expert. -/
theorem ref_val (m' : (ℓ : Loc Cert.Reference2Ideal.nD Cert.Reference2Ideal.τ Cert.Reference2Ideal.sig) → Buf (Elt Ideal) ℓ) (c : Dev Cert.Reference2Ideal.nD)
    (T0 : Cert.Reference2Ideal.S76.Idx → BitVec 32) (x : Cert.Reference2Ideal.S38912x1024.Idx → BitVec 32) (G U : Cert.Reference2Ideal.S8x1024x5632.Idx → BitVec 32) (D : Cert.Reference2Ideal.S8x2816x2048.Idx → BitVec 32)
    (h0 : m' ((c.tc : Thread Cert.Reference2Ideal.nD Cert.Reference2Ideal.τ).loc Cert.Reference2Ideal.main_arg0) = T0)
    (h2 : m' ((c.tc : Thread Cert.Reference2Ideal.nD Cert.Reference2Ideal.τ).loc Cert.Reference2Ideal.main_arg2) = x)
    (h3 : m' ((c.tc : Thread Cert.Reference2Ideal.nD Cert.Reference2Ideal.τ).loc Cert.Reference2Ideal.main_arg3) = G)
    (h4 : m' ((c.tc : Thread Cert.Reference2Ideal.nD Cert.Reference2Ideal.τ).loc Cert.Reference2Ideal.main_arg4) = U)
    (h5 : m' ((c.tc : Thread Cert.Reference2Ideal.nD Cert.Reference2Ideal.τ).loc Cert.Reference2Ideal.main_arg5) = D)
    (hT : ∀ j, (T0 j).toNat < 8) (i : Cert.Reference2Ideal.S38912x2048.Idx) :
    Cert.Reference2Ideal.Value.res_main_v30 (F := Ideal) m' c i
      = ∑ n ∈ Finset.range 5632, hid (tok (at2 (a := 38912) (b := 1024) x) (i 0).val) (fun k => half (at3 (a := 8) (b := 1024) (c := 5632) G (te T0 ((i 0).val / 512))) k n)
          (fun k => half (at3 (a := 8) (b := 1024) (c := 5632) U (te T0 ((i 0).val / 512))) k n) * half (at3 (a := 8) (b := 2816) (c := 2048) D (te T0 ((i 0).val / 512))) n (i 1).val := by
  have hi : (i 0).val < 38912 := (i 0).isLt
  have ht : (i 0).val / 512 < 76 := by omega
  have hp : (i 0).val % 512 < 512 := Nat.mod_lt _ (by decide)
  unfold Cert.Reference2Ideal.Value.res_main_v30
  rw [h0, h2, h3, h4, h5]
  refine (truncf_at _ _ i).trans ?_
  refine (shapeCast_apply (α := EReal) _ Cert.Reference2Ideal.Gen.shapeCasts_S76x512x2048_S38912x2048 i (ix3 ⟨(i 0).val / 512, ht⟩ ⟨(i 0).val % 512, hp⟩ (i 1)) ?_).trans ?_
  · rw [Shape.rowMajor_val_three, Shape.rowMajor_val_two]
    show ((i 0).val / 512 * 512 + (i 0).val % 512) * 2048 + (i 1).val = (i 0).val * 2048 + (i 1).val
    rw [Nat.div_add_mod']
  refine (tiles_dot (M := 512) (K := 5632) (N := 2048) Cert.Reference2Ideal.dot_S76x512x5632_S76x5632x2048_S76x512x2048_2_1_1_2_0_0 ⟨rfl, rfl, rfl, rfl, rfl, rfl⟩ _ _ _ _ _).trans ?_
  rw [Finset.sum_range]
  refine Finset.sum_congr rfl fun n _ => ?_
  refine congrArg₂ (· * ·) ?_ (second_at T0 hT D ⟨(i 0).val / 512, ht⟩ n (i 1))
  have eg := layer_at T0 hT x G ⟨(i 0).val / 512, ht⟩ ⟨(i 0).val % 512, hp⟩ n
  have eu := layer_at T0 hT x U ⟨(i 0).val / 512, ht⟩ ⟨(i 0).val % 512, hp⟩ n
  have er : 512 * ((i 0).val / 512) + (i 0).val % 512 = (i 0).val := Nat.div_add_mod _ _
  dsimp only at eg eu
  rw [er] at eg eu
  unfold hid
  rw [← eg, ← eu]
  rfl

end Cert.Proof.Experts

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_rows_in_table
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tiles_in_table
public import proofs.«01_k».proof.Proof.Gen.On_active_rows
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Run
public import proofs.«01_k».proof.Proof.Ref
public import proofs.«01_k».proof.Proof.FinBits
public import proofs.«01_k».proof.Proof.FinRef
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Reference5Ideal.Run
public import proofs.«01_k».proof.Proof.DenBits
public import proofs.«01_k».proof.Proof.DenRef
public import proofs.«01_k».proof.Proof.ConvBits
public import proofs.«01_k».proof.Proof.ConvRef
public import proofs.«01_k».proof.Proof.ExpBits
public import proofs.«01_k».proof.Proof.ExpEnd
public import proofs.«01_k».proof.Proof.ExpRef
public import Idealize.ShloMosaic.Adequacy
public import Idealize.ShloMosaic.Init

@[expose] public section

noncomputable section

namespace Cert.Proof

open Idealize.ShloMosaic Idealize.SL.Sem

/-! ## The frames -/

theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (Gather.run_main (F := Ideal) m ρ fun d j => Gather.below_of_pre _ _ _ (hpre d) j)

/-- The printed program is the idealized one's text, so its run is the same run at the other floats. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (Gather.run_main (F := Bits) m ρ fun d j => Gather.below_of_pre _ _ _ (hpre d) j)

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2, sem_eq_zero_of_no_sems (by decide) r.2⟩)
    (Cert.Reference.Value.run (F := Bits) m ρ)

/-! ## The values: both programs end at the rows the index arrays name -/

theorem values_ideal : Cert.algebraic_KernelIdeal_ReferenceIdeal := by
  intro m g m' g' hpre hagree
  have hok : Gather.PreOK (F := Ideal) m := fun d j => Gather.below_of_pre _ _ _ (hpre d) j
  refine ⟨fun c => Gather.OUTa m c, fun c => Gather.OUTb m c,
    (θ_run Cert.KernelIdeal.defs _ _).mono (fun _ h c => ⟨(h.1 c).2.2.2.1, (h.1 c).2.2.2.2, (h.1 c).1, (h.1 c).2.1, (h.1 c).2.2.1⟩)
      (Gather.run_main (F := Ideal) m g hok),
    (θ_run Cert.ReferenceIdeal.defs _ _).mono (fun _ h c => ⟨(h c).1.trans ?_, (h c).2.1.trans ?_, (h c).2.2⟩)
      (Cert.ReferenceIdeal.Value.run (F := Ideal) m' g')⟩
  · rw [(hagree c).1, (hagree c).2.1]; exact Gather.ref_taken _ _ fun j => (hok c j).1
  · rw [(hagree c).1, (hagree c).2.2]; exact Gather.ref_taken _ _ fun j => (hok c j).2

theorem values_bits : Cert.bitexact_Kernel_Reference := by
  intro m g m' g' hpre hagree
  have hok : Gather.PreOK (F := Bits) m := fun d j => Gather.below_of_pre _ _ _ (hpre d) j
  refine ⟨fun c => Gather.OUTa (F := Bits) m c, fun c => Gather.OUTb (F := Bits) m c,
    (θ_run Cert.KernelIdeal.defs _ _).mono (fun _ h c => ⟨(h.1 c).2.2.2.1, (h.1 c).2.2.2.2, (h.1 c).1, (h.1 c).2.1, (h.1 c).2.2.1⟩)
      (Gather.run_main (F := Bits) m g hok),
    (θ_run Cert.Reference.defs _ _).mono (fun _ h c => ⟨(h c).1.trans ?_, (h c).2.1.trans ?_, (h c).2.2⟩)
      (Cert.Reference.Value.run (F := Bits) m' g')⟩
  · rw [(hagree c).1, (hagree c).2.1]; exact Gather.ref_taken _ _ fun j => (hok c j).1
  · rw [(hagree c).1, (hagree c).2.2]; exact Gather.ref_taken _ _ fun j => (hok c j).2

/-! ## The experts' call -/

theorem frame_kernel2Ideal : Cert.quiescent_Kernel2Ideal := fun m ρ hpre =>
  (θ_run Cert.Kernel2Ideal.defs _ _).mono (fun _ h => ⟨fun c => (h.1 c).2, h.2⟩)
    (Experts.run_end (F := Ideal) m ρ (Experts.good_of_pre _ _ _ _ _ _ (hpre 0)))

/-- The printed program is again the idealized one's text. -/
theorem frame_kernel2 : Cert.quiescent_Kernel2 := by
  intro m ρ hpre
  rw [Experts.same_defs, Experts.same_main]
  exact (θ_run Cert.Kernel2Ideal.defs _ _).mono (fun _ h => ⟨fun c => (h.1 c).2, h.2⟩)
    (Experts.run_end (F := Bits) m ρ (Experts.good_of_pre _ _ _ _ _ _ (hpre 0)))

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- On the used rows both programs end at the same sums over the hidden units. -/
theorem values2 : Cert.algebraic_Kernel2Ideal_Reference2Ideal_on_active_rows := by
  intro m g m' g' hpre hagree
  have hg := Experts.good_of_pre _ _ _ _ _ _ (hpre 0)
  refine ⟨fun c => Experts.whole m hg c,
    (θ_run Cert.Kernel2Ideal.defs _ _).mono (fun _ h c => ⟨fun i hi => (h.1 c).1 i ?_, (h.1 c).2⟩) (Experts.run_end (F := Ideal) m g hg),
    (θ_run Cert.Reference2Ideal.defs _ _).mono (fun _ h c => ⟨fun i hi => (congrFun (h c).1 i).trans ?_, (h c).2⟩)
      (Cert.Reference2Ideal.Value.run (F := Ideal) m' g')⟩
  · obtain rfl : c = 0 := Subsingleton.elim _ _
    have hu := Experts.active_lt hg _ _ _ _ i hi
    obtain ⟨h0, _, h2, h3, h4, h5⟩ := hagree 0
    exact (Experts.ref_val m' 0 _ _ _ _ _ h0 h2 h3 h4 h5 hg.te i).trans (Experts.whole_val m hg 0 i hu).symm
  · obtain rfl : c = 0 := Subsingleton.elim _ _
    exact Experts.active_lt hg _ _ _ _ i hi

/-! ## The finish call -/

theorem frame_kernel3Ideal : Cert.quiescent_Kernel3Ideal := fun m ρ _ =>
  (θ_run Cert.Kernel3Ideal.defs _ _).mono (fun _ h => ⟨fun c => (h.1 c).2.2, h.2⟩) (Finish.run_end (F := Ideal) m ρ)

/-- The printed program is again the idealized one's text. -/
theorem frame_kernel3 : Cert.quiescent_Kernel3 := by
  intro m ρ _
  rw [Finish.same_defs, Finish.same_main]
  exact (θ_run Cert.Kernel3Ideal.defs _ _).mono (fun _ h => ⟨fun c => (h.1 c).2.2, h.2⟩) (Finish.run_end (F := Bits) m ρ)

theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both programs end at the same normalised rows, of the prompts and of the samples. -/
theorem values3 : Cert.algebraic_Kernel3Ideal_Reference3Ideal := by
  intro m g m' g' _ hagree
  refine ⟨fun c => Finish.outP m c, fun c => Finish.outS m c,
    (θ_run Cert.Kernel3Ideal.defs _ _).mono (fun _ h c => h.1 c) (Finish.run_end (F := Ideal) m g),
    (θ_run Cert.Reference3Ideal.defs _ _).mono (fun _ h c => ⟨(h c).1.trans (funext fun i => ?_), (h c).2.1.trans (funext fun i => ?_), (h c).2.2⟩)
      (Cert.Reference3Ideal.Value.run (F := Ideal) m' g')⟩
  · obtain ⟨h0, h1, h2, h3, h4, h5, h6, h7⟩ := hagree c
    exact (Finish.ref_prompt m' c _ _ _ _ _ _ _ _ h0 h1 h2 h3 h4 h5 h6 h7 i).trans (Finish.outP_at m c i).symm
  · obtain ⟨h0, h1, h2, h3, h4, h5, h6, h7⟩ := hagree c
    exact (Finish.ref_sample m' c _ _ _ _ _ _ _ _ h0 h1 h2 h3 h4 h5 h6 h7 i).trans (Finish.outS_at m c i).symm

/-! ## The dense feed-forward call -/

theorem frame_kernel4Ideal : Cert.quiescent_Kernel4Ideal := fun m ρ _ =>
  (θ_run Cert.Kernel4Ideal.defs _ _).mono (fun _ h => ⟨fun c => (h.1 c).2.2, h.2⟩) (Dense.run_end (F := Ideal) m ρ)

theorem frame_kernel4 : Cert.quiescent_Kernel4 := by
  intro m ρ _
  rw [Dense.same_defs, Dense.same_main]
  exact (θ_run Cert.Kernel4Ideal.defs _ _).mono (fun _ h => ⟨fun c => (h.1 c).2.2, h.2⟩) (Dense.run_end (F := Bits) m ρ)

theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Both programs end at the same normalised rows, and the same rounded. -/
theorem values4 : Cert.algebraic_Kernel4Ideal_Reference4Ideal := by
  intro m g m' g' _ hagree
  refine ⟨fun c => Dense.outA m c, fun c => Dense.outB m c,
    (θ_run Cert.Kernel4Ideal.defs _ _).mono (fun _ h c => h.1 c) (Dense.run_end (F := Ideal) m g),
    (θ_run Cert.Reference4Ideal.defs _ _).mono (fun _ h c => ⟨(h c).1.trans (funext fun i => ?_), (h c).2.1.trans (funext fun i => ?_), (h c).2.2⟩)
      (Cert.Reference4Ideal.Value.run (F := Ideal) m' g')⟩
  · obtain ⟨h0, h1, h2, h3, h4, h5, h6⟩ := hagree c
    exact (Dense.ref_rows m' c _ _ _ _ _ _ _ h0 h1 h2 h3 h4 h5 h6 i).trans (Dense.outA_at m c i).symm
  · obtain ⟨h0, h1, h2, h3, h4, h5, h6⟩ := hagree c
    exact (Dense.ref_short m' c _ _ _ _ _ _ _ h0 h1 h2 h3 h4 h5 h6 i).trans (Dense.outB_at m c i).symm

/-! ## The convolution mixer -/

theorem frame_kernel5Ideal : Cert.quiescent_Kernel5Ideal := fun m ρ _ =>
  (θ_run Cert.Kernel5Ideal.defs _ _).mono (fun _ h => ⟨fun c => (h.1 c).2.2, h.2⟩) (Conv.run_end (F := Ideal) m ρ)

theorem frame_kernel5 : Cert.quiescent_Kernel5 := by
  intro m ρ _
  rw [Conv.same_defs, Conv.same_main]
  exact (θ_run Cert.Kernel5Ideal.defs _ _).mono (fun _ h => ⟨fun c => (h.1 c).2.2, h.2⟩) (Conv.run_end (F := Bits) m ρ)

theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Both programs end at the same mixed rows and the same kept rows. -/
theorem values5 : Cert.algebraic_Kernel5Ideal_Reference5Ideal := by
  intro m g m' g' _ hagree
  refine ⟨fun c => Conv.outA m c, fun c => Conv.outB m c,
    (θ_run Cert.Kernel5Ideal.defs _ _).mono (fun _ h c => h.1 c) (Conv.run_end (F := Ideal) m g),
    (θ_run Cert.Reference5Ideal.defs _ _).mono (fun _ h c => ⟨(h c).1.trans (funext fun i => ?_), (h c).2.1.trans (funext fun i => ?_), (h c).2.2⟩)
      (Cert.Reference5Ideal.Value.run (F := Ideal) m' g')⟩
  · obtain ⟨h0, h1, h2, h3⟩ := hagree c
    exact (Conv.ref_rows m' c _ _ _ _ h0 h1 h2 h3 i).trans (Conv.outA_at m c i).symm
  · obtain ⟨h0, h1, h2, h3⟩ := hagree c
    refine Eq.trans ?_ (Conv.outB_at m c i).symm
    rw [h0, h1]
    exact Conv.ref_kept _ _ i

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_rows_in_table.Gen.facts, Cert.Pre_tiles_in_table.Gen.facts, Cert.On_active_rows.Gen.facts,
  frame_kernel, frame_kernelIdeal, frame_referenceIdeal, fun m ρ _ => frame_referenceIdeal m ρ trivial, frame_reference,
  frame_kernel2, frame_kernel2Ideal, frame_reference2Ideal, fun m ρ _ => frame_reference2Ideal m ρ trivial,
  frame_kernel3, frame_kernel3Ideal, frame_reference3Ideal,
  frame_kernel4, frame_kernel4Ideal, frame_reference4Ideal,
  frame_kernel5, frame_kernel5Ideal, frame_reference5Ideal,
  trivial, values_ideal, values_bits, trivial, values2, trivial, values3, trivial, values4, trivial, values5⟩

end Cert.Proof

end
